-- ==== Defs.lean ====
def Pre_Kernel [hPre_tables : Cert.Pre_tables.Facts] (m : (ℓ : Loc Cert.Kernel.nD Cert.Kernel.τ Cert.Kernel.sig) → Buf (Elt Bits) ℓ) : Prop :=
  ∀ c : Dev Cert.Kernel.nD,
    (Cert.Pre_tables.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_tables : Cert.Pre_tables.Facts] (m : (ℓ : Loc Cert.KernelIdeal.nD Cert.KernelIdeal.τ Cert.KernelIdeal.sig) → Buf (Elt Ideal) ℓ) : Prop :=
  ∀ c : Dev Cert.KernelIdeal.nD,
    (Cert.Pre_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_tables : Cert.Pre_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] [hPre_tables : Cert.Pre_tables.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_tables : Cert.Pre_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] [hPre_tables : Cert.Pre_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tables : Cert.Pre_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)) (v2 : (c : Dev Cert.Kernel2Ideal.nD) → Buf (Elt Ideal) ((c.tc : Thread Cert.Kernel2Ideal.nD Cert.Kernel2Ideal.τ).loc Cert.Kernel2Ideal.main_v10_2)) (v3 : (c : Dev Cert.Kernel2Ideal.nD) → Buf (Elt Ideal) ((c.tc : Thread Cert.Kernel2Ideal.nD Cert.Kernel2Ideal.τ).loc Cert.Kernel2Ideal.main_v10_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_v10_2) = v2 c
          ∧ r.2.mem ((c.tc : Thread Cert.Kernel2Ideal.nD Cert.Kernel2Ideal.τ).loc Cert.Kernel2Ideal.main_v10_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_v30) = v1 c
          ∧ r.2.mem ((c.tc : Thread Cert.Reference2Ideal.nD Cert.Reference2Ideal.τ).loc Cert.Reference2Ideal.main_v31) = v2 c
          ∧ r.2.mem ((c.tc : Thread Cert.Reference2Ideal.nD Cert.Reference2Ideal.τ).loc Cert.Reference2Ideal.main_v33) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v73) = v0 c
          ∧ r.2.mem ((c.tc : Thread Cert.Reference3Ideal.nD Cert.Reference3Ideal.τ).loc Cert.Reference3Ideal.main_v94) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v73) = v0 c
          ∧ r.2.mem ((c.tc : Thread Cert.Reference5Ideal.nD Cert.Reference5Ideal.τ).loc Cert.Reference5Ideal.main_v75) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_tables : Cert.Pre_tables.Facts),
    quiescent_Kernel (hKernel := hKernel) (hPre_tables := hPre_tables)
    ∧ quiescent_KernelIdeal (hKernelIdeal := hKernelIdeal) (hPre_tables := hPre_tables)
    ∧ quiescent_ReferenceIdeal (hReferenceIdeal := hReferenceIdeal) (hPre_tables := hPre_tables)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal) (hPre_tables := hPre_tables)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_tables.lean ====
abbrev S288 : Shape := ⟨1, ![288]⟩
abbrev S1 : Shape := ⟨1, ![1]⟩
abbrev S147456x1x1024 : Shape := ⟨3, ![147456, 1, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S288 32) (main_arg1 : IVec S288 32) (main_arg2 : IVec S1 32) (main_arg3 : FVec F S147456x1x1024 .f32) (main_arg4 : FVec F S32x1024x2048 .f32) (main_arg5 : FVec F S32x1x2048 .f32) (main_arg6 : FVec F S32x1024x1024 .f32) (main_arg7 : FVec F S32x1x1024 .f32) : IVec S_ 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  let main_c_1 : IVec S_ 1 := constantI S_ 1 1#1
  let main_v5 : IVec S_ 1 := (fun x v => Host.reduce IntOp.andi x v reducesTo_S288_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg2 main_v6
  let main_c_3 : IVec S_ 1 := constantI S_ 1 1#1
  let main_v8 : IVec S_ 1 := (fun x v => Host.reduce IntOp.andi x v reducesTo_S1_S_d0 h_S_) main_v7 main_c_3
  let main_v9 : IVec S_ 1 := andi main_v5 main_v8
  main_v9
-- ==== Kernel.lean ====
abbrev S288 : Shape := ⟨1, ![288]⟩
abbrev S1 : Shape := ⟨1, ![1]⟩
abbrev S147456x1x1024 : Shape := ⟨3, ![147456, 1, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S512x1x1024 : Shape := ⟨3, ![512, 1, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S1x128x2048 : Shape := ⟨3, ![1, 128, 2048]⟩
abbrev S128x2048 : Shape := ⟨2, ![128, 2048]⟩
abbrev S1x128x1024 : Shape := ⟨3, ![1, 128, 1024]⟩
abbrev S128x1024 : Shape := ⟨2, ![128, 1024]⟩
abbrev S512x1024 : Shape := ⟨2, ![512, 1024]⟩
abbrev S1024x512 : Shape := ⟨2, ![1024, 512]⟩
abbrev S512x512 : Shape := ⟨2, ![512, 512]⟩
abbrev S1x1x512 : Shape := ⟨3, ![1, 1, 512]⟩
abbrev S1x512 : Shape := ⟨2, ![1, 512]⟩
abbrev S1x1024 : Shape := ⟨2, ![1, 1024]⟩

abbrev nBuf : Space → Nat
  | .hbm => 6
  | .vmem => 14
  | .smem => 3
  | _ => 0

abbrev bufTy : (tb : Table) → Fin (tcTables nBuf tb) → BufTy
  | .hbm, ⟨0, _⟩ => ⟨S147456x1x1024, .f32⟩
  | .hbm, ⟨1, _⟩ => ⟨S32x1024x2048, .f32⟩
  | .hbm, ⟨2, _⟩ => ⟨S32x1x2048, .f32⟩
  | .hbm, ⟨3, _⟩ => ⟨S32x1024x1024, .f32⟩
  | .hbm, ⟨4, _⟩ => ⟨S32x1x1024, .f32⟩
  | .hbm, ⟨5, _⟩ => ⟨S147456x1x1024, .f32⟩
  | .local _ .vmem, ⟨0, _⟩ => ⟨S512x1x1024, .f32⟩
  | .local _ .vmem, ⟨1, _⟩ => ⟨S512x1x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1x1024, .f32⟩
  | .local _ .vmem, ⟨11, _⟩ => ⟨S512x1x1024, .f32⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S288, .i32⟩
  | .local _ .smem, ⟨2, _⟩ => ⟨S1, .i32⟩
  | _, _ => ⟨S147456x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v2 : BitVec 32 := Scalar.subi arg0 c1_i32
  let c0_i32 : BitVec 32 := 0#32
  let v3 : BitVec 32 := Scalar.maxsi v2 c0_i32
  let v4 : Index := Scalar.indexCast v3
  ![v4.toNat]
@[reducible] def k0_t1_loop : Scf.Loop 32 :=
  let c0_i32_5 : BitVec 32 := 0#32
  let c8_i32 : BitVec 32 := 8#32
  let v19 : BitVec 32 := Scalar.addi c0_i32_5 c8_i32
  let c1_i32_6 : BitVec 32 := 1#32
  ⟨c0_i32_5, v19, c1_i32_6⟩
def k0_mult1 (k0_t1 : Fin k0_t1_loop.trips) : BitVec 32 :=
  let c0_i32_5 : BitVec 32 := 0#32
  let c1_i32_6 : BitVec 32 := 1#32
  let arg12 : BitVec 32 := Scf.iv c0_i32_5 c1_i32_6 k0_t1
  let c128_i32 : BitVec 32 := 128#32
  let v21 : BitVec 32 := Scalar.muli arg12 c128_i32
  v21
def k0_off3 (k0_t1 : Fin k0_t1_loop.trips) : Fin 3 → Nat :=
  let c0_12 : Index := 0#32
  let c0_i32_5 : BitVec 32 := 0#32
  let c1_i32_6 : BitVec 32 := 1#32
  let arg12 : BitVec 32 := Scf.iv c0_i32_5 c1_i32_6 k0_t1
  let c128_i32 : BitVec 32 := 128#32
  let v21 : BitVec 32 := Scalar.muli arg12 c128_i32
  let v22 : BitVec 32 := v21
  let v23 : Index := Scalar.indexCast v22
  let c0_13 : Index := 0#32
  ![0, v23.toNat, 0]
def k0_off4 (k0_t1 : Fin k0_t1_loop.trips) : Fin 2 → Nat :=
  let c0_i32_5 : BitVec 32 := 0#32
  let c1_i32_6 : BitVec 32 := 1#32
  let arg12 : BitVec 32 := Scf.iv c0_i32_5 c1_i32_6 k0_t1
  let c128_i32 : BitVec 32 := 128#32
  let v21 : BitVec 32 := Scalar.muli arg12 c128_i32
  let v22 : BitVec 32 := v21
  let v27 : Index := Scalar.indexCast v22
  let c0_14 : Index := 0#32
  ![v27.toNat, 0]
@[reducible] def k0_t2_loop : Scf.Loop 32 :=
  let c0_i32_8 : BitVec 32 := 0#32
  let c8_i32_9 : BitVec 32 := 8#32
  let v20 : BitVec 32 := Scalar.addi c0_i32_8 c8_i32_9
  let c1_i32_10 : BitVec 32 := 1#32
  ⟨c0_i32_8, v20, c1_i32_10⟩
def k0_mult2 (k0_t2 : Fin k0_t2_loop.trips) : BitVec 32 :=
  let c0_i32_8 : BitVec 32 := 0#32
  let c1_i32_10 : BitVec 32 := 1#32
  let arg12 : BitVec 32 := Scf.iv c0_i32_8 c1_i32_10 k0_t2
  let c128_i32 : BitVec 32 := 128#32
  let v21 : BitVec 32 := Scalar.muli arg12 c128_i32
  v21
def k0_off5 (k0_t2 : Fin k0_t2_loop.trips) : Fin 3 → Nat :=
  let c0_12 : Index := 0#32
  let c0_i32_8 : BitVec 32 := 0#32
  let c1_i32_10 : BitVec 32 := 1#32
  let arg12 : BitVec 32 := Scf.iv c0_i32_8 c1_i32_10 k0_t2
  let c128_i32 : BitVec 32 := 128#32
  let v21 : BitVec 32 := Scalar.muli arg12 c128_i32
  let v22 : BitVec 32 := v21
  let v23 : Index := Scalar.indexCast v22
  let c0_13 : Index := 0#32
  ![0, v23.toNat, 0]
def k0_off6 (k0_t2 : Fin k0_t2_loop.trips) : Fin 2 → Nat :=
  let c0_i32_8 : BitVec 32 := 0#32
  let c1_i32_10 : BitVec 32 := 1#32
  let arg12 : BitVec 32 := Scf.iv c0_i32_8 c1_i32_10 k0_t2
  let c128_i32 : BitVec 32 := 128#32
  let v21 : BitVec 32 := Scalar.muli arg12 c128_i32
  let v22 : BitVec 32 := v21
  let v27 : Index := Scalar.indexCast v22
  let c0_14 : Index := 0#32
  ![v27.toNat, 0]
def k0_off7 (i : grid0.Coords) : Fin 1 → Nat :=
  let arg0 : BitVec 32 := BitVec.ofNat 32 (i 0).val
  let v22 : Index := Scalar.indexCast arg0
  ![v22.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  ![v2.toNat, c0_i32.toNat, c0_i32_0.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S288 : Shape := ⟨1, ![288]⟩
abbrev S1 : Shape := ⟨1, ![1]⟩
abbrev S147456x1x1024 : Shape := ⟨3, ![147456, 1, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S288x512x1 : Shape := ⟨3, ![288, 512, 1]⟩
abbrev S288x1x1 : Shape := ⟨3, ![288, 1, 1]⟩
abbrev S288x512x1024 : Shape := ⟨3, ![288, 512, 1024]⟩
abbrev S_ : Shape := ⟨0, ![]⟩
abbrev S288x1 : Shape := ⟨2, ![288, 1]⟩
abbrev S288x1024x2048 : Shape := ⟨3, ![288, 1024, 2048]⟩
abbrev S288x512x2048 : Shape := ⟨3, ![288, 512, 2048]⟩
abbrev S288x1x2048 : Shape := ⟨3, ![288, 1, 2048]⟩
abbrev S288x1024x1024 : Shape := ⟨3, ![288, 1024, 1024]⟩
abbrev S288x1x1024 : Shape := ⟨3, ![288, 1, 1024]⟩
abbrev S1x1x1 : Shape := ⟨3, ![1, 1, 1]⟩

abbrev nBuf : Space → Nat
  | .hbm => 100
  | .vmem => 0
  | .smem => 0
  | _ => 0

abbrev bufTy : (tb : Table) → Fin (tcTables nBuf tb) → BufTy
  | .hbm, ⟨0, _⟩ => ⟨S288, .i32⟩
  | .hbm, ⟨1, _⟩ => ⟨S288, .i32⟩
  | .hbm, ⟨2, _⟩ => ⟨S1, .i32⟩
  | .hbm, ⟨3, _⟩ => ⟨S147456x1x1024, .f32⟩
  | .hbm, ⟨4, _⟩ => ⟨S32x1024x2048, .f32⟩
  | .hbm, ⟨5, _⟩ => ⟨S32x1x2048, .f32⟩
  | .hbm, ⟨6, _⟩ => ⟨S32x1024x1024, .f32⟩
  | .hbm, ⟨7, _⟩ => ⟨S32x1x1024, .f32⟩
  | .hbm, ⟨8, _⟩ => ⟨S288x512x1, .i32⟩
  | .hbm, ⟨9, _⟩ => ⟨S288x1x1, .i32⟩
  | .hbm, ⟨10, _⟩ => ⟨S288x512x1, .i32⟩
  | .hbm, ⟨11, _⟩ => ⟨S288x512x1, .i1⟩
  | .hbm, ⟨12, _⟩ => ⟨S288x512x1024, .f32⟩
  | .hbm, ⟨13, _⟩ => ⟨S_, .f32⟩
  | .hbm, ⟨14, _⟩ => ⟨S_, .f32⟩
  | .hbm, ⟨15, _⟩ => ⟨S288x512x1024, .i1⟩
  | .hbm, ⟨16, _⟩ => ⟨S288x512x1024, .f32⟩
  | .hbm, ⟨17, _⟩ => ⟨S288x512x1024, .f32⟩
  | .hbm, ⟨18, _⟩ => ⟨S_, .i32⟩
  | .hbm, ⟨19, _⟩ => ⟨S288, .i32⟩
  | .hbm, ⟨20, _⟩ => ⟨S288, .i1⟩
  | .hbm, ⟨21, _⟩ => ⟨S_, .i32⟩
  | .hbm, ⟨22, _⟩ => ⟨S288, .i32⟩
  | .hbm, ⟨23, _⟩ => ⟨S288, .i32⟩
  | .hbm, ⟨24, _⟩ => ⟨S288, .i32⟩
  | .hbm, ⟨25, _⟩ => ⟨S288x1, .i32⟩
  | .hbm, ⟨26, _⟩ => ⟨S288x1024x2048, .f32⟩
  | .hbm, ⟨27, _⟩ => ⟨S288x512x2048, .f32⟩
  | .hbm, ⟨28, _⟩ => ⟨S_, .i32⟩
  | .hbm, ⟨29, _⟩ => ⟨S288, .i32⟩
  | .hbm, ⟨30, _⟩ => ⟨S288, .i1⟩
  | .hbm, ⟨31, _⟩ => ⟨S_, .i32⟩
  | .hbm, ⟨32, _⟩ => ⟨S288, .i32⟩
  | .hbm, ⟨33, _⟩ => ⟨S288, .i32⟩
  | .hbm, ⟨34, _⟩ => ⟨S288, .i32⟩
  | .hbm, ⟨35, _⟩ => ⟨S288x1, .i32⟩
  | .hbm, ⟨36, _⟩ => ⟨S288x1x2048, .f32⟩
  | .hbm, ⟨37, _⟩ => ⟨S288x512x2048, .f32⟩
  | .hbm, ⟨38, _⟩ => ⟨S288x512x2048, .f32⟩
  | .hbm, ⟨39, _⟩ => ⟨S288x512x1024, .f32⟩
  | .hbm, ⟨40, _⟩ => ⟨S_, .f32⟩
  | .hbm, ⟨41, _⟩ => ⟨S288x512x1024, .f32⟩
  | .hbm, ⟨42, _⟩ => ⟨S288x512x1024, .f32⟩
  | .hbm, ⟨43, _⟩ => ⟨S288x512x1024, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S288x512x1024, .f32⟩
  | .hbm, ⟨48, _⟩ => ⟨S288x512x1024, .f32⟩
  | .hbm, ⟨49, _⟩ => ⟨S_, .f32⟩
  | .hbm, ⟨50, _⟩ => ⟨S288x512x1024, .f32⟩
  | .hbm, ⟨51, _⟩ => ⟨S288x512x1024, .f32⟩
  | .hbm, ⟨52, _⟩ => ⟨S_, .f32⟩
  | .hbm, ⟨53, _⟩ => ⟨S288x512x1024, .f32⟩
  | .hbm, ⟨54, _⟩ => ⟨S288x512x1024, .f32⟩
  | .hbm, ⟨55, _⟩ => ⟨S288x512x1024, .f32⟩
  | .hbm, ⟨56, _⟩ => ⟨S288x512x1024, .f32⟩
  | .hbm, ⟨57, _⟩ => ⟨S_, .f32⟩
  | .hbm, ⟨58, _⟩ => ⟨S288x512x1024, .f32⟩
  | .hbm, ⟨59, _⟩ => ⟨S288x512x1024, .f32⟩
  | .hbm, ⟨60, _⟩ => ⟨S_, .f32⟩
  | .hbm, ⟨61, _⟩ => ⟨S288x512x1024, .f32⟩
  | .hbm, ⟨62, _⟩ => ⟨S288x512x1024, .f32⟩
  | .hbm, ⟨63, _⟩ => ⟨S288x512x1024, .f32⟩
  | .hbm, ⟨64, _⟩ => ⟨S_, .f32⟩
  | .hbm, ⟨65, _⟩ => ⟨S288x512x1024, .f32⟩
  | .hbm, ⟨66, _⟩ => ⟨S288x512x1024, .f32⟩
  | .hbm, ⟨67, _⟩ => ⟨S288x512x1024, .f32⟩
  | .hbm, ⟨68, _⟩ => ⟨S_, .i32⟩
  | .hbm, ⟨69, _⟩ => ⟨S288, .i32⟩
  | .hbm, ⟨70, _⟩ => ⟨S288, .i1⟩
  | .hbm, ⟨71, _⟩ => ⟨S_, .i32⟩
  | .hbm, ⟨72, _⟩ => ⟨S288, .i32⟩
  | .hbm, ⟨73, _⟩ => ⟨S288, .i32⟩
  | .hbm, ⟨74, _⟩ => ⟨S288, .i32⟩
  | .hbm, ⟨75, _⟩ => ⟨S288x1, .i32⟩
  | .hbm, ⟨76, _⟩ => ⟨S288x1024x1024, .f32⟩
  | .hbm, ⟨77, _⟩ => ⟨S288x512x1024, .f32⟩
  | .hbm, ⟨78, _⟩ => ⟨S_, .i32⟩
  | .hbm, ⟨79, _⟩ => ⟨S288, .i32⟩
  | .hbm, ⟨80, _⟩ => ⟨S288, .i1⟩
  | .hbm, ⟨81, _⟩ => ⟨S_, .i32⟩
  | .hbm, ⟨82, _⟩ => ⟨S288, .i32⟩
  | .hbm, ⟨83, _⟩ => ⟨S288, .i32⟩
  | .hbm, ⟨84, _⟩ => ⟨S288, .i32⟩
  | .hbm, ⟨85, _⟩ => ⟨S288x1, .i32⟩
  | .hbm, ⟨86, _⟩ => ⟨S288x1x1024, .f32⟩
  | .hbm, ⟨87, _⟩ => ⟨S288x512x1024, .f32⟩
  | .hbm, ⟨88, _⟩ => ⟨S288x512x1024, .f32⟩
  | .hbm, ⟨89, _⟩ => ⟨S288, .i32⟩
  | .hbm, ⟨90, _⟩ => ⟨S288x1x1, .i32⟩
  | .hbm, ⟨91, _⟩ => ⟨S1x1x1, .i32⟩
  | .hbm, ⟨92, _⟩ => ⟨S288x1x1, .i32⟩
  | .hbm, ⟨93, _⟩ => ⟨S288x1x1, .i1⟩
  | .hbm, ⟨94, _⟩ => ⟨S_, .f32⟩
  | .hbm, ⟨95, _⟩ => ⟨S_, .f32⟩
  | .hbm, ⟨96, _⟩ => ⟨S288x512x1024, .i1⟩
  | .hbm, ⟨97, _⟩ => ⟨S288x512x1024, .f32⟩
  | .hbm, ⟨98, _⟩ => ⟨S288x512x1024, .f32⟩
  | .hbm, ⟨99, _⟩ => ⟨S147456x1x1024, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_cst_5 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v27 : Ref sig .tc := ⟨.hbm, 51, rfl⟩
abbrev main_cst_6 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_7 : Ref sig .tc := ⟨.hbm, 57, rfl⟩
abbrev main_v32 : Ref sig .tc := ⟨.hbm, 58, rfl⟩
abbrev main_v33 : Ref sig .tc := ⟨.hbm, 59, rfl⟩
abbrev main_cst_8 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_9 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_c_10 : Ref sig .tc := ⟨.hbm, 68, rfl⟩
abbrev main_v40 : Ref sig .tc := ⟨.hbm, 69, rfl⟩
abbrev main_v41 : Ref sig .tc := ⟨.hbm, 70, rfl⟩
abbrev main_c_11 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_c_12 : Ref sig .tc := ⟨.hbm, 78, rfl⟩
abbrev main_v48 : Ref sig .tc := ⟨.hbm, 79, rfl⟩
abbrev main_v49 : Ref sig .tc := ⟨.hbm, 80, rfl⟩
abbrev main_c_13 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_14 : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_v62 : Ref sig .tc := ⟨.hbm, 98, rfl⟩
abbrev main_v63 : Ref sig .tc := ⟨.hbm, 99, rfl⟩

abbrev nD : Nat := 1
abbrev τ : Topo := Topo.v7x

variable {F : FTy → Type} [FloatOps F]
-- ==== Kernel2.lean ====
abbrev S8x4096x1024 : Shape := ⟨3, ![8, 4096, 1024]⟩
abbrev S1024 : Shape := ⟨1, ![1024]⟩
abbrev S8x1x1024 : Shape := ⟨3, ![8, 1, 1024]⟩
abbrev S1024x5664 : Shape := ⟨2, ![1024, 5664]⟩
abbrev S2x2x8 : Shape := ⟨3, ![2, 2, 8]⟩
abbrev S1024x2048 : Shape := ⟨2, ![1024, 2048]⟩
abbrev S1024x512 : Shape := ⟨2, ![1024, 512]⟩
abbrev S1024x2560 : Shape := ⟨2, ![1024, 2560]⟩
abbrev S1024x32 : Shape := ⟨2, ![1024, 32]⟩
abbrev S32x1024 : Shape := ⟨2, ![32, 1024]⟩
abbrev S32 : Shape := ⟨1, ![32]⟩
abbrev S1x1024 : Shape := ⟨2, ![1, 1024]⟩
abbrev S32x1 : Shape := ⟨2, ![32, 1]⟩
abbrev S8x4x4096x128 : Shape := ⟨4, ![8, 4, 4096, 128]⟩
abbrev S8x32x4096 : Shape := ⟨3, ![8, 32, 4096]⟩
abbrev S1x512x1024 : Shape := ⟨3, ![1, 512, 1024]⟩
abbrev S1x1x1024 : Shape := ⟨3, ![1, 1, 1024]⟩
abbrev S1x4x512x128 : Shape := ⟨4, ![1, 4, 512, 128]⟩
abbrev S1x32x512 : Shape := ⟨3, ![1, 32, 512]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S512x512 : Shape := ⟨2, ![512, 512]⟩
abbrev S512x128 : Shape := ⟨2, ![512, 128]⟩
abbrev S1x1x512x128 : Shape := ⟨4, ![1, 1, 512, 128]⟩
abbrev S32x512 : Shape := ⟨2, ![32, 512]⟩

abbrev nBuf : Space → Nat
  | .hbm => 20
  | .vmem => 18
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x5664, .f32⟩
  | .hbm, ⟨5, _⟩ => ⟨S2x2x8, .f32⟩
  | .hbm, ⟨6, _⟩ => ⟨S1024x2048, .f32⟩
  | .hbm, ⟨7, _⟩ => ⟨S1024x512, .f32⟩
  | .hbm, ⟨8, _⟩ => ⟨S1024x2560, .f32⟩
  | .hbm, ⟨9, _⟩ => ⟨S1024x2560, .bf16⟩
  | .hbm, ⟨10, _⟩ => ⟨S1024x32, .f32⟩
  | .hbm, ⟨11, _⟩ => ⟨S32x1024, .f32⟩
  | .hbm, ⟨12, _⟩ => ⟨S32x1024, .bf16⟩
  | .hbm, ⟨13, _⟩ => ⟨S32, .f32⟩
  | .hbm, ⟨14, _⟩ => ⟨S1x1024, .f32⟩
  | .hbm, ⟨15, _⟩ => ⟨S32x1, .f32⟩
  | .hbm, ⟨16, _⟩ => ⟨S8x4096x1024, .bf16⟩
  | .hbm, ⟨17, _⟩ => ⟨S8x4096x1024, .bf16⟩
  | .hbm, ⟨18, _⟩ => ⟨S8x4x4096x128, .f32⟩
  | .hbm, ⟨19, _⟩ => ⟨S8x32x4096, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2560, .bf16⟩
  | .local _ .vmem, ⟨8, _⟩ => ⟨S32x1024, .bf16⟩
  | .local _ .vmem, ⟨9, _⟩ => ⟨S32x1, .f32⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x4x512x128, .f32⟩
  | .local _ .vmem, ⟨15, _⟩ => ⟨S1x4x512x128, .f32⟩
  | .local _ .vmem, ⟨16, _⟩ => ⟨S1x32x512, .f32⟩
  | .local _ .vmem, ⟨17, _⟩ => ⟨S1x32x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x32x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S8x4096x1024 : Shape := ⟨3, ![8, 4096, 1024]⟩
abbrev S1024 : Shape := ⟨1, ![1024]⟩
abbrev S8x1x1024 : Shape := ⟨3, ![8, 1, 1024]⟩
abbrev S1024x5664 : Shape := ⟨2, ![1024, 5664]⟩
abbrev S2x2x8 : Shape := ⟨3, ![2, 2, 8]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5664 : Shape := ⟨3, ![8, 4096, 5664]⟩
abbrev S8x4096x32 : Shape := ⟨3, ![8, 4096, 32]⟩
abbrev S8x4096x2x2x8 : Shape := ⟨5, ![8, 4096, 2, 2, 8]⟩
abbrev S1x1x2x2x8 : Shape := ⟨5, ![1, 1, 2, 2, 8]⟩
abbrev S8x4096x512 : Shape := ⟨3, ![8, 4096, 512]⟩
abbrev S8x4096x4x128 : Shape := ⟨4, ![8, 4096, 4, 128]⟩
abbrev S8x4x4096x128 : Shape := ⟨4, ![8, 4, 4096, 128]⟩
abbrev S8x32x4096 : Shape := ⟨3, ![8, 32, 4096]⟩

abbrev nBuf : Space → Nat
  | .hbm => 44
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x5664, .f32⟩
  | .hbm, ⟨5, _⟩ => ⟨S2x2x8, .f32⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S_, .f32⟩
  | .hbm, ⟨23, _⟩ => ⟨S8x1x1024, .f32⟩
  | .hbm, ⟨24, _⟩ => ⟨S8x1x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S8x4096x5664, .f32⟩
  | .hbm, ⟨30, _⟩ => ⟨S8x4096x32, .f32⟩
  | .hbm, ⟨31, _⟩ => ⟨S8x4096x2x2x8, .f32⟩
  | .hbm, ⟨32, _⟩ => ⟨S1x1x2x2x8, .f32⟩
  | .hbm, ⟨33, _⟩ => ⟨S8x4096x2x2x8, .f32⟩
  | .hbm, ⟨34, _⟩ => ⟨S8x4096x2x2x8, .f32⟩
  | .hbm, ⟨35, _⟩ => ⟨S8x4096x512, .f32⟩
  | .hbm, ⟨36, _⟩ => ⟨S8x4096x4x128, .f32⟩
  | .hbm, ⟨37, _⟩ => ⟨S8x4096x1024, .f32⟩
  | .hbm, ⟨38, _⟩ => ⟨S8x4096x1024, .bf16⟩
  | .hbm, ⟨39, _⟩ => ⟨S8x4096x1024, .f32⟩
  | .hbm, ⟨40, _⟩ => ⟨S8x4096x1024, .bf16⟩
  | .hbm, ⟨41, _⟩ => ⟨S8x4x4096x128, .f32⟩
  | .hbm, ⟨42, _⟩ => ⟨S8x4096x32, .f32⟩
  | .hbm, ⟨43, _⟩ => ⟨S8x32x4096, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x16x256x1024 : Shape := ⟨4, ![8, 16, 256, 1024]⟩
abbrev S8x6x1024 : Shape := ⟨3, ![8, 6, 1024]⟩
abbrev S1024 : Shape := ⟨1, ![1024]⟩
abbrev S1024x5664 : Shape := ⟨2, ![1024, 5664]⟩
abbrev S1024x1024 : Shape := ⟨2, ![1024, 1024]⟩
abbrev S2048 : Shape := ⟨1, ![2048]⟩
abbrev S1024x32 : Shape := ⟨2, ![1024, 32]⟩
abbrev S32 : Shape := ⟨1, ![32]⟩
abbrev S1024x3072 : Shape := ⟨2, ![1024, 3072]⟩
abbrev S1x1024 : Shape := ⟨2, ![1, 1024]⟩
abbrev S1x2048 : Shape := ⟨2, ![1, 2048]⟩
abbrev S1x32 : Shape := ⟨2, ![1, 32]⟩
abbrev S8x32768 : Shape := ⟨2, ![8, 32768]⟩
abbrev S8x4096x8 : Shape := ⟨3, ![8, 4096, 8]⟩
abbrev S1x512x1024 : Shape := ⟨3, ![1, 512, 1024]⟩
abbrev S1x16x32x1024 : Shape := ⟨4, ![1, 16, 32, 1024]⟩
abbrev S1x6x1024 : Shape := ⟨3, ![1, 6, 1024]⟩
abbrev S8x512 : Shape := ⟨2, ![8, 512]⟩
abbrev S1x512x8 : Shape := ⟨3, ![1, 512, 8]⟩
abbrev S8x512x128 : Shape := ⟨3, ![8, 512, 128]⟩
abbrev S512x1024 : Shape := ⟨2, ![512, 1024]⟩
abbrev S6x1024 : Shape := ⟨2, ![6, 1024]⟩
abbrev S512 : Shape := ⟨1, ![512]⟩
abbrev S512x1 : Shape := ⟨2, ![512, 1]⟩
abbrev S512x3072 : Shape := ⟨2, ![512, 3072]⟩
abbrev S512x128 : Shape := ⟨2, ![512, 128]⟩
abbrev S1x1x32x1024 : Shape := ⟨4, ![1, 1, 32, 1024]⟩
abbrev S32x1024 : Shape := ⟨2, ![32, 1024]⟩
abbrev S32x128 : Shape := ⟨2, ![32, 128]⟩
abbrev S1x32x128 : Shape := ⟨3, ![1, 32, 128]⟩
abbrev S1x512x128 : Shape := ⟨3, ![1, 512, 128]⟩
abbrev S512x2048 : Shape := ⟨2, ![512, 2048]⟩
abbrev S512x32 : Shape := ⟨2, ![512, 32]⟩
abbrev S128x512 : Shape := ⟨2, ![128, 512]⟩
abbrev S512x8 : Shape := ⟨2, ![512, 8]⟩
abbrev S512x512 : Shape := ⟨2, ![512, 512]⟩

abbrev nBuf : Space → Nat
  | .hbm => 30
  | .vmem => 32
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .bf16⟩
  | .hbm, ⟨2, _⟩ => ⟨S8x4096x1024, .bf16⟩
  | .hbm, ⟨3, _⟩ => ⟨S8x16x256x1024, .bf16⟩
  | .hbm, ⟨4, _⟩ => ⟨S8x6x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x5664, .f32⟩
  | .hbm, ⟨9, _⟩ => ⟨S1024x1024, .f32⟩
  | .hbm, ⟨10, _⟩ => ⟨S2048, .f32⟩
  | .hbm, ⟨11, _⟩ => ⟨S1024x1024, .f32⟩
  | .hbm, ⟨12, _⟩ => ⟨S1024x32, .f32⟩
  | .hbm, ⟨13, _⟩ => ⟨S32, .f32⟩
  | .hbm, ⟨14, _⟩ => ⟨S1024x3072, .f32⟩
  | .hbm, ⟨15, _⟩ => ⟨S1024x3072, .bf16⟩
  | .hbm, ⟨16, _⟩ => ⟨S1024x1024, .bf16⟩
  | .hbm, ⟨17, _⟩ => ⟨S1024x1024, .bf16⟩
  | .hbm, ⟨18, _⟩ => ⟨S1024x32, .bf16⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x2048, .f32⟩
  | .hbm, ⟨23, _⟩ => ⟨S1x32, .f32⟩
  | .hbm, ⟨24, _⟩ => ⟨S8x4096x1024, .f32⟩
  | .hbm, ⟨25, _⟩ => ⟨S8x4096x1024, .f32⟩
  | .hbm, ⟨26, _⟩ => ⟨S8x32768, .i32⟩
  | .hbm, ⟨27, _⟩ => ⟨S8x4096x8, .f32⟩
  | .hbm, ⟨28, _⟩ => ⟨S8x32768, .i32⟩
  | .hbm, ⟨29, _⟩ => ⟨S1x32, .i32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x16x32x1024, .bf16⟩
  | .local _ .vmem, ⟨7, _⟩ => ⟨S1x16x32x1024, .bf16⟩
  | .local _ .vmem, ⟨8, _⟩ => ⟨S1x6x1024, .f32⟩
  | .local _ .vmem, ⟨9, _⟩ => ⟨S1x6x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1024x3072, .bf16⟩
  | .local _ .vmem, ⟨14, _⟩ => ⟨S1024x1024, .bf16⟩
  | .local _ .vmem, ⟨15, _⟩ => ⟨S1x2048, .f32⟩
  | .local _ .vmem, ⟨16, _⟩ => ⟨S1024x1024, .bf16⟩
  | .local _ .vmem, ⟨17, _⟩ => ⟨S1024x32, .bf16⟩
  | .local _ .vmem, ⟨18, _⟩ => ⟨S1x32, .f32⟩
  | .local _ .vmem, ⟨19, _⟩ => ⟨S1x512x1024, .f32⟩
  | .local _ .vmem, ⟨20, _⟩ => ⟨S1x512x1024, .f32⟩
  | .local _ .vmem, ⟨21, _⟩ => ⟨S1x512x1024, .f32⟩
  | .local _ .vmem, ⟨22, _⟩ => ⟨S1x512x1024, .f32⟩
  | .local _ .vmem, ⟨23, _⟩ => ⟨S8x512, .i32⟩
  | .local _ .vmem, ⟨24, _⟩ => ⟨S8x512, .i32⟩
  | .local _ .vmem, ⟨25, _⟩ => ⟨S1x512x8, .f32⟩
  | .local _ .vmem, ⟨26, _⟩ => ⟨S1x512x8, .f32⟩
  | .local _ .vmem, ⟨27, _⟩ => ⟨S8x512, .i32⟩
  | .local _ .vmem, ⟨28, _⟩ => ⟨S8x512, .i32⟩
  | .local _ .vmem, ⟨29, _⟩ => ⟨S1x32, .i32⟩
  | .local _ .vmem, ⟨30, _⟩ => ⟨S1x32, .f32⟩
  | .local _ .vmem, ⟨31, _⟩ => ⟨S8x512x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10_0 : Ref sig .tc := ⟨.hbm, 24, rfl⟩
abbrev main_v10_1 : Ref sig .tc := ⟨.hbm, 25, rfl⟩
abbrev main_v10_2 : Ref sig .tc := ⟨.hbm, 26, rfl⟩
abbrev main_v10_3 : Ref sig .tc := ⟨.hbm, 27, rfl⟩
abbrev main_v10_4 : Ref sig .tc := ⟨.hbm, 28, rfl⟩
abbrev main_v10_5 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x32 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S8x512 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x8 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S8x512 .i32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 1 → Memref sig .tc .vmem S1x32 .i32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]
-- ==== Reference3Ideal.lean ====
abbrev S8x4096x1024 : Shape := ⟨3, ![8, 4096, 1024]⟩
abbrev S8x16x256x1024 : Shape := ⟨4, ![8, 16, 256, 1024]⟩
abbrev S8x6x1024 : Shape := ⟨3, ![8, 6, 1024]⟩
abbrev S1024 : Shape := ⟨1, ![1024]⟩
abbrev S1024x5664 : Shape := ⟨2, ![1024, 5664]⟩
abbrev S1024x1024 : Shape := ⟨2, ![1024, 1024]⟩
abbrev S2048 : Shape := ⟨1, ![2048]⟩
abbrev S1024x32 : Shape := ⟨2, ![1024, 32]⟩
abbrev S32 : Shape := ⟨1, ![32]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x4096x5664 : Shape := ⟨3, ![8, 4096, 5664]⟩
abbrev S8x4096x8x128 : Shape := ⟨4, ![8, 4096, 8, 128]⟩
abbrev S8x8x4096x128 : Shape := ⟨4, ![8, 8, 4096, 128]⟩
abbrev S8x8x4096 : Shape := ⟨3, ![8, 8, 4096]⟩
abbrev S8x8x4096x1 : Shape := ⟨4, ![8, 8, 4096, 1]⟩
abbrev S8x256x16x1024 : Shape := ⟨4, ![8, 256, 16, 1024]⟩
abbrev S8x4096x2048 : Shape := ⟨3, ![8, 4096, 2048]⟩
abbrev S1x1x2048 : Shape := ⟨3, ![1, 1, 2048]⟩

abbrev nBuf : Space → Nat
  | .hbm => 124
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .bf16⟩
  | .hbm, ⟨2, _⟩ => ⟨S8x4096x1024, .bf16⟩
  | .hbm, ⟨3, _⟩ => ⟨S8x16x256x1024, .bf16⟩
  | .hbm, ⟨4, _⟩ => ⟨S8x6x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x5664, .f32⟩
  | .hbm, ⟨9, _⟩ => ⟨S1024x1024, .f32⟩
  | .hbm, ⟨10, _⟩ => ⟨S2048, .f32⟩
  | .hbm, ⟨11, _⟩ => ⟨S1024x1024, .f32⟩
  | .hbm, ⟨12, _⟩ => ⟨S1024x32, .f32⟩
  | .hbm, ⟨13, _⟩ => ⟨S32, .f32⟩
  | .hbm, ⟨14, _⟩ => ⟨S8x4096x1024, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x1024, .f32⟩
  | .hbm, ⟨26, _⟩ => ⟨S8x4096x1024, .f32⟩
  | .hbm, ⟨27, _⟩ => ⟨S1x1x1024, .f32⟩
  | .hbm, ⟨28, _⟩ => ⟨S8x4096x1024, .f32⟩
  | .hbm, ⟨29, _⟩ => ⟨S8x4096x1024, .f32⟩
  | .hbm, ⟨30, _⟩ => ⟨S8x1x1024, .f32⟩
  | .hbm, ⟨31, _⟩ => ⟨S_, .f32⟩
  | .hbm, ⟨32, _⟩ => ⟨S8x1x1024, .f32⟩
  | .hbm, ⟨33, _⟩ => ⟨S8x1x1024, .f32⟩
  | .hbm, ⟨34, _⟩ => ⟨S8x4096x1024, .f32⟩
  | .hbm, ⟨35, _⟩ => ⟨S8x4096x1024, .f32⟩
  | .hbm, ⟨36, _⟩ => ⟨S8x1x1024, .f32⟩
  | .hbm, ⟨37, _⟩ => ⟨S8x4096x1024, .f32⟩
  | .hbm, ⟨38, _⟩ => ⟨S8x4096x1024, .f32⟩
  | .hbm, ⟨39, _⟩ => ⟨S8x4096x5664, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S8x4096x8x128, .f32⟩
  | .hbm, ⟨44, _⟩ => ⟨S8x8x4096x128, .f32⟩
  | .hbm, ⟨45, _⟩ => ⟨S8x8x4096x128, .f32⟩
  | .hbm, ⟨46, _⟩ => ⟨S_, .f32⟩
  | .hbm, ⟨47, _⟩ => ⟨S8x8x4096, .f32⟩
  | .hbm, ⟨48, _⟩ => ⟨S8x8x4096x1, .f32⟩
  | .hbm, ⟨49, _⟩ => ⟨S_, .f32⟩
  | .hbm, ⟨50, _⟩ => ⟨S8x8x4096x1, .f32⟩
  | .hbm, ⟨51, _⟩ => ⟨S8x8x4096x1, .f32⟩
  | .hbm, ⟨52, _⟩ => ⟨S_, .f32⟩
  | .hbm, ⟨53, _⟩ => ⟨S8x8x4096x1, .f32⟩
  | .hbm, ⟨54, _⟩ => ⟨S8x8x4096x1, .f32⟩
  | .hbm, ⟨55, _⟩ => ⟨S8x8x4096x1, .f32⟩
  | .hbm, ⟨56, _⟩ => ⟨S8x8x4096x128, .f32⟩
  | .hbm, ⟨57, _⟩ => ⟨S8x8x4096x128, .f32⟩
  | .hbm, ⟨58, _⟩ => ⟨S8x4096x8x128, .f32⟩
  | .hbm, ⟨59, _⟩ => ⟨S8x4096x1024, .f32⟩
  | .hbm, ⟨60, _⟩ => ⟨S1x1x1024, .f32⟩
  | .hbm, ⟨61, _⟩ => ⟨S8x4096x1024, .f32⟩
  | .hbm, ⟨62, _⟩ => ⟨S8x4096x1024, .f32⟩
  | .hbm, ⟨63, _⟩ => ⟨S8x4096x1024, .f32⟩
  | .hbm, ⟨64, _⟩ => ⟨S8x4096x1024, .f32⟩
  | .hbm, ⟨65, _⟩ => ⟨S8x4096x1024, .f32⟩
  | .hbm, ⟨66, _⟩ => ⟨S_, .f32⟩
  | .hbm, ⟨67, _⟩ => ⟨S8x4096x1024, .f32⟩
  | .hbm, ⟨68, _⟩ => ⟨S8x4096x1024, .f32⟩
  | .hbm, ⟨69, _⟩ => ⟨S_, .f32⟩
  | .hbm, ⟨70, _⟩ => ⟨S8x4096x1024, .f32⟩
  | .hbm, ⟨71, _⟩ => ⟨S8x4096x1024, .f32⟩
  | .hbm, ⟨72, _⟩ => ⟨S8x4096x1024, .f32⟩
  | .hbm, ⟨73, _⟩ => ⟨S8x4096x1024, .f32⟩
  | .hbm, ⟨74, _⟩ => ⟨S8x16x256x1024, .f32⟩
  | .hbm, ⟨75, _⟩ => ⟨S8x256x16x1024, .f32⟩
  | .hbm, ⟨76, _⟩ => ⟨S8x4096x1024, .f32⟩
  | .hbm, ⟨77, _⟩ => ⟨S8x4096x2048, .f32⟩
  | .hbm, ⟨78, _⟩ => ⟨S1x1x2048, .f32⟩
  | .hbm, ⟨79, _⟩ => ⟨S8x4096x2048, .f32⟩
  | .hbm, ⟨80, _⟩ => ⟨S8x4096x2048, .f32⟩
  | .hbm, ⟨81, _⟩ => ⟨S8x4096x2048, .f32⟩
  | .hbm, ⟨82, _⟩ => ⟨S8x4096x2048, .f32⟩
  | .hbm, ⟨83, _⟩ => ⟨S_, .f32⟩
  | .hbm, ⟨84, _⟩ => ⟨S8x4096x2048, .f32⟩
  | .hbm, ⟨85, _⟩ => ⟨S8x4096x2048, .f32⟩
  | .hbm, ⟨86, _⟩ => ⟨S_, .f32⟩
  | .hbm, ⟨87, _⟩ => ⟨S8x4096x2048, .f32⟩
  | .hbm, ⟨88, _⟩ => ⟨S8x4096x2048, .f32⟩
  | .hbm, ⟨89, _⟩ => ⟨S8x4096x1024, .f32⟩
  | .hbm, ⟨90, _⟩ => ⟨S8x4096x1024, .f32⟩
  | .hbm, ⟨91, _⟩ => ⟨S8x4096x1024, .f32⟩
  | .hbm, ⟨92, _⟩ => ⟨S8x4096x1024, .f32⟩
  | .hbm, ⟨93, _⟩ => ⟨S8x4096x1024, .f32⟩
  | .hbm, ⟨94, _⟩ => ⟨S8x1x1024, .f32⟩
  | .hbm, ⟨95, _⟩ => ⟨S8x4096x1024, .f32⟩
  | .hbm, ⟨96, _⟩ => ⟨S8x4096x1024, .f32⟩
  | .hbm, ⟨97, _⟩ => ⟨S8x4096x1024, .f32⟩
  | .hbm, ⟨98, _⟩ => ⟨S8x4096x1024, .f32⟩
  | .hbm, ⟨99, _⟩ => ⟨S8x4096x1024, .f32⟩
  | .hbm, ⟨100, _⟩ => ⟨S_, .f32⟩
  | .hbm, ⟨101, _⟩ => ⟨S8x4096, .f32⟩
  | .hbm, ⟨102, _⟩ => ⟨S8x4096x1, .f32⟩
  | .hbm, ⟨103, _⟩ => ⟨S_, .f32⟩
  | .hbm, ⟨104, _⟩ => ⟨S8x4096x1, .f32⟩
  | .hbm, ⟨105, _⟩ => ⟨S8x4096x1, .f32⟩
  | .hbm, ⟨106, _⟩ => ⟨S_, .f32⟩
  | .hbm, ⟨107, _⟩ => ⟨S8x4096x1, .f32⟩
  | .hbm, ⟨108, _⟩ => ⟨S8x4096x1, .f32⟩
  | .hbm, ⟨109, _⟩ => ⟨S8x4096x1, .f32⟩
  | .hbm, ⟨110, _⟩ => ⟨S8x4096x1024, .f32⟩
  | .hbm, ⟨111, _⟩ => ⟨S8x4096x1024, .f32⟩
  | .hbm, ⟨112, _⟩ => ⟨S1x1x1024, .f32⟩
  | .hbm, ⟨113, _⟩ => ⟨S8x4096x1024, .f32⟩
  | .hbm, ⟨114, _⟩ => ⟨S8x4096x1024, .f32⟩
  | .hbm, ⟨115, _⟩ => ⟨S8x1x1024, .f32⟩
  | .hbm, ⟨116, _⟩ => ⟨S_, .f32⟩
  | .hbm, ⟨117, _⟩ => ⟨S8x1x1024, .f32⟩
  | .hbm, ⟨118, _⟩ => ⟨S8x1x1024, .f32⟩
  | .hbm, ⟨119, _⟩ => ⟨S8x4096x1024, .f32⟩
  | .hbm, ⟨120, _⟩ => ⟨S8x4096x1024, .f32⟩
  | .hbm, ⟨121, _⟩ => ⟨S8x1x1024, .f32⟩
  | .hbm, ⟨122, _⟩ => ⟨S8x4096x1024, .f32⟩
  | .hbm, ⟨123, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_6 : Ref sig .tc := ⟨.hbm, 66, rfl⟩
abbrev main_v45 : Ref sig .tc := ⟨.hbm, 67, rfl⟩
abbrev main_v46 : Ref sig .tc := ⟨.hbm, 68, rfl⟩
abbrev main_cst_7 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_8 : Ref sig .tc := ⟨.hbm, 83, rfl⟩
abbrev main_v60 : Ref sig .tc := ⟨.hbm, 84, rfl⟩
abbrev main_v61 : Ref sig .tc := ⟨.hbm, 85, rfl⟩
abbrev main_cst_9 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_10 : Ref sig .tc := ⟨.hbm, 100, rfl⟩
abbrev main_v75 : Ref sig .tc := ⟨.hbm, 101, rfl⟩
abbrev main_v76 : Ref sig .tc := ⟨.hbm, 102, rfl⟩
abbrev main_cst_11 : Ref sig .tc := ⟨.hbm, 103, rfl⟩
abbrev main_v77 : Ref sig .tc := ⟨.hbm, 104, rfl⟩
abbrev main_v78 : Ref sig .tc := ⟨.hbm, 105, rfl⟩
abbrev main_cst_12 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_13 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩

abbrev nD : Nat := 1
abbrev τ : Topo := Topo.v7x

variable {F : FTy → Type} [FloatOps F]
-- ==== Kernel4.lean ====
abbrev S8x1024 : Shape := ⟨2, ![8, 1024]⟩
abbrev S1024 : Shape := ⟨1, ![1024]⟩
abbrev S1024x6144 : Shape := ⟨2, ![1024, 6144]⟩
abbrev S6144 : Shape := ⟨1, ![6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S1x6144 : Shape := ⟨2, ![1, 6144]⟩
abbrev S16x6144 : Shape := ⟨2, ![16, 6144]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S1x6144, .f32⟩
  | .hbm, ⟨9, _⟩ => ⟨S16x6144, .f32⟩
  | .local _ .vmem, ⟨0, _⟩ => ⟨S16x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S8x1024 : Shape := ⟨2, ![8, 1024]⟩
abbrev S1024 : Shape := ⟨1, ![1024]⟩
abbrev S1024x6144 : Shape := ⟨2, ![1024, 6144]⟩
abbrev S6144 : Shape := ⟨1, ![6144]⟩
abbrev S_ : Shape := ⟨0, ![]⟩
abbrev S8x6144 : Shape := ⟨2, ![8, 6144]⟩
abbrev S1x6144 : Shape := ⟨2, ![1, 6144]⟩
abbrev S7x6144 : Shape := ⟨2, ![7, 6144]⟩
abbrev S16x6144 : Shape := ⟨2, ![16, 6144]⟩

abbrev nBuf : Space → Nat
  | .hbm => 31
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x6144, .f32⟩
  | .hbm, ⟨14, _⟩ => ⟨S1x6144, .f32⟩
  | .hbm, ⟨15, _⟩ => ⟨S8x6144, .f32⟩
  | .hbm, ⟨16, _⟩ => ⟨S8x6144, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S6144, .f32⟩
  | .hbm, ⟨27, _⟩ => ⟨S6144, .f32⟩
  | .hbm, ⟨28, _⟩ => ⟨S7x6144, .f32⟩
  | .hbm, ⟨29, _⟩ => ⟨S1x6144, .f32⟩
  | .hbm, ⟨30, _⟩ => ⟨S16x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_call1_v5 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩

abbrev nD : Nat := 1
abbrev τ : Topo := Topo.v7x

variable {F : FTy → Type} [FloatOps F]
-- ==== Kernel5.lean ====
abbrev S8x4096x1024 : Shape := ⟨3, ![8, 4096, 1024]⟩
abbrev S3x3x1024 : Shape := ⟨3, ![3, 3, 1024]⟩
abbrev S9x1024 : Shape := ⟨2, ![9, 1024]⟩
abbrev S8x4096x512 : Shape := ⟨3, ![8, 4096, 512]⟩
abbrev S8x512x4096 : Shape := ⟨3, ![8, 512, 4096]⟩
abbrev S1x1024x512 : Shape := ⟨3, ![1, 1024, 512]⟩
abbrev S1x64x512 : Shape := ⟨3, ![1, 64, 512]⟩
abbrev S9x512 : Shape := ⟨2, ![9, 512]⟩
abbrev S1x512x1024 : Shape := ⟨3, ![1, 512, 1024]⟩
abbrev S1024x512 : Shape := ⟨2, ![1024, 512]⟩
abbrev S64x512 : Shape := ⟨2, ![64, 512]⟩
abbrev S1152x512 : Shape := ⟨2, ![1152, 512]⟩
abbrev S1024x1 : Shape := ⟨2, ![1024, 1]⟩
abbrev S1x512 : Shape := ⟨2, ![1, 512]⟩
abbrev S512x1024 : Shape := ⟨2, ![512, 1024]⟩

abbrev nBuf : Space → Nat
  | .hbm => 5
  | .vmem => 12
  | .smem => 0
  | _ => 0

abbrev bufTy : (tb : Table) → Fin (tcTables nBuf tb) → BufTy
  | .hbm, ⟨0, _⟩ => ⟨S8x4096x1024, .bf16⟩
  | .hbm, ⟨1, _⟩ => ⟨S3x3x1024, .f32⟩
  | .hbm, ⟨2, _⟩ => ⟨S9x1024, .f32⟩
  | .hbm, ⟨3, _⟩ => ⟨S8x4096x512, .bf16⟩
  | .hbm, ⟨4, _⟩ => ⟨S8x512x4096, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x64x512, .bf16⟩
  | .local _ .vmem, ⟨3, _⟩ => ⟨S1x64x512, .bf16⟩
  | .local _ .vmem, ⟨4, _⟩ => ⟨S1x64x512, .bf16⟩
  | .local _ .vmem, ⟨5, _⟩ => ⟨S1x64x512, .bf16⟩
  | .local _ .vmem, ⟨6, _⟩ => ⟨S9x512, .f32⟩
  | .local _ .vmem, ⟨7, _⟩ => ⟨S9x512, .f32⟩
  | .local _ .vmem, ⟨8, _⟩ => ⟨S1x1024x512, .bf16⟩
  | .local _ .vmem, ⟨9, _⟩ => ⟨S1x1024x512, .bf16⟩
  | .local _ .vmem, ⟨10, _⟩ => ⟨S1x512x1024, .bf16⟩
  | .local _ .vmem, ⟨11, _⟩ => ⟨S1x512x1024, .bf16⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 2], ![false, false, false]⟩

def k0_cond1 (i : grid0.Coords) : BitVec 1 :=
  let arg2 : BitVec 32 := BitVec.ofNat 32 (i 2).val
  let c0_i32_27 : BitVec 32 := 0#32
  let v102 : BitVec 1 := Scalar.cmpi .eq arg2 c0_i32_27
  let v103 : BitVec 32 := Scalar.extui v102
  let c0_i32_28 : BitVec 32 := 0#32
  let v104 : BitVec 1 := Scalar.cmpi .ne v103 c0_i32_28
  v104

def k0_cond2 (i : grid0.Coords) : BitVec 1 :=
  let arg2 : BitVec 32 := BitVec.ofNat 32 (i 2).val
  let c1_i32_29 : BitVec 32 := 1#32
  let v105 : BitVec 1 := Scalar.cmpi .eq arg2 c1_i32_29
  let v106 : BitVec 32 := Scalar.extui v105
  let c0_i32_30 : BitVec 32 := 0#32
  let v107 : BitVec 1 := Scalar.cmpi .ne v106 c0_i32_30
  v107

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg0.toNat, v2.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c16_i32 : BitVec 32 := 16#32
  let v1 : BitVec 32 := Scalar.muli v0 c16_i32
  let c63_i32 : BitVec 32 := 63#32
  let v2 : BitVec 32 := Scalar.minsi v1 c63_i32
  let c0_i32 : BitVec 32 := 0#32
  ![arg0.toNat, v2.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S9x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference5Ideal.lean ====
abbrev S8x4096x1024 : Shape := ⟨3, ![8, 4096, 1024]⟩
abbrev S3x3x1024 : Shape := ⟨3, ![3, 3, 1024]⟩
abbrev S8x64x64x1024 : Shape := ⟨4, ![8, 64, 64, 1024]⟩
abbrev S_ : Shape := ⟨0, ![]⟩
abbrev S8x66x66x1024 : Shape := ⟨4, ![8, 66, 66, 1024]⟩
abbrev S1x1x1024 : Shape := ⟨3, ![1, 1, 1024]⟩
abbrev S1024 : Shape := ⟨1, ![1024]⟩
abbrev S1x1x1x1024 : Shape := ⟨4, ![1, 1, 1, 1024]⟩
abbrev S8x4096x512 : Shape := ⟨3, ![8, 4096, 512]⟩
abbrev S8x512x4096 : Shape := ⟨3, ![8, 512, 4096]⟩

abbrev nBuf : Space → Nat
  | .hbm => 90
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S3x3x1024, .f32⟩
  | .hbm, ⟨2, _⟩ => ⟨S8x4096x1024, .f32⟩
  | .hbm, ⟨3, _⟩ => ⟨S8x64x64x1024, .f32⟩
  | .hbm, ⟨4, _⟩ => ⟨S_, .i32⟩
  | .hbm, ⟨5, _⟩ => ⟨S_, .f32⟩
  | .hbm, ⟨6, _⟩ => ⟨S8x66x66x1024, .f32⟩
  | .hbm, ⟨7, _⟩ => ⟨S8x64x64x1024, .f32⟩
  | .hbm, ⟨8, _⟩ => ⟨S1x1x1024, .f32⟩
  | .hbm, ⟨9, _⟩ => ⟨S1024, .f32⟩
  | .hbm, ⟨10, _⟩ => ⟨S1x1x1x1024, .f32⟩
  | .hbm, ⟨11, _⟩ => ⟨S8x64x64x1024, .f32⟩
  | .hbm, ⟨12, _⟩ => ⟨S8x64x64x1024, .f32⟩
  | .hbm, ⟨13, _⟩ => ⟨S_, .f32⟩
  | .hbm, ⟨14, _⟩ => ⟨S8x64x64x1024, .f32⟩
  | .hbm, ⟨15, _⟩ => ⟨S8x64x64x1024, .f32⟩
  | .hbm, ⟨16, _⟩ => ⟨S8x64x64x1024, .f32⟩
  | .hbm, ⟨17, _⟩ => ⟨S1x1x1024, .f32⟩
  | .hbm, ⟨18, _⟩ => ⟨S1024, .f32⟩
  | .hbm, ⟨19, _⟩ => ⟨S1x1x1x1024, .f32⟩
  | .hbm, ⟨20, _⟩ => ⟨S8x64x64x1024, .f32⟩
  | .hbm, ⟨21, _⟩ => ⟨S8x64x64x1024, .f32⟩
  | .hbm, ⟨22, _⟩ => ⟨S8x64x64x1024, .f32⟩
  | .hbm, ⟨23, _⟩ => ⟨S8x64x64x1024, .f32⟩
  | .hbm, ⟨24, _⟩ => ⟨S1x1x1024, .f32⟩
  | .hbm, ⟨25, _⟩ => ⟨S1024, .f32⟩
  | .hbm, ⟨26, _⟩ => ⟨S1x1x1x1024, .f32⟩
  | .hbm, ⟨27, _⟩ => ⟨S8x64x64x1024, .f32⟩
  | .hbm, ⟨28, _⟩ => ⟨S8x64x64x1024, .f32⟩
  | .hbm, ⟨29, _⟩ => ⟨S8x64x64x1024, .f32⟩
  | .hbm, ⟨30, _⟩ => ⟨S8x64x64x1024, .f32⟩
  | .hbm, ⟨31, _⟩ => ⟨S1x1x1024, .f32⟩
  | .hbm, ⟨32, _⟩ => ⟨S1024, .f32⟩
  | .hbm, ⟨33, _⟩ => ⟨S1x1x1x1024, .f32⟩
  | .hbm, ⟨34, _⟩ => ⟨S8x64x64x1024, .f32⟩
  | .hbm, ⟨35, _⟩ => ⟨S8x64x64x1024, .f32⟩
  | .hbm, ⟨36, _⟩ => ⟨S8x64x64x1024, .f32⟩
  | .hbm, ⟨37, _⟩ => ⟨S8x64x64x1024, .f32⟩
  | .hbm, ⟨38, _⟩ => ⟨S1x1x1024, .f32⟩
  | .hbm, ⟨39, _⟩ => ⟨S1024, .f32⟩
  | .hbm, ⟨40, _⟩ => ⟨S1x1x1x1024, .f32⟩
  | .hbm, ⟨41, _⟩ => ⟨S8x64x64x1024, .f32⟩
  | .hbm, ⟨42, _⟩ => ⟨S8x64x64x1024, .f32⟩
  | .hbm, ⟨43, _⟩ => ⟨S8x64x64x1024, .f32⟩
  | .hbm, ⟨44, _⟩ => ⟨S8x64x64x1024, .f32⟩
  | .hbm, ⟨45, _⟩ => ⟨S1x1x1024, .f32⟩
  | .hbm, ⟨46, _⟩ => ⟨S1024, .f32⟩
  | .hbm, ⟨47, _⟩ => ⟨S1x1x1x1024, .f32⟩
  | .hbm, ⟨48, _⟩ => ⟨S8x64x64x1024, .f32⟩
  | .hbm, ⟨49, _⟩ => ⟨S8x64x64x1024, .f32⟩
  | .hbm, ⟨50, _⟩ => ⟨S8x64x64x1024, .f32⟩
  | .hbm, ⟨51, _⟩ => ⟨S8x64x64x1024, .f32⟩
  | .hbm, ⟨52, _⟩ => ⟨S1x1x1024, .f32⟩
  | .hbm, ⟨53, _⟩ => ⟨S1024, .f32⟩
  | .hbm, ⟨54, _⟩ => ⟨S1x1x1x1024, .f32⟩
  | .hbm, ⟨55, _⟩ => ⟨S8x64x64x1024, .f32⟩
  | .hbm, ⟨56, _⟩ => ⟨S8x64x64x1024, .f32⟩
  | .hbm, ⟨57, _⟩ => ⟨S8x64x64x1024, .f32⟩
  | .hbm, ⟨58, _⟩ => ⟨S8x64x64x1024, .f32⟩
  | .hbm, ⟨59, _⟩ => ⟨S1x1x1024, .f32⟩
  | .hbm, ⟨60, _⟩ => ⟨S1024, .f32⟩
  | .hbm, ⟨61, _⟩ => ⟨S1x1x1x1024, .f32⟩
  | .hbm, ⟨62, _⟩ => ⟨S8x64x64x1024, .f32⟩
  | .hbm, ⟨63, _⟩ => ⟨S8x64x64x1024, .f32⟩
  | .hbm, ⟨64, _⟩ => ⟨S8x64x64x1024, .f32⟩
  | .hbm, ⟨65, _⟩ => ⟨S8x64x64x1024, .f32⟩
  | .hbm, ⟨66, _⟩ => ⟨S1x1x1024, .f32⟩
  | .hbm, ⟨67, _⟩ => ⟨S1024, .f32⟩
  | .hbm, ⟨68, _⟩ => ⟨S1x1x1x1024, .f32⟩
  | .hbm, ⟨69, _⟩ => ⟨S8x64x64x1024, .f32⟩
  | .hbm, ⟨70, _⟩ => ⟨S8x64x64x1024, .f32⟩
  | .hbm, ⟨71, _⟩ => ⟨S8x64x64x1024, .f32⟩
  | .hbm, ⟨72, _⟩ => ⟨S8x4096x1024, .f32⟩
  | .hbm, ⟨73, _⟩ => ⟨S8x4096x1024, .f32⟩
  | .hbm, ⟨74, _⟩ => ⟨S8x4096x1024, .f32⟩
  | .hbm, ⟨75, _⟩ => ⟨S_, .f32⟩
  | .hbm, ⟨76, _⟩ => ⟨S8x4096x1024, .f32⟩
  | .hbm, ⟨77, _⟩ => ⟨S8x4096x1024, .f32⟩
  | .hbm, ⟨78, _⟩ => ⟨S_, .f32⟩
  | .hbm, ⟨79, _⟩ => ⟨S8x4096x1024, .f32⟩
  | .hbm, ⟨80, _⟩ => ⟨S8x4096x1024, .f32⟩
  | .hbm, ⟨81, _⟩ => ⟨S8x4096x1024, .f32⟩
  | .hbm, ⟨82, _⟩ => ⟨S8x4096x512, .f32⟩
  | .hbm, ⟨83, _⟩ => ⟨S_, .f32⟩
  | .hbm, ⟨84, _⟩ => ⟨S8x4096x512, .f32⟩
  | .hbm, ⟨85, _⟩ => ⟨S8x4096x512, .f32⟩
  | .hbm, ⟨86, _⟩ => ⟨S8x4096x512, .f32⟩
  | .hbm, ⟨87, _⟩ => ⟨S8x4096x512, .bf16⟩
  | .hbm, ⟨88, _⟩ => ⟨S8x512x4096, .f32⟩
  | .hbm, ⟨89, _⟩ => ⟨S8x512x4096, .bf16⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_call1_v0 : Ref sig .tc := ⟨.hbm, 73, rfl⟩
abbrev main_call1_v1 : Ref sig .tc := ⟨.hbm, 74, rfl⟩
abbrev main_call1_cst : Ref sig .tc := ⟨.hbm, 75, rfl⟩
abbrev main_call1_v2 : Ref sig .tc := ⟨.hbm, 76, rfl⟩
abbrev main_call1_v3 : Ref sig .tc := ⟨.hbm, 77, rfl⟩
abbrev main_call1_cst_0 : Ref sig .tc := ⟨.hbm, 78, rfl⟩
abbrev main_call1_v4 : Ref sig .tc := ⟨.hbm, 79, rfl⟩
abbrev main_call1_v5 : Ref sig .tc := ⟨.hbm, 80, rfl⟩
abbrev main_v68 : Ref sig .tc := ⟨.hbm, 81, rfl⟩
abbrev main_v69 : Ref sig .tc := ⟨.hbm, 82, rfl⟩
abbrev main_cst_0 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩

abbrev nD : Nat := 1
abbrev τ : Topo := Topo.v7x

variable {F : FTy → Type} [FloatOps F]
-- ==== Kernel6.lean ====
abbrev S32 : Shape := ⟨1, ![32]⟩
abbrev S8x32768 : Shape := ⟨2, ![8, 32768]⟩
abbrev S8x8192 : Shape := ⟨2, ![8, 8192]⟩
abbrev S1 : Shape := ⟨1, ![1]⟩

abbrev nBuf : Space → Nat
  | .hbm => 3
  | .vmem => 6
  | .smem => 1
  | _ => 0

abbrev bufTy : (tb : Table) → Fin (tcTables nBuf tb) → BufTy
  | .hbm, ⟨0, _⟩ => ⟨S8x32768, .i32⟩
  | .hbm, ⟨1, _⟩ => ⟨S8x32768, .i32⟩
  | .hbm, ⟨2, _⟩ => ⟨S8x32768, .i32⟩
  | .local _ .vmem, ⟨0, _⟩ => ⟨S8x8192, .i32⟩
  | .local _ .vmem, ⟨1, _⟩ => ⟨S8x8192, .i32⟩
  | .local _ .vmem, ⟨2, _⟩ => ⟨S8x8192, .i32⟩
  | .local _ .vmem, ⟨3, _⟩ => ⟨S8x8192, .i32⟩
  | .local _ .vmem, ⟨4, _⟩ => ⟨S8x8192, .i32⟩
  | .local _ .vmem, ⟨5, _⟩ => ⟨S8x8192, .i32⟩
  | .local _ .smem, ⟨0, _⟩ => ⟨S32, .i32⟩
  | _, _ => ⟨S8x32768, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x8192 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x8192 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S32 : Shape := ⟨1, ![32]⟩
abbrev S8x32768 : Shape := ⟨2, ![8, 32768]⟩
abbrev S1x8x32768 : Shape := ⟨3, ![1, 8, 32768]⟩
abbrev S32x1x1 : Shape := ⟨3, ![32, 1, 1]⟩
abbrev S32x8x32768 : Shape := ⟨3, ![32, 8, 32768]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S32, .i32⟩
  | .hbm, ⟨1, _⟩ => ⟨S8x32768, .i32⟩
  | .hbm, ⟨2, _⟩ => ⟨S8x32768, .i32⟩
  | .hbm, ⟨3, _⟩ => ⟨S1x8x32768, .i32⟩
  | .hbm, ⟨4, _⟩ => ⟨S32, .i32⟩
  | .hbm, ⟨5, _⟩ => ⟨S32x1x1, .i32⟩
  | .hbm, ⟨6, _⟩ => ⟨S32x8x32768, .i32⟩
  | .hbm, ⟨7, _⟩ => ⟨S32x8x32768, .i32⟩
  | .hbm, ⟨8, _⟩ => ⟨S32x8x32768, .i1⟩
  | .hbm, ⟨9, _⟩ => ⟨S32x1x1, .i32⟩
  | .hbm, ⟨10, _⟩ => ⟨S_, .i32⟩
  | .hbm, ⟨11, _⟩ => ⟨S_, .i32⟩
  | .hbm, ⟨12, _⟩ => ⟨S32x8x32768, .i32⟩
  | .hbm, ⟨13, _⟩ => ⟨S32x8x32768, .i32⟩
  | .hbm, ⟨14, _⟩ => ⟨S32x8x32768, .i32⟩
  | .hbm, ⟨15, _⟩ => ⟨S_, .i32⟩
  | .hbm, ⟨16, _⟩ => ⟨S8x32768, .i32⟩
  | .hbm, ⟨17, _⟩ => ⟨S8x32768, .i32⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩

abbrev nD : Nat := 1
abbrev τ : Topo := Topo.v7x

variable {F : FTy → Type} [FloatOps F]
-- ==== Proof.KernelIdeal.Body.lean ====
/- The expert kernel's body, run once at a generic grid point.

   A point casts its expert's two weight matrices into the two scratches when it is the first or its expert is not the
   point before's; then, its tile being in use, it computes the tile from the scratches and, its tile not being in use,
   stores zeros. `body_run` is the body's triple for all four ways the control goes: the scratches end at `nextIn`,
   `nextOut`, the output block at `tileNext`. -/
module

public import proofs.«01_k».proof.Defs
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.VecWindow
public import Idealize.ShloMosaic.Lib.ValueLayout
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

local notation "𝔽" => Idealize.ShloMosaic.Ideal
local notation "𝕄" => MT nD τ sig Unit (Elt 𝔽) ℕ (UR sig nD τ) ℕ

/-- The three tables and the two scratches, whole. -/
abbrev tE : Memref sig .tc .smem S288 .i32 := Memref.whole main_arg0
abbrev tL : Memref sig .tc .smem S288 .i32 := Memref.whole main_arg1
abbrev tN : Memref sig .tc .smem S1 .i32 := Memref.whole main_arg2
abbrev sIn : Memref sig .tc .vmem S1024x2048 .bf16 := Memref.whole cc0_scratch0
abbrev sOut : Memref sig .tc .vmem S1024x1024 .bf16 := Memref.whole cc0_scratch1

/-- The word of a 288-word table at the place the body loads it from. -/
abbrev wordAt (T : S288.Idx → Elt 𝔽 .i32) (off : Fin 1 → ℕ) (h : ∀ a, off a + S1.size a ≤ S288.size a) : BitVec 32 :=
  View.readAt (Elt 𝔽) tE.view (Rect.unit (s := S288) off S1.size h).toLoadRect T (Shape.Idx.first (numel1_S1.symm ▸ Nat.one_pos))

/-- The number of tiles in use, as the body loads it. -/
abbrev wordN (T : S1.Idx → Elt 𝔽 .i32) : BitVec 32 :=
  View.readAt (Elt 𝔽) tN.view (Rect.unit (s := S1) ![0] S1.size inb_S1_S1_0).toLoadRect T (Shape.Idx.first (numel1_S1.symm ▸ Nat.one_pos))

/-- The tile's number of live rows, as the body loads it. -/
abbrev wordL (T : S288.Idx → Elt 𝔽 .i32) (i : grid0.Coords) : BitVec 32 :=
  View.readAt (Elt 𝔽) tL.view (Rect.unit (s := S288) (k0_off7 i) S1.size (k0_off7_inb i)).toLoadRect T (Shape.Idx.first (numel1_S1.symm ▸ Nat.one_pos))

/-- Point `i` casts its expert's weights: it is the first point, or its expert is not the point before's. -/
abbrev Casts (i : grid0.Coords) (T : S288.Idx → Elt 𝔽 .i32) : Prop :=
  (Scalar.cmpi .ne (Scalar.extui (Scalar.ori (Scalar.cmpi .eq (BitVec.ofNat 32 (i 0).val) 0#32)
    (Scalar.cmpi .ne (wordAt T (k0_off1 i) (k0_off1_inb i)) (wordAt T (k0_off2 i) (k0_off2_inb i))))) 0#32) = 1#1

/-- An expert's input weights, cast: a matrix. -/
def castIn (x : S1x1024x2048.Idx → Elt 𝔽 .f32) : S1024x2048.Idx → Elt 𝔽 .bf16 :=
  fun y => (FloatOps.truncf (F := 𝔽) (φ := .f32) .bf16 bitsLt_bf16_f32 (x (ix3 (0 : Fin 1) (y 0) (y 1))) : 𝔽 .bf16)

/-- An expert's output weights, cast: a matrix. -/
def castOut (x : S1x1024x1024.Idx → Elt 𝔽 .f32) : S1024x1024.Idx → Elt 𝔽 .bf16 :=
  fun y => (FloatOps.truncf (F := 𝔽) (φ := .f32) .bf16 bitsLt_bf16_f32 (x (ix3 (0 : Fin 1) (y 0) (y 1))) : 𝔽 .bf16)

/-- A slab of 128 rows of the input weights, cast, is those rows of the cast matrix. -/
theorem slabIn_apply (x : S1x1024x2048.Idx → Elt 𝔽 .f32) (k : ℕ) (h3 : ∀ a, (![0, k, 0] : Fin 3 → ℕ) a + S1x128x2048.size a ≤ S1x1024x2048.size a)
    (h2 : ∀ a, (![k, 0] : Fin 2 → ℕ) a + S128x2048.size a ≤ S1024x2048.size a) (y : S128x2048.Idx) :
    k0_pay1 (F := 𝔽) (fun z => x ((Rect.unit (s := S1x1024x2048) ![0, k, 0] S1x128x2048.size h3).idx z)) y
      = castIn x ((Rect.unit (s := S1024x2048) ![k, 0] S128x2048.size h2).emb y) := by
  obtain ⟨a, b, rfl⟩ : ∃ a b, y = ix2 a b := ⟨y 0, y 1, by funext d; fin_cases d <;> rfl⟩
  unfold k0_pay1
  rw [shapeCast_self]
  show (FloatOps.truncf (F := 𝔽) (φ := .f32) .bf16 bitsLt_bf16_f32 (shapeCast S128x2048 _ _ (ix2 a b)) : 𝔽 .bf16) = FloatOps.truncf (F := 𝔽) (φ := .f32) .bf16 bitsLt_bf16_f32 _
  congr 1
  rw [shapeCast_1ab_ab_apply]
  refine congrArg x (funext fun d => Fin.ext ?_)
  fin_cases d <;> simp [LoadRect.idx_apply, Rect.emb_apply]

/-- A slab of 128 rows of the output weights, cast, is those rows of the cast matrix. -/
theorem slabOut_apply (x : S1x1024x1024.Idx → Elt 𝔽 .f32) (k : ℕ) (h3 : ∀ a, (![0, k, 0] : Fin 3 → ℕ) a + S1x128x1024.size a ≤ S1x1024x1024.size a)
    (h2 : ∀ a, (![k, 0] : Fin 2 → ℕ) a + S128x1024.size a ≤ S1024x1024.size a) (y : S128x1024.Idx) :
    k0_pay2 (F := 𝔽) (fun z => x ((Rect.unit (s := S1x1024x1024) ![0, k, 0] S1x128x1024.size h3).idx z)) y
      = castOut x ((Rect.unit (s := S1024x1024) ![k, 0] S128x1024.size h2).emb y) := by
  obtain ⟨a, b, rfl⟩ : ∃ a b, y = ix2 a b := ⟨y 0, y 1, by funext d; fin_cases d <;> rfl⟩
  unfold k0_pay2
  rw [shapeCast_self]
  show (FloatOps.truncf (F := 𝔽) (φ := .f32) .bf16 bitsLt_bf16_f32 (shapeCast S128x1024 _ _ (ix2 a b)) : 𝔽 .bf16) = FloatOps.truncf (F := 𝔽) (φ := .f32) .bf16 bitsLt_bf16_f32 _
  congr 1
  rw [shapeCast_1ab_ab_apply]
  refine congrArg x (funext fun d => Fin.ext ?_)
  fin_cases d <;> simp [LoadRect.idx_apply, Rect.emb_apply]

/-- The eight slabs the first loop stores. -/
def slabsIn (arg5 : Memref sig .tc .vmem S1x1024x2048 .f32) (x : S1x1024x2048.Idx → Elt 𝔽 .f32) : List (View.Piece (Elt 𝔽) S1024x2048 .bf16) :=
   [⟨Rect.unit (s := S1024x2048) ![896, 0] S128x2048.size (by decide), k0_pay1 (View.readAt (Elt 𝔽) arg5.view (Rect.unit (s := S1x1024x2048) ![0, 896, 0] S1x128x2048.size (by decide)).toLoadRect (arg5.view.rep x))⟩,
    ⟨Rect.unit (s := S1024x2048) ![768, 0] S128x2048.size (by decide), k0_pay1 (View.readAt (Elt 𝔽) arg5.view (Rect.unit (s := S1x1024x2048) ![0, 768, 0] S1x128x2048.size (by decide)).toLoadRect (arg5.view.rep x))⟩,
    ⟨Rect.unit (s := S1024x2048) ![640, 0] S128x2048.size (by decide), k0_pay1 (View.readAt (Elt 𝔽) arg5.view (Rect.unit (s := S1x1024x2048) ![0, 640, 0] S1x128x2048.size (by decide)).toLoadRect (arg5.view.rep x))⟩,
    ⟨Rect.unit (s := S1024x2048) ![512, 0] S128x2048.size (by decide), k0_pay1 (View.readAt (Elt 𝔽) arg5.view (Rect.unit (s := S1x1024x2048) ![0, 512, 0] S1x128x2048.size (by decide)).toLoadRect (arg5.view.rep x))⟩,
    ⟨Rect.unit (s := S1024x2048) ![384, 0] S128x2048.size (by decide), k0_pay1 (View.readAt (Elt 𝔽) arg5.view (Rect.unit (s := S1x1024x2048) ![0, 384, 0] S1x128x2048.size (by decide)).toLoadRect (arg5.view.rep x))⟩,
    ⟨Rect.unit (s := S1024x2048) ![256, 0] S128x2048.size (by decide), k0_pay1 (View.readAt (Elt 𝔽) arg5.view (Rect.unit (s := S1x1024x2048) ![0, 256, 0] S1x128x2048.size (by decide)).toLoadRect (arg5.view.rep x))⟩,
    ⟨Rect.unit (s := S1024x2048) ![128, 0] S128x2048.size (by decide), k0_pay1 (View.readAt (Elt 𝔽) arg5.view (Rect.unit (s := S1x1024x2048) ![0, 128, 0] S1x128x2048.size (by decide)).toLoadRect (arg5.view.rep x))⟩,
    ⟨Rect.unit (s := S1024x2048) ![0, 0] S128x2048.size (by decide), k0_pay1 (View.readAt (Elt 𝔽) arg5.view (Rect.unit (s := S1x1024x2048) ![0, 0, 0] S1x128x2048.size (by decide)).toLoadRect (arg5.view.rep x))⟩]

/-- The eight slabs the second loop stores. -/
def slabsOut (arg7 : Memref sig .tc .vmem S1x1024x1024 .f32) (x : S1x1024x1024.Idx → Elt 𝔽 .f32) : List (View.Piece (Elt 𝔽) S1024x1024 .bf16) :=
   [⟨Rect.unit (s := S1024x1024) ![896, 0] S128x1024.size (by decide), k0_pay2 (View.readAt (Elt 𝔽) arg7.view (Rect.unit (s := S1x1024x1024) ![0, 896, 0] S1x128x1024.size (by decide)).toLoadRect (arg7.view.rep x))⟩,
    ⟨Rect.unit (s := S1024x1024) ![768, 0] S128x1024.size (by decide), k0_pay2 (View.readAt (Elt 𝔽) arg7.view (Rect.unit (s := S1x1024x1024) ![0, 768, 0] S1x128x1024.size (by decide)).toLoadRect (arg7.view.rep x))⟩,
    ⟨Rect.unit (s := S1024x1024) ![640, 0] S128x1024.size (by decide), k0_pay2 (View.readAt (Elt 𝔽) arg7.view (Rect.unit (s := S1x1024x1024) ![0, 640, 0] S1x128x1024.size (by decide)).toLoadRect (arg7.view.rep x))⟩,
    ⟨Rect.unit (s := S1024x1024) ![512, 0] S128x1024.size (by decide), k0_pay2 (View.readAt (Elt 𝔽) arg7.view (Rect.unit (s := S1x1024x1024) ![0, 512, 0] S1x128x1024.size (by decide)).toLoadRect (arg7.view.rep x))⟩,
    ⟨Rect.unit (s := S1024x1024) ![384, 0] S128x1024.size (by decide), k0_pay2 (View.readAt (Elt 𝔽) arg7.view (Rect.unit (s := S1x1024x1024) ![0, 384, 0] S1x128x1024.size (by decide)).toLoadRect (arg7.view.rep x))⟩,
    ⟨Rect.unit (s := S1024x1024) ![256, 0] S128x1024.size (by decide), k0_pay2 (View.readAt (Elt 𝔽) arg7.view (Rect.unit (s := S1x1024x1024) ![0, 256, 0] S1x128x1024.size (by decide)).toLoadRect (arg7.view.rep x))⟩,
    ⟨Rect.unit (s := S1024x1024) ![128, 0] S128x1024.size (by decide), k0_pay2 (View.readAt (Elt 𝔽) arg7.view (Rect.unit (s := S1x1024x1024) ![0, 128, 0] S1x128x1024.size (by decide)).toLoadRect (arg7.view.rep x))⟩,
    ⟨Rect.unit (s := S1024x1024) ![0, 0] S128x1024.size (by decide), k0_pay2 (View.readAt (Elt 𝔽) arg7.view (Rect.unit (s := S1x1024x1024) ![0, 0, 0] S1x128x1024.size (by decide)).toLoadRect (arg7.view.rep x))⟩]

/-- The eight slabs written, the first scratch holds the cast matrix, whatever it held. -/
theorem writes_slabsIn (arg5 : Memref sig .tc .vmem S1x1024x2048 .f32) (x : S1x1024x2048.Idx → Elt 𝔽 .f32) (f : S1024x2048.Idx → Elt 𝔽 .bf16) :
    sIn.view.writes (Elt 𝔽) f (slabsIn arg5 x) = castIn x := by
  have hcov := View.cover_of_tiledL (slabsIn arg5 x) S128x2048.size (by sl_kernel_rfl)
  funext y
  suffices hp : ∀ p ∈ slabsIn arg5 x, ∀ z : p.1.shape.Idx, p.2 z = castIn x (p.1.emb z)  by
    have h := View.read_writes_apply_of_pieces sIn.view f (castIn x) _ hp y (hcov y)
    rwa [View.read_whole] at h
  intro p hp
  simp only [slabsIn, slabsOut, List.mem_cons, List.not_mem_nil, or_false] at hp
  rcases hp with rfl | rfl | rfl | rfl | rfl | rfl | rfl | rfl <;> intro z <;>
    (rw [View.readAt_rep]; exact slabIn_apply x _ _ (by decide) z)

/-- The eight slabs written, the second scratch holds the cast matrix, whatever it held. -/
theorem writes_slabsOut (arg7 : Memref sig .tc .vmem S1x1024x1024 .f32) (x : S1x1024x1024.Idx → Elt 𝔽 .f32) (f : S1024x1024.Idx → Elt 𝔽 .bf16) :
    sOut.view.writes (Elt 𝔽) f (slabsOut arg7 x) = castOut x := by
  have hcov := View.cover_of_tiledL (slabsOut arg7 x) S128x1024.size (by sl_kernel_rfl)
  funext y
  suffices hp : ∀ p ∈ slabsOut arg7 x, ∀ z : p.1.shape.Idx, p.2 z = castOut x (p.1.emb z)  by
    have h := View.read_writes_apply_of_pieces sOut.view f (castOut x) _ hp y (hcov y)
    rwa [View.read_whole] at h
  intro p hp
  simp only [slabsIn, slabsOut, List.mem_cons, List.not_mem_nil, or_false] at hp
  rcases hp with rfl | rfl | rfl | rfl | rfl | rfl | rfl | rfl <;> intro z <;>
    (rw [View.readAt_rep]; exact slabOut_apply x _ _ (by decide) z)

/-- The part of a window's or scratch's contents a load reads. -/
abbrev part {s : Shape} {e : EltTy} (x : s.Idx → Elt 𝔽 e) (off size : Fin s.rank → ℕ) (h : ∀ a, off a + size a ≤ s.size a) : (⟨s.rank, size⟩ : Shape).Idx → Elt 𝔽 e :=
  fun y => x ((Rect.unit (s := s) off size h).toLoadRect.idx y)

/-- A tile computed from its rows `x0`, its number of live rows `n`, its expert's cast weights `s0`, `s1` and biases
    `x2`, `x4`. -/
def tileOut (n : BitVec 32) (x0 : S512x1x1024.Idx → Elt 𝔽 .f32) (s0 : S1024x2048.Idx → Elt 𝔽 .bf16) (x2 : S1x1x2048.Idx → Elt 𝔽 .f32)
    (s1 : S1024x1024.Idx → Elt 𝔽 .bf16) (x4 : S1x1x1024.Idx → Elt 𝔽 .f32) : S512x1x1024.Idx → Elt 𝔽 .f32 :=
  k0_pay3 (k0_pay7 (k0_pay5 (part x0 ![0, 0, 0] S512x1x1024.size inb_S512x1x1024_S512x1x1024_0_0_0) n)
    (k0_pay6 (part x0 ![0, 0, 0] S512x1x1024.size inb_S512x1x1024_S512x1x1024_0_0_0) n
      (part s0 ![0, 0] S1024x512.size inb_S1024x2048_S1024x512_0_0)
      (part x2 ![0, 0, 0] S1x1x512.size inb_S1x1x2048_S1x1x512_0_0_0)
      (part s0 ![0, 1024] S1024x512.size inb_S1024x2048_S1024x512_0_1024)
      (part x2 ![0, 0, 1024] S1x1x512.size inb_S1x1x2048_S1x1x512_0_0_1024))
    (part s1 ![0, 0] S512x1024.size inb_S1024x1024_S512x1024_0_0)
    (part s0 ![0, 512] S1024x512.size inb_S1024x2048_S1024x512_0_512)
    (part x2 ![0, 0, 512] S1x1x512.size inb_S1x1x2048_S1x1x512_0_0_512)
    (part s0 ![0, 1536] S1024x512.size inb_S1024x2048_S1024x512_0_1536)
    (part x2 ![0, 0, 1536] S1x1x512.size inb_S1x1x2048_S1x1x512_0_0_1536)
    (part s1 ![512, 0] S512x1024.size inb_S1024x1024_S512x1024_512_0)
    (part x4 ![0, 0, 0] S1x1x1024.size inb_S1x1x1024_S1x1x1024_0_0_0))

/-- The tile as the run's text has it, the loads through the blocks' own buffers, is the tile. -/
theorem tileOut_eq (n : BitVec 32) (arg4 : Memref sig .tc .vmem S512x1x1024 .f32) (arg6 : Memref sig .tc .vmem S1x1x2048 .f32) (arg8 : Memref sig .tc .vmem S1x1x1024 .f32)
    (x0 : S512x1x1024.Idx → Elt 𝔽 .f32) (s0 : S1024x2048.Idx → Elt 𝔽 .bf16) (x2 : S1x1x2048.Idx → Elt 𝔽 .f32)
    (s1 : S1024x1024.Idx → Elt 𝔽 .bf16) (x4 : S1x1x1024.Idx → Elt 𝔽 .f32) :
    k0_pay3 (k0_pay7 (k0_pay5 (View.readAt (Elt 𝔽) arg4.view (Rect.unit (s := S512x1x1024) ![0, 0, 0] S512x1x1024.size inb_S512x1x1024_S512x1x1024_0_0_0).toLoadRect (arg4.view.rep x0)) n)
    (k0_pay6 (View.readAt (Elt 𝔽) arg4.view (Rect.unit (s := S512x1x1024) ![0, 0, 0] S512x1x1024.size inb_S512x1x1024_S512x1x1024_0_0_0).toLoadRect (arg4.view.rep x0)) n
      (View.readAt (Elt 𝔽) sIn.view (Rect.unit (s := S1024x2048) ![0, 0] S1024x512.size inb_S1024x2048_S1024x512_0_0).toLoadRect s0)
      (View.readAt (Elt 𝔽) arg6.view (Rect.unit (s := S1x1x2048) ![0, 0, 0] S1x1x512.size inb_S1x1x2048_S1x1x512_0_0_0).toLoadRect (arg6.view.rep x2))
      (View.readAt (Elt 𝔽) sIn.view (Rect.unit (s := S1024x2048) ![0, 1024] S1024x512.size inb_S1024x2048_S1024x512_0_1024).toLoadRect s0)
      (View.readAt (Elt 𝔽) arg6.view (Rect.unit (s := S1x1x2048) ![0, 0, 1024] S1x1x512.size inb_S1x1x2048_S1x1x512_0_0_1024).toLoadRect (arg6.view.rep x2)))
    (View.readAt (Elt 𝔽) sOut.view (Rect.unit (s := S1024x1024) ![0, 0] S512x1024.size inb_S1024x1024_S512x1024_0_0).toLoadRect s1)
    (View.readAt (Elt 𝔽) sIn.view (Rect.unit (s := S1024x2048) ![0, 512] S1024x512.size inb_S1024x2048_S1024x512_0_512).toLoadRect s0)
    (View.readAt (Elt 𝔽) arg6.view (Rect.unit (s := S1x1x2048) ![0, 0, 512] S1x1x512.size inb_S1x1x2048_S1x1x512_0_0_512).toLoadRect (arg6.view.rep x2))
    (View.readAt (Elt 𝔽) sIn.view (Rect.unit (s := S1024x2048) ![0, 1536] S1024x512.size inb_S1024x2048_S1024x512_0_1536).toLoadRect s0)
    (View.readAt (Elt 𝔽) arg6.view (Rect.unit (s := S1x1x2048) ![0, 0, 1536] S1x1x512.size inb_S1x1x2048_S1x1x512_0_0_1536).toLoadRect (arg6.view.rep x2))
    (View.readAt (Elt 𝔽) sOut.view (Rect.unit (s := S1024x1024) ![512, 0] S512x1024.size inb_S1024x1024_S512x1024_512_0).toLoadRect s1)
    (View.readAt (Elt 𝔽) arg8.view (Rect.unit (s := S1x1x1024) ![0, 0, 0] S1x1x1024.size inb_S1x1x1024_S1x1x1024_0_0_0).toLoadRect (arg8.view.rep x4)))
      = tileOut n x0 s0 x2 s1 x4 := by
  simp only [View.readAt_rep]
  rfl

/-- What the first scratch holds after a point. -/
def nextIn (i : grid0.Coords) (T0 : S288.Idx → Elt 𝔽 .i32) (x1 : S1x1024x2048.Idx → Elt 𝔽 .f32) (xa0 : S1024x2048.Idx → Elt 𝔽 .bf16) : S1024x2048.Idx → Elt 𝔽 .bf16 :=
  if Casts i T0 then castIn x1 else xa0

/-- What the second scratch holds after a point. -/
def nextOut (i : grid0.Coords) (T0 : S288.Idx → Elt 𝔽 .i32) (x3 : S1x1024x1024.Idx → Elt 𝔽 .f32) (xa1 : S1024x1024.Idx → Elt 𝔽 .bf16) : S1024x1024.Idx → Elt 𝔽 .bf16 :=
  if Casts i T0 then castOut x3 else xa1

/-- What the output block holds after a point. -/
def tileNext (i : grid0.Coords) (T1 : S288.Idx → Elt 𝔽 .i32) (T2 : S1.Idx → Elt 𝔽 .i32) (x0 : S512x1x1024.Idx → Elt 𝔽 .f32) (s0 : S1024x2048.Idx → Elt 𝔽 .bf16)
    (x2 : S1x1x2048.Idx → Elt 𝔽 .f32) (s1 : S1024x1024.Idx → Elt 𝔽 .bf16) (x4 : S1x1x1024.Idx → Elt 𝔽 .f32) : S512x1x1024.Idx → Elt 𝔽 .f32 :=
  if k0_cond2 i (wordN T2) = 1#1 then tileOut (wordL T1 i) x0 s0 x2 s1 x4 else k0_pay4 (F := 𝔽)

/-- A point computes its tile exactly where it does not store zeros. -/
theorem cond3_iff (i : grid0.Coords) (n : BitVec 32) : k0_cond3 i n = 1#1 ↔ ¬k0_cond2 i n = 1#1 := by
  unfold k0_cond3 k0_cond2
  simp only [Scalar.cmpi, Scalar.extui, IntOp.cmpi]
  by_cases h : (BitVec.ofNat 32 (i 0).val).slt n
  · have h' : n.sle (BitVec.ofNat 32 (i 0).val) = false := by rw [BitVec.sle_eq_not_slt, h]; rfl
    simp [h, h']
  · have h' : n.sle (BitVec.ofNat 32 (i 0).val) = true := by rw [BitVec.sle_eq_not_slt]; simpa using h
    simp [h, h']

set_option backward.proofsInPublic true in
set_option maxHeartbeats 8000000 in
/-- THE BODY at a generic grid point: from the windows' blocks, the tables and the scratches at any contents it leaves
    the blocks and the tables, the scratches at `nextIn` and `nextOut` and the output block at `tileNext`. -/
theorem body_run (c : Dev nD) (i : grid0.Coords) (arg4 : Memref sig .tc .vmem S512x1x1024 .f32) (harg4 : arg4.IsWhole) (arg5 : Memref sig .tc .vmem S1x1024x2048 .f32) (harg5 : arg5.IsWhole) (arg6 : Memref sig .tc .vmem S1x1x2048 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S512x1x1024 .f32) (harg9 : arg9.IsWhole)
    (T0 T1 : S288.Idx → Elt 𝔽 .i32) (T2 : S1.Idx → Elt 𝔽 .i32)
    (x0 : S512x1x1024.Idx → Elt 𝔽 .f32) (x1 : S1x1024x2048.Idx → Elt 𝔽 .f32) (x2 : S1x1x2048.Idx → Elt 𝔽 .f32) (x3 : S1x1024x1024.Idx → Elt 𝔽 .f32) (x4 : S1x1x1024.Idx → Elt 𝔽 .f32) (xa0 : S1024x2048.Idx → Elt 𝔽 .bf16) (xa1 : S1024x1024.Idx → Elt 𝔽 .bf16)
    (K : PUnit → sProp 𝕄) :
    iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tE.view.loc (c : Thread nD τ) ↦{fullShare.right} T0)
          ∗ (tL.view.loc (c : Thread nD τ) ↦{fullShare.right} T1)
          ∗ (tN.view.loc (c : Thread nD τ) ↦{fullShare.right} T2)
          ∗ (∃ d, owns (c : Thread nD τ) arg9 fullShare d)
          ∗ (sIn.view.loc (c : Thread nD τ) ↦{fullShare} xa0)
          ∗ (sOut.view.loc (c : Thread nD τ) ↦{fullShare} xa1)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (tE.view.loc (c : Thread nD τ) ↦{fullShare.right} T0)
              ∗ (tL.view.loc (c : Thread nD τ) ↦{fullShare.right} T1)
              ∗ (tN.view.loc (c : Thread nD τ) ↦{fullShare.right} T2)
              ∗ owns (c : Thread nD τ) arg9 fullShare (tileNext i T1 T2 x0 (nextIn i T0 x1 xa0) x2 (nextOut i T0 x3 xa1) x4)
              ∗ (sIn.view.loc (c : Thread nD τ) ↦{fullShare} nextIn i T0 x1 xa0)
              ∗ (sOut.view.loc (c : Thread nD τ) ↦{fullShare} nextOut i T0 x3 xa1)) -∗ K ⟨⟩))
      ⊢ wp frame (wpE (defs₀ (F := 𝔽)) Variants.none c none) Set.univ (cc0_experts i tE (Memref.isWhole_whole _) tL (Memref.isWhole_whole _) tN (Memref.isWhole_whole _) arg4 harg4 arg5 harg5 arg6 harg6 arg7 harg7 arg8 harg8 arg9 harg9 sIn (Memref.isWhole_whole _) sOut (Memref.isWhole_whole _)) K := by
  have hS0 : sIn.IsWhole := Memref.isWhole_whole _
  have hS1 : sOut.IsWhole := Memref.isWhole_whole _
  have hT0 : tE.IsWhole := Memref.isWhole_whole _
  have hT1 : tL.IsWhole := Memref.isWhole_whole _
  have hT2 : tN.IsWhole := Memref.isWhole_whole _
  unfold owns
  rw [cc0_experts_eq_skeleton]; unfold cc0_experts_skel
  by_cases hc0 : Casts i T0
  · have e0 : nextIn i T0 x1 xa0 = castIn x1 := if_pos hc0
    have e1 : nextOut i T0 x3 xa1 = castOut x3 := if_pos hc0
    rw [e0, e1]
    iintro ⟨H0, H1, H2, H3, H4, HT0, HT1, HT2, ⟨%d5, %f5, -, HO5⟩, HS0, HS1, Hk⟩
    set_option sl_exec.unrollTrips 8 in set_option sl_exec.stopBefore "k0_cond2" in sl_exec (disch := first | (guard_target = Scalar.cmpi = _; exact hc0) | exact hc0)
    ihave HS0 : (sIn.view.loc (c : Thread nD τ) ↦{fullShare} castIn x1) $$ [HS0]
    · rw [← writes_slabsIn arg5 x1 xa0]; iexact HS0
    ihave HS1 : (sOut.view.loc (c : Thread nD τ) ↦{fullShare} castOut x3) $$ [HS1]
    · rw [← writes_slabsOut arg7 x3 xa1]; iexact HS1
    by_cases k0_h2 : k0_cond2 i (wordN T2) = 1#1
    · have k0_h3 : ¬k0_cond3 i (wordN T2) = 1#1 := fun h => (cond3_iff i _).1 h k0_h2
      sl_exec! (disch := first | exact k0_h2 | exact k0_h3)
      sl_step
      iapply Hk
      isplitl [H0]; · iexact H0
      isplitl [H1]; · iexact H1
      isplitl [H2]; · iexact H2
      isplitl [H3]; · iexact H3
      isplitl [H4]; · iexact H4
      isplitl [HT0]; · iexact HT0
      isplitl [HT1]; · iexact HT1
      isplitl [HT2]; · iexact HT2
      isplitl [HO5]
      · iexists _; isplitr; swap
        · iexact HO5
        · ipureintro
          refine (View.read_writes_full _ _ _ _ _).trans ?_
          refine Eq.trans ?_ (if_pos k0_h2).symm
          exact tileOut_eq (wordL T1 i) arg4 arg6 arg8 x0 (castIn x1) x2 (castOut x3) x4
      isplitl [HS0]; · iexact HS0
      iexact HS1
    · have k0_h3 : k0_cond3 i (wordN T2) = 1#1 := (cond3_iff i _).2 k0_h2
      sl_exec! (disch := first | exact k0_h2 | exact k0_h3)
      sl_step
      iapply Hk
      isplitl [H0]; · iexact H0
      isplitl [H1]; · iexact H1
      isplitl [H2]; · iexact H2
      isplitl [H3]; · iexact H3
      isplitl [H4]; · iexact H4
      isplitl [HT0]; · iexact HT0
      isplitl [HT1]; · iexact HT1
      isplitl [HT2]; · iexact HT2
      isplitl [HO5]
      · iexists _; isplitr; swap
        · iexact HO5
        · ipureintro
          refine (View.read_writes_full _ _ _ _ _).trans ?_
          exact (if_neg k0_h2).symm
      isplitl [HS0]; · iexact HS0
      iexact HS1
  · have e0 : nextIn i T0 x1 xa0 = xa0 := if_neg hc0
    have e1 : nextOut i T0 x3 xa1 = xa1 := if_neg hc0
    rw [e0, e1]
    iintro ⟨H0, H1, H2, H3, H4, HT0, HT1, HT2, ⟨%d5, %f5, -, HO5⟩, HS0, HS1, Hk⟩
    set_option sl_exec.unrollTrips 8 in set_option sl_exec.stopBefore "k0_cond2" in sl_exec (disch := first | (guard_target = ¬(Scalar.cmpi = _); exact hc0) | exact hc0)
    by_cases k0_h2 : k0_cond2 i (wordN T2) = 1#1
    · have k0_h3 : ¬k0_cond3 i (wordN T2) = 1#1 := fun h => (cond3_iff i _).1 h k0_h2
      sl_exec! (disch := first | exact k0_h2 | exact k0_h3)
      sl_step
      iapply Hk
      isplitl [H0]; · iexact H0
      isplitl [H1]; · iexact H1
      isplitl [H2]; · iexact H2
      isplitl [H3]; · iexact H3
      isplitl [H4]; · iexact H4
      isplitl [HT0]; · iexact HT0
      isplitl [HT1]; · iexact HT1
      isplitl [HT2]; · iexact HT2
      isplitl [HO5]
      · iexists _; isplitr; swap
        · iexact HO5
        · ipureintro
          refine (View.read_writes_full _ _ _ _ _).trans ?_
          refine Eq.trans ?_ (if_pos k0_h2).symm
          exact tileOut_eq (wordL T1 i) arg4 arg6 arg8 x0 xa0 x2 xa1 x4
      isplitl [HS0]; · iexact HS0
      iexact HS1
    · have k0_h3 : k0_cond3 i (wordN T2) = 1#1 := (cond3_iff i _).2 k0_h2
      sl_exec! (disch := first | exact k0_h2 | exact k0_h3)
      sl_step
      iapply Hk
      isplitl [H0]; · iexact H0
      isplitl [H1]; · iexact H1
      isplitl [H2]; · iexact H2
      isplitl [H3]; · iexact H3
      isplitl [H4]; · iexact H4
      isplitl [HT0]; · iexact HT0
      isplitl [HT1]; · iexact HT1
      isplitl [HT2]; · iexact HT2
      isplitl [HO5]
      · iexists _; isplitr; swap
        · iexact HO5
        · ipureintro
          refine (View.read_writes_full _ _ _ _ _).trans ?_
          exact (if_neg k0_h2).symm
      isplitl [HS0]; · iexact HS0
      iexact HS1

end Cert.KernelIdeal.Experts
end
-- ==== Proof.KernelIdeal.Frame.lean ====
/- The expert call's frame, at any tables whose blocks lie inside their arrays.

   The invariant before a point other than the first: each scratch holds the cast weights of the expert of the point
   before. A point that does not cast has the expert of the point before, so its blocks are that point's and the
   scratches already hold its own cast weights. Hence after every point the scratches hold that point's cast weights and the
   output block is the tile computed from the point's own blocks. -/
module

public import proofs.«01_k».proof.Proof.KernelIdeal.Body
public import Idealize.ShloMosaic.Lib.Pipeline.Quiescent
public import Idealize.ShloMosaic.Lib.Pipeline.ValueKit
public import Idealize.ShloMosaic.Lib.Claim

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation BodyObligationLoose cellOf)

local notation "𝔽" => Idealize.ShloMosaic.Ideal
local notation "𝕄" => MT nD τ sig Unit (Elt 𝔽) ℕ (UR sig nD τ) ℕ

/-- The proof's resource algebra, embedded whole. -/
abbrev EP : Emb (UR sig nD τ) 𝕄 := emb₁

variable (a : (pcfg0 (F := 𝔽)).Adm)
variable (m : (ℓ : Loc nD τ sig) → Buf (Elt 𝔽) ℓ) (ρ : Dev nD → PrngReg)

/-- The pipeline at the tables `a`. -/
abbrev cfgA : Pipeline.Cfg sig Λ₀ := cfg0 (F := 𝔽) a
abbrev pcs : Fin 1 → Pipeline.Cfg sig Λ₀ := Pipeline.pin (pcfgs (F := 𝔽)) fun _ => a

/-- The three tables' words. -/
abbrev tabE : S288.Idx → Elt 𝔽 .i32 := a.1 0
abbrev tabL : S288.Idx → Elt 𝔽 .i32 := a.1 1
abbrev tabN : S1.Idx → Elt 𝔽 .i32 := a.1 2

/-- Point `t`'s coordinates. -/
abbrev crd (t : Fin (cfgA a).N) : (cfgA a).grid.Coords := (cfgA a).grid.coords t

/-- Each window's staging buffer at point `t`, and that it is whole. -/
abbrev ms0 (t : Fin (cfgA a).N) : Memref sig .tc .vmem S512x1x1024 .f32 := spec0_0.stage ((cfgA a).slots t (0 : Fin 6))
abbrev hs0 (t : Fin (cfgA a).N) : (ms0 a t).IsWhole := hstage0_0 (((cfgA a).slots t (0 : Fin 6)).cast nbuf0_0)
abbrev ms1 (t : Fin (cfgA a).N) : Memref sig .tc .vmem S1x1024x2048 .f32 := spec0_1.stage ((cfgA a).slots t (1 : Fin 6))
abbrev hs1 (t : Fin (cfgA a).N) : (ms1 a t).IsWhole := hstage0_1 (((cfgA a).slots t (1 : Fin 6)).cast nbuf0_1)
abbrev ms2 (t : Fin (cfgA a).N) : Memref sig .tc .vmem S1x1x2048 .f32 := spec0_2.stage ((cfgA a).slots t (2 : Fin 6))
abbrev hs2 (t : Fin (cfgA a).N) : (ms2 a t).IsWhole := hstage0_2 (((cfgA a).slots t (2 : Fin 6)).cast nbuf0_2)
abbrev ms3 (t : Fin (cfgA a).N) : Memref sig .tc .vmem S1x1024x1024 .f32 := spec0_3.stage ((cfgA a).slots t (3 : Fin 6))
abbrev hs3 (t : Fin (cfgA a).N) : (ms3 a t).IsWhole := hstage0_3 (((cfgA a).slots t (3 : Fin 6)).cast nbuf0_3)
abbrev ms4 (t : Fin (cfgA a).N) : Memref sig .tc .vmem S1x1x1024 .f32 := spec0_4.stage ((cfgA a).slots t (4 : Fin 6))
abbrev hs4 (t : Fin (cfgA a).N) : (ms4 a t).IsWhole := hstage0_4 (((cfgA a).slots t (4 : Fin 6)).cast nbuf0_4)
abbrev ms5 (t : Fin (cfgA a).N) : Memref sig .tc .vmem S512x1x1024 .f32 := spec0_5.stage ((cfgA a).slots t (5 : Fin 6))
abbrev hs5 (t : Fin (cfgA a).N) : (ms5 a t).IsWhole := hstage0_5 (((cfgA a).slots t (5 : Fin 6)).cast nbuf0_5)

/-- Window `w`'s block at point `t`, read off its array at launch. -/
def iblk (c : Dev nD) (w : Fin (cfgA a).W) (t : Fin (cfgA a).N) : (((cfgA a).win w).xblock (crd a t)).Idx → Elt 𝔽 ((cfgA a).win w).elt :=
  (((cfgA a).win w).blk t).view.read (Elt 𝔽) ((s₀ m ρ).mem (((cfgA a).win w).arr.view.loc (c : Thread nD τ)))

/-- A grid point's coordinate is its number. -/
theorem coord_val : ∀ t : Fin grid0.N, (grid0.coords t 0).val = t.val := by decide +kernel

/-- The place the body compares its own expert against: the place of the point before. -/
theorem off2_eq : ∀ t : Fin grid0.N, ∀ h : t.val ≠ 0, k0_off2 (grid0.coords t) = k0_off1 (grid0.coords ⟨t.val - 1, by omega⟩) := by decide +kernel

/-- The first point casts. -/
theorem casts_zero (i : grid0.Coords) (h : (i 0).val = 0) (T : S288.Idx → Elt 𝔽 .i32) : Casts i T := by
  simp only [Casts, Scalar.cmpi, Scalar.extui, Scalar.ori, IntOp.cmpi, h]
  generalize (BitVec.ofBool (wordAt T (k0_off1 i) (k0_off1_inb i) != wordAt T (k0_off2 i) (k0_off2_inb i))) = b
  revert b; decide

/-- A point that does not cast reads the same expert as the place it compares against. -/
theorem word_of_not_casts (i : grid0.Coords) (T : S288.Idx → Elt 𝔽 .i32) (h : ¬ Casts i T) :
    wordAt T (k0_off1 i) (k0_off1_inb i) = wordAt T (k0_off2 i) (k0_off2_inb i) := by
  by_contra hne
  apply h
  simp only [Casts, Scalar.cmpi, Scalar.extui, Scalar.ori, IntOp.cmpi]
  rw [show (wordAt T (k0_off1 i) (k0_off1_inb i) != wordAt T (k0_off2 i) (k0_off2_inb i)) = true from by simpa using hne]
  generalize BitVec.ofBool (BitVec.ofNat 32 (i 0).val == 0#32) = b
  revert b; decide

/-- The expert the weights' windows read at a point is the word the body loads. -/
theorem expert_word (i : grid0.Coords) : a.1.at 0 (Rect.unit (s := S288) (k0_off1 i) S1.size (k0_off1_inb i)) numel1_S1 = wordAt (tabE a) (k0_off1 i) (k0_off1_inb i) := rfl

/-- A point that does not cast is not the first, and has the block indices of the weights of the point before. -/
theorem index_of_not_casts (t : Fin grid0.N) (h : ¬ Casts (grid0.coords t) (tabE a)) :
    ∃ h0 : t.val ≠ 0, wordAt (tabE a) (k0_off1 (grid0.coords t)) (k0_off1_inb _) = wordAt (tabE a) (k0_off1 (grid0.coords ⟨t.val - 1, by omega⟩)) (k0_off1_inb _) := by
  have h0 : t.val ≠ 0 := fun h0 => h (casts_zero _ ((coord_val t).trans h0) _)
  refine ⟨h0, (word_of_not_casts _ _ h).trans ?_⟩
  have e := off2_eq t h0
  simp only [wordAt]
  congr 1
  simp only [e]

/-- The input weights' block at point `t`: the matrix of the expert the table names. -/
theorem emb1_val (t : Fin grid0.N) (y : S1x1024x2048.Idx) (d : Fin 3) :
    ((((cfgA a).win (1 : Fin 6)).blk t).view.emb y d : ℕ)
      = (![(wordAt (tabE a) (k0_off1 (grid0.coords t)) (k0_off1_inb _)).toNat, 0, 0] : Fin 3 → ℕ) d * (![1, 1024, 2048] : Fin 3 → ℕ) d + y d :=
  Pipeline.Window.rect_emb_val ((cfgA a).win (1 : Fin 6)) t y d rfl
theorem emb3_val (t : Fin grid0.N) (y : S1x1024x1024.Idx) (d : Fin 3) :
    ((((cfgA a).win (3 : Fin 6)).blk t).view.emb y d : ℕ)
      = (![(wordAt (tabE a) (k0_off1 (grid0.coords t)) (k0_off1_inb _)).toNat, 0, 0] : Fin 3 → ℕ) d * (![1, 1024, 1024] : Fin 3 → ℕ) d + y d :=
  Pipeline.Window.rect_emb_val ((cfgA a).win (3 : Fin 6)) t y d rfl

/-- The input weights a point reads: one expert's matrix. -/
abbrev wIn (c : Dev nD) (t : Fin grid0.N) : S1x1024x2048.Idx → Elt 𝔽 .f32 := iblk a m ρ c (1 : Fin 6) t
/-- The output weights a point reads: one expert's matrix. -/
abbrev wOut (c : Dev nD) (t : Fin grid0.N) : S1x1024x1024.Idx → Elt 𝔽 .f32 := iblk a m ρ c (3 : Fin 6) t

/-- Two points of one expert read the same weights. -/
theorem wIn_congr (c : Dev nD) (t t' : Fin grid0.N)
    (h : wordAt (tabE a) (k0_off1 (grid0.coords t)) (k0_off1_inb _) = wordAt (tabE a) (k0_off1 (grid0.coords t')) (k0_off1_inb _)) :
    wIn a m ρ c t = wIn a m ρ c t' := by
  funext y
  unfold wIn iblk
  refine congrArg ((s₀ m ρ).mem (((cfgA a).win (1 : Fin 6)).arr.view.loc (c : Thread nD τ))) ?_
  funext d
  refine Fin.ext ((emb1_val a t y d).trans (Eq.trans ?_ (emb1_val a t' y d).symm))
  rw [h]
theorem wOut_congr (c : Dev nD) (t t' : Fin grid0.N)
    (h : wordAt (tabE a) (k0_off1 (grid0.coords t)) (k0_off1_inb _) = wordAt (tabE a) (k0_off1 (grid0.coords t')) (k0_off1_inb _)) :
    wOut a m ρ c t = wOut a m ρ c t' := by
  funext y
  unfold wOut iblk
  refine congrArg ((s₀ m ρ).mem (((cfgA a).win (3 : Fin 6)).arr.view.loc (c : Thread nD τ))) ?_
  funext d
  refine Fin.ext ((emb3_val a t y d).trans (Eq.trans ?_ (emb3_val a t' y d).symm))
  rw [h]

/-- The output tile of point `t`, from the point's own blocks and tables. -/
def tileAt (c : Dev nD) (t : Fin grid0.N) : S512x1x1024.Idx → Elt 𝔽 .f32 :=
  tileNext (grid0.coords t) (tabL a) (tabN a) (iblk a m ρ c (0 : Fin 6) t) (castIn (wIn a m ρ c t)) (iblk a m ρ c (2 : Fin 6) t) (castOut (wOut a m ρ c t)) (iblk a m ρ c (4 : Fin 6) t)

/-- After a point the first scratch holds the point's own cast weights, provided it held those of the point before. -/
theorem nextIn_eq (c : Dev nD) (t : Fin grid0.N) (x : S1024x2048.Idx → Elt 𝔽 .bf16)
    (hx : ∀ h : t.val ≠ 0, x = castIn (wIn a m ρ c ⟨t.val - 1, by omega⟩)) :
    nextIn (grid0.coords t) (tabE a) (wIn a m ρ c t) x = castIn (wIn a m ρ c t) := by
  unfold nextIn
  split
  · rfl
  · rename_i h
    obtain ⟨h0, hw⟩ := index_of_not_casts a t h
    rw [hx h0, wIn_congr a m ρ c t _ hw]
theorem nextOut_eq (c : Dev nD) (t : Fin grid0.N) (x : S1024x1024.Idx → Elt 𝔽 .bf16)
    (hx : ∀ h : t.val ≠ 0, x = castOut (wOut a m ρ c ⟨t.val - 1, by omega⟩)) :
    nextOut (grid0.coords t) (tabE a) (wOut a m ρ c t) x = castOut (wOut a m ρ c t) := by
  unfold nextOut
  split
  · rfl
  · rename_i h
    obtain ⟨h0, hw⟩ := index_of_not_casts a t h
    rw [hx h0, wOut_congr a m ρ c t _ hw]

/-- THE INVARIANT before position `n`: past the first point, each scratch holds the cast weights of the point before; the
    body's halves of the tables. -/
def Phi (c : Dev nD) (n : Fin (grid0.N + 1)) : sProp 𝕄 :=
  iprop((∃ x : S1024x2048.Idx → Elt 𝔽 .bf16, ⌜∀ h : n.val ≠ 0, x = castIn (wIn a m ρ c ⟨n.val - 1, by omega⟩)⌝ ∗ (sIn.view.loc (c : Thread nD τ) ↦{fullShare} x))
    ∗ (∃ x : S1024x1024.Idx → Elt 𝔽 .bf16, ⌜∀ h : n.val ≠ 0, x = castOut (wOut a m ρ c ⟨n.val - 1, by omega⟩)⌝ ∗ (sOut.view.loc (c : Thread nD τ) ↦{fullShare} x))
    ∗ (tE.view.loc (c : Thread nD τ) ↦{fullShare.right} tabE a)
    ∗ (tL.view.loc (c : Thread nD τ) ↦{fullShare.right} tabL a)
    ∗ (tN.view.loc (c : Thread nD τ) ↦{fullShare.right} tabN a))

/-- The proof data of the pipeline on core `c`. -/
def dats (_ : Fin 1) (c : Dev nD) : Dat τ (Elt 𝔽) Unit ℕ (UR sig nD τ) ℕ (cfgA a) c where
  A w := (s₀ m ρ).mem (((cfgA a).win w).arr.view.loc (c : Thread nD τ))
  after w t := match w with
    | ⟨0, _⟩ => iblk a m ρ c (0 : Fin 6) t
    | ⟨1, _⟩ => iblk a m ρ c (1 : Fin 6) t
    | ⟨2, _⟩ => iblk a m ρ c (2 : Fin 6) t
    | ⟨3, _⟩ => iblk a m ρ c (3 : Fin 6) t
    | ⟨4, _⟩ => iblk a m ρ c (4 : Fin 6) t
    | ⟨5, _⟩ => tileAt a m ρ c t
  Φ t := Phi a m ρ c t
  q _ := fullShare
  owed _ := 0

theorem after0 (c : Dev nD) (t : Fin (cfgA a).N) : (dats a m ρ 0 c).after (0 : Fin 6) t = iblk a m ρ c (0 : Fin 6) t := rfl
theorem after1 (c : Dev nD) (t : Fin (cfgA a).N) : (dats a m ρ 0 c).after (1 : Fin 6) t = iblk a m ρ c (1 : Fin 6) t := rfl
theorem after2 (c : Dev nD) (t : Fin (cfgA a).N) : (dats a m ρ 0 c).after (2 : Fin 6) t = iblk a m ρ c (2 : Fin 6) t := rfl
theorem after3 (c : Dev nD) (t : Fin (cfgA a).N) : (dats a m ρ 0 c).after (3 : Fin 6) t = iblk a m ρ c (3 : Fin 6) t := rfl
theorem after4 (c : Dev nD) (t : Fin (cfgA a).N) : (dats a m ρ 0 c).after (4 : Fin 6) t = iblk a m ρ c (4 : Fin 6) t := rfl
theorem after5 (c : Dev nD) (t : Fin (cfgA a).N) : (dats a m ρ 0 c).after (5 : Fin 6) t = tileAt a m ρ c t := rfl

/-- An input window's staging buffer holds its block when the body runs. -/
theorem before0 (c : Dev nD) (t : Fin (cfgA a).N) (d) : (dats a m ρ 0 c).before (0 : Fin 6) t d = iblk a m ρ c (0 : Fin 6) t :=
  ((dats a m ρ 0 c).before_in_eq_fetched (0 : Fin 6) rfl (fun _ => rfl) (fun _ _ _ => rfl) (fun _ => rfl) t d).trans rfl
theorem before1 (c : Dev nD) (t : Fin (cfgA a).N) (d) : (dats a m ρ 0 c).before (1 : Fin 6) t d = iblk a m ρ c (1 : Fin 6) t :=
  ((dats a m ρ 0 c).before_in_eq_fetched (1 : Fin 6) rfl (fun _ => rfl) (fun _ _ _ => rfl) (fun _ => rfl) t d).trans rfl
theorem before2 (c : Dev nD) (t : Fin (cfgA a).N) (d) : (dats a m ρ 0 c).before (2 : Fin 6) t d = iblk a m ρ c (2 : Fin 6) t :=
  ((dats a m ρ 0 c).before_in_eq_fetched (2 : Fin 6) rfl (fun _ => rfl) (fun _ _ _ => rfl) (fun _ => rfl) t d).trans rfl
theorem before3 (c : Dev nD) (t : Fin (cfgA a).N) (d) : (dats a m ρ 0 c).before (3 : Fin 6) t d = iblk a m ρ c (3 : Fin 6) t :=
  ((dats a m ρ 0 c).before_in_eq_fetched (3 : Fin 6) rfl (fun _ => rfl) (fun _ _ _ => rfl) (fun _ => rfl) t d).trans rfl
theorem before4 (c : Dev nD) (t : Fin (cfgA a).N) (d) : (dats a m ρ 0 c).before (4 : Fin 6) t d = iblk a m ρ c (4 : Fin 6) t :=
  ((dats a m ρ 0 c).before_in_eq_fetched (4 : Fin 6) rfl (fun _ => rfl) (fun _ _ _ => rfl) (fun _ => rfl) t d).trans rfl

/-- The body stores its output block at every point. -/
theorem not_idle (t : Fin (cfgA a).N) : (cfgA a).idle (5 : Fin 6) ((cfgA a).grid.coords t) = false := by
  have h : ∀ n : BitVec 32, (!(k0_cond2 (grid0.coords t) n == 1#1) && !(k0_cond3 (grid0.coords t) n == 1#1)) = false := by
    intro n
    by_cases h2 : k0_cond2 (grid0.coords t) n = 1#1
    · simp [h2]
    · simp [(cond3_iff (grid0.coords t) n).2 h2]
  exact h _

/-- The body at point `t`, as the pipeline calls it. -/
abbrev bodyAt (t : Fin (cfgA a).N) : Prog (TpuEff nD τ sig (Elt 𝔽) Λ₀ .tc) PUnit :=
  cc0_experts (crd a t) tE (Memref.isWhole_whole _) tL (Memref.isWhole_whole _) tN (Memref.isWhole_whole _) (ms0 a t) (hs0 a t) (ms1 a t) (hs1 a t) (ms2 a t) (hs2 a t) (ms3 a t) (hs3 a t) (ms4 a t) (hs4 a t) (ms5 a t) (hs5 a t) sIn (Memref.isWhole_whole _) sOut (Memref.isWhole_whole _)

set_option maxHeartbeats 4000000 in
/-- THE BODY OBLIGATION at point `t`. -/
theorem sound_body (c : Dev nD) (t : Fin (cfgA a).N) :
    iprop((dats a m ρ 0 c).Φ t.castSucc ∗ (dats a m ρ 0 c).owesAt () t.castSucc
        ∗ (∃ d, owns (c : Thread nD τ) (ms0 a t) fullShare ((dats a m ρ 0 c).before (0 : Fin 6) t d))
        ∗ (∃ d, owns (c : Thread nD τ) (ms1 a t) fullShare ((dats a m ρ 0 c).before (1 : Fin 6) t d))
        ∗ (∃ d, owns (c : Thread nD τ) (ms2 a t) fullShare ((dats a m ρ 0 c).before (2 : Fin 6) t d))
        ∗ (∃ d, owns (c : Thread nD τ) (ms3 a t) fullShare ((dats a m ρ 0 c).before (3 : Fin 6) t d))
        ∗ (∃ d, owns (c : Thread nD τ) (ms4 a t) fullShare ((dats a m ρ 0 c).before (4 : Fin 6) t d))
        ∗ (∃ d, owns (c : Thread nD τ) (ms5 a t) fullShare ((dats a m ρ 0 c).before (5 : Fin 6) t d)))
      ⊢ wp frame (wpE (defs₀ (F := 𝔽)) Variants.none c none) Set.univ (bodyAt a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0]
  rewrite [not_idle a t]
  simp only [before0, before1, before2, before3, before4, after0, after1, after2, after3, after4, after5]
  rewrite [show (dats a m ρ 0 c).Φ t.succ = Phi a m ρ c t.succ from rfl, show (dats a m ρ 0 c).Φ t.castSucc = Phi a m ρ c t.castSucc from rfl,
    show (dats a m ρ 0 c).owesAt () t.succ = (dats a m ρ 0 c).owesAt () t.castSucc from rfl]
  unfold Phi; simp only [Fin.val_castSucc, Fin.val_succ]
  iintro ⟨⟨⟨%xa0, %ha0, HS0⟩, ⟨%xa1, %ha1, HS1⟩, HT0, HT1, HT2⟩, Ho, ⟨%d0, H0⟩, ⟨%d1, H1⟩, ⟨%d2, H2⟩, ⟨%d3, H3⟩, ⟨%d4, H4⟩, ⟨%d5, H5⟩⟩
  iapply (body_run c (crd a t) (ms0 a t) (hs0 a t) (ms1 a t) (hs1 a t) (ms2 a t) (hs2 a t) (ms3 a t) (hs3 a t) (ms4 a t) (hs4 a t) (ms5 a t) (hs5 a t)
    (tabE a) (tabL a) (tabN a) (iblk a m ρ c (0 : Fin 6) t) (wIn a m ρ c t) (iblk a m ρ c (2 : Fin 6) t) (wOut a m ρ c t) (iblk a m ρ c (4 : Fin 6) t) xa0 xa1)
  rewrite [nextIn_eq a m ρ c t xa0 ha0, nextOut_eq a m ρ c t xa1 ha1]
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [HT0]; · iexact HT0
  isplitl [HT1]; · iexact HT1
  isplitl [HT2]; · iexact HT2
  isplitl [H5]; · iexists _; iexact H5
  isplitl [HS0]; · iexact HS0
  isplitl [HS1]; · iexact HS1
  iintro ⟨H0, H1, H2, H3, H4, HT0, HT1, HT2, H5, HS0, HS1⟩
  isplitl [HS0 HS1 HT0 HT1 HT2]
  · isplitl [HS0]
    · iexists _; isplitr; swap
      · iexact HS0
      · ipureintro; intro _; rfl
    isplitl [HS1]
    · iexists _; isplitr; swap
      · iexact HS1
      · ipureintro; intro _; rfl
    isplitl [HT0]; · iexact HT0
    isplitl [HT1]; · iexact HT1
    iexact HT2
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  iexact H5

/-- The library's body obligation, at every point. -/
theorem body_obligation (c : Dev nD) : BodyObligation (dats a m ρ 0 c) (defs₀ (F := 𝔽)) Variants.none () Set.univ := fun t => by
  rw [bigSep_W0]
  exact sound_body a m ρ c t

/-- The launch's ghost element. -/
def u₀ : UR sig nD τ :=
  initOf (Pipeline.cells (pcs a) ((launch0 (F := 𝔽)).cellOf_inj fun _ => a))
    (Pipeline.launchToks (pcs a) ((launch0 (F := 𝔽)).cellOf_inj fun _ => a))

theorem share_eq (c : Dev nD) (w : Fin (cfgA a).W) : (dats a m ρ 0 c).share w = fullShare := by unfold Dat.share; split <;> rfl

/-- The tables as the launch hands them over, one by one. -/
theorem prefHeld_eq (c : Dev nD) (q : Fin 3 → PosShare TreeShare) (v : pre0.Contents (Elt 𝔽)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1) ∗ (((c : Thread nD τ).loc main_arg2) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The invariant holds at the start, whatever the scratches hold; -/
theorem phi_start (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a m ρ c 0 from rfl]
  unfold Phi
  iintro ⟨-, ⟨HT0, HT1, HT2⟩, ⟨%x0, HS0⟩, ⟨%x1, HS1⟩⟩
  isplitl [HS0]
  · iexists x0; isplitr; swap
    · iexact HS0
    · ipureintro; intro h; exact absurd rfl h
  isplitl [HS1]
  · iexists x1; isplitr; swap
    · iexact HS1
    · ipureintro; intro h; exact absurd rfl h
  isplitl [HT0]; · iexact HT0
  isplitl [HT1]; · iexact HT1
  iexact HT2

/-- at the end it gives the scratches back. -/
theorem phi_end (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a m ρ c (Fin.last _) from rfl]
  unfold Phi
  iintro ⟨⟨%x0, -, HS0⟩, ⟨%x1, -, HS1⟩, -, -, -⟩
  isplitr; · iempintro
  isplitl [HS0]
  · iexists x0; iexact HS0
  iexists x1; iexact HS1

/-- What a final state holds: every window's array at what the pipeline computes, every table at the words it ran at. -/
def Post : PUnit × MemSt nD τ sig (Elt 𝔽) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

set_option backward.isDefEq.respectTransparency.types false in
set_option maxHeartbeats 4000000 in
/-- From any memory whose tables are `a`'s words, with zero counters: every execution of the program ends, at `Post`, with
    every counter zero. -/
theorem run_quiescent (hp : ∀ (c : Dev nD) (j : Fin 3), m ((c : Thread nD τ).loc (pre0.ref j)) = a.1 j) :
    θ_run (defs (F := 𝔽)) (onTc (τ := τ) (main (F := 𝔽))) (s₀ m ρ) (fun r => Post a m ρ r ∧ r.2.sem = fun _ => 0) :=
  Pipeline.θ_run_region_noSem_pf_quiescent pcfgs (fun _ => a) (dats a m ρ) () ((launch0 (F := 𝔽)).cellOf_inj fun _ => a) (0 : Fin 1)
    (launch0 (F := 𝔽)).win.to₀ (launch0 (F := 𝔽)).pre EP defs₀ Variants.none m ρ main
    (hbody := fun c => (body_obligation a m ρ c).loose) (hne := (launch0 (F := 𝔽)).block_pos)
    (harr := (launch0 (F := 𝔽)).arr_whole) (hstage := (launch0 (F := 𝔽)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := 𝔽)).win.arr_inj c (launch0 (F := 𝔽)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi_start a m ρ)
    (hout := phi_end a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The run's results: the output array as the pipeline leaves it, every argument unchanged, every counter zero. -/
theorem run_value (hp : ∀ (c : Dev nD) (j : Fin 3), m ((c : Thread nD τ).loc (pre0.ref j)) = a.1 j) :
    θ_run (defs (F := 𝔽)) (onTc (τ := τ) (main (F := 𝔽))) ⟨m, fun _ => 0, ρ⟩ (fun r => (∀ c : Dev nD,
      r.2.mem ((c.tc : Thread nD τ).loc main_v0) = (dats a m ρ 0 c).arrAt (5 : Fin 6) (cfgA a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨(h.1 c).1 (5 : Fin 6), ((h.1 c).2 0).trans (hp c 0).symm, ((h.1 c).2 1).trans (hp c 1).symm, ((h.1 c).2 2).trans (hp c 2).symm,
    ((h.1 c).1 (0 : Fin 6)).trans ((dats a m ρ 0 c).arrAt_in (0 : Fin 6) rfl _), ((h.1 c).1 (1 : Fin 6)).trans ((dats a m ρ 0 c).arrAt_in (1 : Fin 6) rfl _),
    ((h.1 c).1 (2 : Fin 6)).trans ((dats a m ρ 0 c).arrAt_in (2 : Fin 6) rfl _), ((h.1 c).1 (3 : Fin 6)).trans ((dats a m ρ 0 c).arrAt_in (3 : Fin 6) rfl _),
    ((h.1 c).1 (4 : Fin 6)).trans ((dats a m ρ 0 c).arrAt_in (4 : Fin 6) rfl _)⟩, h.2⟩) (run_quiescent a m ρ hp)

end Cert.KernelIdeal.Experts

end
-- ==== Proof.KernelIdeal.Tables.lean ====
/- What the precondition says of the tables: every expert is one of the 32, and at least one tile is in use. So every block the
   windows read lies inside its array. -/
module

public import proofs.«01_k».proof.Proof.KernelIdeal.Frame
public import proofs.«01_k».proof.Proof.Gen.Pre_tables
public import Idealize.ShloMosaic.Lib.ReduceAll

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.SL.Sem
open Idealize.ShloMosaic.ValueIdx

local notation "𝔽" => Idealize.ShloMosaic.Ideal

/-- Good tables: every word of the first names one of the 32 experts, and the third counts at least one tile. -/
structure Good (T0 : S288.Idx → BitVec 32) (T2 : S1.Idx → BitVec 32) : Prop where
  expert : ∀ x, (T0 x).toNat < 32
  used : ∀ x, (1 : ℤ) ≤ (T2 x).toInt

/-- The word the first window's block index comes from is below 288. -/
theorem row_word_lt (k : ℕ) (hk : k < 288) (n : BitVec 32) (hn : (1 : ℤ) ≤ n.toInt) :
    (Scalar.minsi (BitVec.ofNat 32 k) (Scalar.subi n 1#32)).toNat < 288 := by
  have hkn : (BitVec.ofNat 32 k).toNat = k := by rw [BitVec.toNat_ofNat]; omega
  have h1 : n.toNat < 2147483648 ∧ 1 ≤ n.toNat := by
    have := n.isLt
    rw [BitVec.toInt_eq_toNat_cond] at hn
    split at hn <;> omega
  have hs : (Scalar.subi n 1#32).toNat = n.toNat - 1 := by
    simp only [Scalar.subi, IntOp.subi]; bv_omega
  simp only [Scalar.minsi, IntOp.minsi]
  split
  · rw [hkn]; exact hk
  · rename_i h
    rw [hs]
    rw [Bool.not_eq_true, BitVec.slt_eq_decide, decide_eq_false_iff_not, BitVec.toInt_eq_toNat_cond, BitVec.toInt_eq_toNat_cond, hs, hkn] at h
    split at h <;> split at h <;> omega

/-- Good tables keep every block inside its array. -/
theorem ok_of_good (pf : pre0.Contents (Elt 𝔽)) (h : Good (pf 0) (pf 2)) : ok0 (F := 𝔽) pf := by
  have hE : ∀ (off : Fin 1 → ℕ) (hb : ∀ a, off a + S1.size a ≤ S288.size a), (pf.at 0 (Rect.unit (s := S288) off S1.size hb) numel1_S1 : BitVec 32).toNat < 32 :=
    fun off hb => h.expert _
  refine ⟨fun i => ⟨fun d => ?_, .inl rfl⟩, fun i => ⟨fun d => ?_, .inl rfl⟩, fun i => ⟨fun d => ?_, .inl rfl⟩, fun i => ⟨fun d => ?_, .inl rfl⟩, fun i => ⟨fun d => ?_, .inl rfl⟩⟩
  · have hw := row_word_lt (i 0).val (i 0).isLt (pf.at 2 (Rect.unit (s := S1) ![0] S1.size inb_S1_S1_0) numel1_S1) (h.used _)
    fin_cases d
    · show ((Scalar.minsi (BitVec.ofNat 32 (i 0).val) (Scalar.subi (pf.at 2 (Rect.unit (s := S1) ![0] S1.size inb_S1_S1_0) numel1_S1) 1#32)).toNat + 1) * 512 ≤ 147456
      omega
    · show (0 + 1) * 1 ≤ 1; omega
    · show (0 + 1) * 1024 ≤ 1024; omega
  · have hw := hE (k0_off1 i) (k0_off1_inb i)
    fin_cases d
    · show ((pf.at 0 (Rect.unit (s := S288) (k0_off1 i) S1.size (k0_off1_inb i)) numel1_S1 : BitVec 32).toNat + 1) * 1 ≤ 32
      omega
    · show (0 + 1) * 1024 ≤ 1024; omega
    · show (0 + 1) * 2048 ≤ 2048; omega
  · have hw := hE (k0_off1 i) (k0_off1_inb i)
    fin_cases d
    · show ((pf.at 0 (Rect.unit (s := S288) (k0_off1 i) S1.size (k0_off1_inb i)) numel1_S1 : BitVec 32).toNat + 1) * 1 ≤ 32
      omega
    · show (0 + 1) * 1 ≤ 1; omega
    · show (0 + 1) * 2048 ≤ 2048; omega
  · have hw := hE (k0_off1 i) (k0_off1_inb i)
    fin_cases d
    · show ((pf.at 0 (Rect.unit (s := S288) (k0_off1 i) S1.size (k0_off1_inb i)) numel1_S1 : BitVec 32).toNat + 1) * 1 ≤ 32
      omega
    · show (0 + 1) * 1024 ≤ 1024; omega
    · show (0 + 1) * 1024 ≤ 1024; omega
  · have hw := hE (k0_off1 i) (k0_off1_inb i)
    fin_cases d
    · show ((pf.at 0 (Rect.unit (s := S288) (k0_off1 i) S1.size (k0_off1_inb i)) numel1_S1 : BitVec 32).toNat + 1) * 1 ≤ 32
      omega
    · show (0 + 1) * 1 ≤ 1; omega
    · show (0 + 1) * 1024 ≤ 1024; omega

/-- The precondition, read off its printed text. -/
theorem good_of_pre (m : (ℓ : Loc nD τ sig) → Buf (Elt 𝔽) ℓ) (h : Cert.Pre_KernelIdeal m) (c : Dev nD) :
    Good (m ((c.tc : Thread nD τ).loc main_arg0)) (m ((c.tc : Thread nD τ).loc main_arg2)) := by
  have and_one : ∀ p q : BitVec 1, IntOp.andi p q = 1#1 → p = 1#1 ∧ q = 1#1 := by decide
  have one_of : ∀ p : Bool, BitVec.ofBool p = 1#1 → p = true := by decide
  haveI : Subsingleton Cert.Pre_tables.S_.Idx := ⟨fun y z => funext fun d => Fin.elim0 d⟩
  have e := congrFun (h c) (fun d => Fin.elim0 d)
  obtain ⟨e1, e2⟩ := and_one _ _ e
  constructor
  · intro x
    have ex := Host.reduce_andi_all _ _ _ _ _ e1 x
    obtain ⟨ge, lt⟩ := and_one _ _ ex
    have ge' := one_of _ ge
    have lt' := one_of _ lt
    change (0#32).sle (m ((c.tc : Thread nD τ).loc main_arg0) x) = true at ge'
    change (m ((c.tc : Thread nD τ).loc main_arg0) x : BitVec 32).slt 32#32 = true at lt'
    simp only [BitVec.sle, BitVec.slt, decide_eq_true_eq, BitVec.toInt, BitVec.toNat_ofNat] at ge' lt'
    omega
  · intro x
    have ex := one_of _ (Host.reduce_andi_all _ _ _ _ _ e2 x)
    change (1#32).sle (m ((c.tc : Thread nD τ).loc main_arg2) x) = true at ex
    have one : (1#32 : BitVec 32).toInt = 1 := by decide
    simp only [BitVec.sle, decide_eq_true_eq] at ex
    rwa [one] at ex

/-- The tables a memory holds. -/
def tablesOf (m : (ℓ : Loc nD τ sig) → Buf (Elt 𝔽) ℓ) : pre0.Contents (Elt 𝔽) := fun j => m (((0 : Dev nD) : Thread nD τ).loc (pre0.ref j))

/-- Under the precondition the memory's tables are admissible. -/
def admOf (m : (ℓ : Loc nD τ sig) → Buf (Elt 𝔽) ℓ) (h : Cert.Pre_KernelIdeal m) : (pcfg0 (F := 𝔽)).Adm :=
  ⟨tablesOf m, ok_of_good _ (good_of_pre m h 0)⟩

/-- They are the words every device's memory holds: there is one device. -/
theorem admOf_holds (m : (ℓ : Loc nD τ sig) → Buf (Elt 𝔽) ℓ) (h : Cert.Pre_KernelIdeal m) (c : Dev nD) (j : Fin 3) :
    m ((c : Thread nD τ).loc (pre0.ref j)) = (admOf m h).1 j := by
  obtain rfl : c = 0 := Subsingleton.elim _ _
  rfl

/-- THE FRAME: under the precondition the kernel runs, its arguments and every counter end as they were. -/
theorem quiescent (m : (ℓ : Loc nD τ sig) → Buf (Elt 𝔽) ℓ) (ρ : Dev nD → PrngReg) (h : Cert.Pre_KernelIdeal m) :
    θ_run (defs (F := 𝔽)) (onTc (τ := τ) (main (F := 𝔽))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => (h.1 c).2, h.2⟩) (run_value (admOf m h) m ρ (admOf_holds m h))

end Cert.KernelIdeal.Experts

end
-- ==== Proof.Spec.lean ====
/- What one row of one tile is, over the extended reals, in words of neither program: the gated hidden layer of one expert and
   its output product. Both programs are shown to compute this. -/
module

public import Idealize.ShloMosaic.PureOps.Ideal
public import Idealize.ShloMosaic.PureOps.Ideal.Laws
public import Mathlib.Algebra.BigOperators.Fin

@[expose] public section

noncomputable section

namespace Cert.Experts

open Idealize.ShloMosaic

/-- The numbers both programs compute with. -/
abbrev Num : Type := Idealize.ShloMosaic.Ideal .f32

/-- The bound 7 of the two clips, its negative, the gate's slope 1.702 and one. -/
def seven : Num := Scalar.ofBits .f32 0x40E00000#32
def negSeven : Num := Scalar.ofBits .f32 0xC0E00000#32
def slope : Num := Scalar.ofBits .f32 0x3FD9DB23#32
def one : Num := Scalar.ofBits .f32 0x3F800000#32
def zero : Num := Scalar.ofBits .f32 0x00000000#32

/-- The pattern of the float zero denotes zero, that of one denotes one. -/
theorem zero_eq : zero = (0 : EReal) := IdealRules.sign_bit.ideal_zero .f32
theorem one_eq : one = (1 : EReal) := IdealRules.sign_bit.ideal_onePat .f32

/-- The gated activation of a gate `z` and a linear part `l`: `z` bounded above by 7, times the logistic function of 1.702 times
    that, times one more than `l` clipped to [−7, 7]. -/
def gate (z l : Num) : Num :=
  FloatOps.mulf (FloatOps.mulf (FloatOps.minimumf z seven) (FloatOps.logistic (FloatOps.mulf slope (FloatOps.minimumf z seven))))
    (FloatOps.addf (FloatOps.minimumf seven (FloatOps.maximumf negSeven l)) one)

/-- Column `c` of the hidden layer before the gate. -/
def hid (x : Fin 1024 → Num) (w : Fin 1024 → Fin 2048 → Num) (b : Fin 2048 → Num) (c : Fin 2048) : Num :=
  (∑ k : Fin 1024, x k * w k c) + b c

/-- Column `f` of the gated hidden layer: the gate is the first half of the columns, the linear part the second. -/
def act (x : Fin 1024 → Num) (w : Fin 1024 → Fin 2048 → Num) (b : Fin 2048 → Num) (f : Fin 1024) : Num :=
  gate (hid x w b ⟨f.val, by omega⟩) (hid x w b ⟨1024 + f.val, by omega⟩)

/-- Column `j` of a row's output. -/
def row (x : Fin 1024 → Num) (w : Fin 1024 → Fin 2048 → Num) (b : Fin 2048 → Num) (wo : Fin 1024 → Fin 1024 → Num) (bo : Fin 1024 → Num)
    (j : Fin 1024) : Num :=
  (∑ f : Fin 1024, act x w b f * wo f j) + bo j

/-- A sum over 1024 columns is the sum over the first 512 and the sum over the last 512. -/
theorem sum_halves (g : Fin 1024 → Num) :
    ∑ f : Fin 1024, g f = (∑ f : Fin 512, g ⟨f.val, by omega⟩) + ∑ f : Fin 512, g ⟨512 + f.val, by omega⟩ :=
  Fin.sum_univ_add (M := Num) (a := 512) (b := 512) g

/-- A live row's element, or zero: row `p` of the tile is live when it is below the tile's number of live rows `n`. -/
def live (p : ℕ) (n : BitVec 32) (v : Num) : Num := Scalar.select (IntOp.cmpi .slt (BitVec.ofNat 32 p) n) v zero

/-- Tile `t` is in use when it is below the number of tiles `n`; an unused tile's rows are zero. -/
def used (t : ℕ) (n : BitVec 32) (v : Num) : Num := Scalar.select (IntOp.cmpi .slt (BitVec.ofNat 32 t) n) v zero

end Cert.Experts

end
-- ==== Proof.Tile.lean ====
/- What the kernel's body computes for one tile, over the extended reals: every row is the specification's row, of the tile's
   live rows and its expert's weights. The body computes the hidden layer in two halves of 512 columns and adds the two products. -/
module

public import proofs.«01_k».proof.Proof.Spec
public import proofs.«01_k».proof.Proof.KernelIdeal.Body
public import Idealize.ShloMosaic.Lib.MatmulPlain
public import Idealize.ShloMosaic.Lib.ValueLayout

@[expose] public section

set_option maxRecDepth 16384

noncomputable section

namespace Cert.KernelIdeal.Experts

open Cert.KernelIdeal Cert.KernelIdeal.Gen Cert.Experts
open Idealize.ShloMosaic
open Idealize.ShloMosaic.ValueIdx

local notation "𝔽" => Idealize.ShloMosaic.Ideal

/-- The body's two kinds of product are plain matrix products. -/
theorem dotIn_plain : dot_S512x1024_S1024x512_S512x512_1_0_0_1_n_n = DotDims.plain 512 1024 512 := rfl
theorem dotOut_plain : dot_S512x512_S512x1024_S512x1024_1_0_0_1_n_n = DotDims.plain 512 512 1024 := rfl

theorem mulIn_apply (l : FVec 𝔽 S512x1024 .bf16) (r : FVec 𝔽 S1024x512 .bf16) (p f : Fin 512) :
    matmul dot_S512x1024_S1024x512_S512x512_1_0_0_1_n_n none l r (constant S512x512 .f32 0x00000000#32) (ix2 p f)
      = ∑ k : Fin 1024, l (ix2 p k) * r (ix2 k f) := by
  rw [dotIn_plain]
  refine (Ideal.matmul_plain_apply none l r (constant S512x512 .f32 0x00000000#32) p f).trans ?_
  rw [show (constant (F := 𝔽) S512x512 .f32 0x00000000#32 : FVec 𝔽 S512x512 .f32) (ix2 p f) = (0 : EReal) from zero_eq, zero_add]

theorem mulOut_apply (l : FVec 𝔽 S512x512 .bf16) (r : FVec 𝔽 S512x1024 .bf16) (p : Fin 512) (j : Fin 1024) :
    matmul dot_S512x512_S512x1024_S512x1024_1_0_0_1_n_n none l r (constant S512x1024 .f32 0x00000000#32) (ix2 p j)
      = ∑ f : Fin 512, l (ix2 p f) * r (ix2 f j) := by
  rw [dotOut_plain]
  refine (Ideal.matmul_plain_apply none l r (constant S512x1024 .f32 0x00000000#32) p j).trans ?_
  rw [show (constant (F := 𝔽) S512x1024 .f32 0x00000000#32 : FVec 𝔽 S512x1024 .f32) (ix2 p j) = (0 : EReal) from zero_eq, zero_add]

/-- A bias added to every row of a half of the hidden layer. -/
theorem biasIn_apply (b : Vec 𝔽 S1x1x512 .f32) (p f : Fin 512) :
    broadcastTo S512x512 (shapeCast S1x512 b shapeCasts_S1x1x512_S1x512) broadcasts_S1x512_S512x512 (ix2 p f) = b (ix3 (0 : Fin 1) (0 : Fin 1) f) := by
  rw [broadcastTo_apply _ broadcasts_S1x512_S512x512 (ix2 p f) (ix2 (0 : Fin 1) f) (fun d => by fin_cases d <;> rfl)]
  exact shapeCast_1ab_ab_apply b shapeCasts_S1x1x512_S1x512 (0 : Fin 1) f

theorem biasOut_apply (b : Vec 𝔽 S1x1x1024 .f32) (p : Fin 512) (j : Fin 1024) :
    broadcastTo S512x1024 (shapeCast S1x1024 b shapeCasts_S1x1x1024_S1x1024) broadcasts_S1x1024_S512x1024 (ix2 p j) = b (ix3 (0 : Fin 1) (0 : Fin 1) j) := by
  rw [broadcastTo_apply _ broadcasts_S1x1024_S512x1024 (ix2 p j) (ix2 (0 : Fin 1) j) (fun d => by fin_cases d <;> rfl)]
  exact shapeCast_1ab_ab_apply b shapeCasts_S1x1x1024_S1x1024 (0 : Fin 1) j

/-- The tile's rows, those past the live ones zero. -/
theorem rows_apply (x : Vec 𝔽 S512x1x1024 .f32) (n : BitVec 32) (p : Fin 512) (k : Fin 1024) :
    k0_pay5 x n (ix2 p k) = live p.val n (x (ix3 p (0 : Fin 1) k)) := by
  have hc : shapeCast S512x1024 x shapeCasts_S512x1x1024_S512x1024 (ix2 p k) = x (ix3 p (0 : Fin 1) k) :=
    shapeCast_apply x _ _ _ (by
      rw [Shape.rowMajor_val_three, Shape.rowMajor_val_two]
      show (p.val * 1 + 0) * 1024 + k.val = p.val * 1024 + k.val
      omega)
  have hi : iota .tc S512x1024 32 [0] iota_S512x1024_d0_w32 (ix2 p k) = BitVec.ofNat 32 p.val := iota_single_apply .tc S512x1024 32 (0 : Fin 2) _ _
  show Scalar.select (IntOp.cmpi .slt (iota .tc S512x1024 32 [0] iota_S512x1024_d0_w32 (ix2 p k)) n)
    (shapeCast S512x1024 x shapeCasts_S512x1x1024_S512x1024 (ix2 p k)) zero = _
  rw [hi, hc]
  rfl

/-- Half of the hidden layer: from the rows and the half's columns of the weights and biases. -/
theorem half_apply (x : Vec 𝔽 S512x1x1024 .f32) (n : BitVec 32) (wg : Vec 𝔽 S1024x512 .bf16) (bg : Vec 𝔽 S1x1x512 .f32)
    (wl : Vec 𝔽 S1024x512 .bf16) (bl : Vec 𝔽 S1x1x512 .f32) (p f : Fin 512) :
    k0_pay6 x n wg bg wl bl (ix2 p f)
      = gate ((∑ k : Fin 1024, live p.val n (x (ix3 p (0 : Fin 1) k)) * wg (ix2 k f)) + bg (ix3 (0 : Fin 1) (0 : Fin 1) f))
        ((∑ k : Fin 1024, live p.val n (x (ix3 p (0 : Fin 1) k)) * wl (ix2 k f)) + bl (ix3 (0 : Fin 1) (0 : Fin 1) f)) := by
  simp only [← rows_apply]
  rw [← mulIn_apply (k0_pay5 x n) wg p f, ← mulIn_apply (k0_pay5 x n) wl p f, ← biasIn_apply bg p f, ← biasIn_apply bl p f]
  rfl

/-- The tile is the first half of the hidden layer times the first half of the output weights' rows, plus the second by the
    second, plus the output bias. -/
theorem tile_eq (x : Vec 𝔽 S512x1x1024 .f32) (n : BitVec 32) (v54 : FVec 𝔽 S512x512 .bf16) (w0 : FVec 𝔽 S512x1024 .bf16)
    (wg : Vec 𝔽 S1024x512 .bf16) (bg : Vec 𝔽 S1x1x512 .f32) (wl : Vec 𝔽 S1024x512 .bf16) (bl : Vec 𝔽 S1x1x512 .f32)
    (w1 : FVec 𝔽 S512x1024 .bf16) (bo : Vec 𝔽 S1x1x1024 .f32) :
    k0_pay7 (k0_pay5 x n) v54 w0 wg bg wl bl w1 bo
      = addf (addf (matmul dot_S512x512_S512x1024_S512x1024_1_0_0_1_n_n none v54 w0 (constant S512x1024 .f32 0x00000000#32))
          (matmul dot_S512x512_S512x1024_S512x1024_1_0_0_1_n_n none (k0_pay6 x n wg bg wl bl) w1 (constant S512x1024 .f32 0x00000000#32)))
        (broadcastTo S512x1024 (shapeCast S1x1024 bo shapeCasts_S1x1x1024_S1x1024) broadcasts_S1x1024_S512x1024) := rfl

/-- A sum of three arrays, read at an index. -/
theorem add3_apply (A B C : FVec 𝔽 S512x1024 .f32) (i : S512x1024.Idx) : addf (addf A B) C i = (A i + B i) + C i := rfl

/-- A part of a weight matrix, read at its own index. -/
theorem part2_apply {M N m n : ℕ} {e : EltTy} (s : (⟨2, ![M, N]⟩ : Shape).Idx → Elt 𝔽 e) (r0 c0 : ℕ)
    (h : ∀ a, (![r0, c0] : Fin 2 → ℕ) a + (⟨2, ![m, n]⟩ : Shape).size a ≤ (⟨2, ![M, N]⟩ : Shape).size a) (k : Fin m) (f : Fin n) (k' : Fin M) (f' : Fin N)
    (hk : k'.val = r0 + k.val) (hf : f'.val = c0 + f.val) :
    part s ![r0, c0] (⟨2, ![m, n]⟩ : Shape).size h (ix2 k f) = s (ix2 k' f') := by
  refine congrArg s (funext fun d => Fin.ext ?_)
  rw [LoadRect.idx_apply]
  fin_cases d
  · show r0 + 1 * k.val = k'.val; omega
  · show c0 + 1 * f.val = f'.val; omega

/-- A part of a bias, or of the rows, read at its own index. -/
theorem part3_apply {L N l n : ℕ} {e : EltTy} (s : (⟨3, ![L, 1, N]⟩ : Shape).Idx → Elt 𝔽 e) (c0 : ℕ)
    (h : ∀ a, (![0, 0, c0] : Fin 3 → ℕ) a + (⟨3, ![l, 1, n]⟩ : Shape).size a ≤ (⟨3, ![L, 1, N]⟩ : Shape).size a) (p : Fin l) (f : Fin n) (p' : Fin L) (f' : Fin N)
    (hp : p'.val = p.val) (hf : f'.val = c0 + f.val) :
    part s ![0, 0, c0] (⟨3, ![l, 1, n]⟩ : Shape).size h (ix3 p (0 : Fin 1) f) = s (ix3 p' (0 : Fin 1) f') := by
  refine congrArg s (funext fun d => Fin.ext ?_)
  rw [LoadRect.idx_apply]
  fin_cases d
  · show 0 + 1 * p.val = p'.val; omega
  · show 0 + 1 * 0 = 0; omega
  · show c0 + 1 * f.val = f'.val; omega

/-- THE TILE: row `p`, column `j` of a computed tile is the specification's row. -/
theorem tileOut_apply (n : BitVec 32) (x0 : S512x1x1024.Idx → Elt 𝔽 .f32) (s0 : S1024x2048.Idx → Elt 𝔽 .bf16) (x2 : S1x1x2048.Idx → Elt 𝔽 .f32)
    (s1 : S1024x1024.Idx → Elt 𝔽 .bf16) (x4 : S1x1x1024.Idx → Elt 𝔽 .f32) (p : Fin 512) (j : Fin 1024) :
    tileOut n x0 s0 x2 s1 x4 (ix3 p (0 : Fin 1) j)
      = row (fun k => live p.val n (x0 (ix3 p (0 : Fin 1) k))) (fun k c => s0 (ix2 k c)) (fun c => x2 (ix3 (0 : Fin 1) (0 : Fin 1) c))
          (fun f j => s1 (ix2 f j)) (fun j => x4 (ix3 (0 : Fin 1) (0 : Fin 1) j)) j := by
  unfold tileOut k0_pay3
  rw [shapeCast_apply _ shapeCasts_S512x1024_S512x1x1024 (ix3 p (0 : Fin 1) j) (ix2 p j) (by
    rw [Shape.rowMajor_val_three, Shape.rowMajor_val_two]
    show p.val * 1024 + j.val = (p.val * 1 + 0) * 1024 + j.val
    omega), tile_eq]
  rw [add3_apply, mulOut_apply, mulOut_apply, biasOut_apply]
  unfold row
  rw [sum_halves]
  have hx : ∀ k : Fin 1024, part x0 ![0, 0, 0] S512x1x1024.size inb_S512x1x1024_S512x1x1024_0_0_0 (ix3 p (0 : Fin 1) k) = x0 (ix3 p (0 : Fin 1) k) :=
    fun k => part3_apply (L := 512) (N := 1024) (l := 512) (n := 1024) x0 0 _ p k p k rfl (by omega)
  congr 1
  · congr 1
    · refine Finset.sum_congr rfl fun f _ => ?_
      rw [half_apply]
      congr 1
      · unfold act hid
        congr 1
        · congr 1
          · refine Finset.sum_congr rfl fun k _ => ?_
            rw [hx]
            exact congrArg _ (part2_apply (M := 1024) (N := 2048) (m := 1024) (n := 512) s0 0 0 _ k f k ⟨f.val, by omega⟩ (by omega) (by show f.val = _; omega))
          · exact part3_apply (L := 1) (N := 2048) (l := 1) (n := 512) x2 0 _ 0 f 0 ⟨f.val, by omega⟩ rfl (by show f.val = _; omega)
        · congr 1
          · refine Finset.sum_congr rfl fun k _ => ?_
            rw [hx]
            exact congrArg _ (part2_apply (M := 1024) (N := 2048) (m := 1024) (n := 512) s0 0 1024 _ k f k ⟨1024 + f.val, by omega⟩ (by omega) rfl)
          · exact part3_apply (L := 1) (N := 2048) (l := 1) (n := 512) x2 1024 _ 0 f 0 ⟨1024 + f.val, by omega⟩ rfl rfl
      · exact part2_apply (M := 1024) (N := 1024) (m := 512) (n := 1024) s1 0 0 _ f j ⟨f.val, by omega⟩ j (by show f.val = _; omega) (by omega)
    · refine Finset.sum_congr rfl fun f _ => ?_
      rw [half_apply]
      congr 1
      · unfold act hid
        congr 1
        · congr 1
          · refine Finset.sum_congr rfl fun k _ => ?_
            rw [hx]
            exact congrArg _ (part2_apply (M := 1024) (N := 2048) (m := 1024) (n := 512) s0 0 512 _ k f k ⟨512 + f.val, by omega⟩ (by omega) rfl)
          · exact part3_apply (L := 1) (N := 2048) (l := 1) (n := 512) x2 512 _ 0 f 0 ⟨512 + f.val, by omega⟩ rfl rfl
        · congr 1
          · refine Finset.sum_congr rfl fun k _ => ?_
            rw [hx]
            exact congrArg _ (part2_apply (M := 1024) (N := 2048) (m := 1024) (n := 512) s0 0 1536 _ k f k ⟨1024 + (512 + f.val), by omega⟩ (by omega) (by show 1024 + (512 + f.val) = _; omega))
          · exact part3_apply (L := 1) (N := 2048) (l := 1) (n := 512) x2 1536 _ 0 f 0 ⟨1024 + (512 + f.val), by omega⟩ rfl (by show 1024 + (512 + f.val) = _; omega)
      · exact part2_apply (M := 1024) (N := 1024) (m := 512) (n := 1024) s1 512 0 _ f j ⟨512 + f.val, by omega⟩ j rfl (by omega)
  · exact part3_apply (L := 1) (N := 1024) (l := 1) (n := 1024) x4 0 _ 0 j 0 j rfl (by omega)

end Cert.KernelIdeal.Experts

end
-- ==== Proof.KernelIdeal.Value.lean ====
/- What the expert call leaves in its result, over the extended reals: every row of every tile is the specification's row where
   the tile is in use, and zero elsewhere.

   Point `t` reads rows `512·t …` of the dispatched rows when the tile is in use (an unused tile re-reads the last used one's
   rows, and ignores them), and the weights of the expert the first table names. Its block is rows `512·t …` of the result; the
   288 blocks are the whole of it. -/
module

public import proofs.«01_k».proof.Proof.KernelIdeal.Tables
public import proofs.«01_k».proof.Proof.Tile

@[expose] public section

set_option maxRecDepth 16384
set_option Elab.async false

noncomputable section

namespace Cert.KernelIdeal.Experts

open Cert.KernelIdeal Cert.KernelIdeal.Gen Cert.Experts
open Idealize.ShloMosaic hiding ix1 ix2 ix3
open Idealize.ShloMosaic.TcCoe Idealize.ShloMosaic.Tactic
open Idealize.SL.Sem
open Idealize.ShloMosaic.ValueIdx

local notation "𝔽" => Idealize.ShloMosaic.Ideal

variable (a : (pcfg0 (F := 𝔽)).Adm)
variable (m : (ℓ : Loc nD τ sig) → Buf (Elt 𝔽) ℓ) (ρ : Dev nD → PrngReg)

/-- The tables' words are read at the point's own number. -/
theorem off1_val : ∀ t : Fin grid0.N, k0_off1 (grid0.coords t) 0 = t.val := by decide +kernel
theorem off7_val : ∀ t : Fin grid0.N, k0_off7 (grid0.coords t) 0 = t.val := by decide +kernel

theorem wordAt_eq (T : S288.Idx → Elt 𝔽 .i32) (t : Fin grid0.N) :
    wordAt T (k0_off1 (grid0.coords t)) (k0_off1_inb _) = T (ix1 (t : Fin 288)) :=
  congrArg T (funext fun d => Fin.ext (by
    fin_cases d
    show k0_off1 (grid0.coords t) 0 + 1 * 0 = t.val
    rw [off1_val]; omega))
theorem wordL_eq (T : S288.Idx → Elt 𝔽 .i32) (t : Fin grid0.N) : wordL T (grid0.coords t) = T (ix1 (t : Fin 288)) :=
  congrArg T (funext fun d => Fin.ext (by
    fin_cases d
    show k0_off7 (grid0.coords t) 0 + 1 * 0 = t.val
    rw [off7_val]; omega))
theorem wordN_eq (T : S1.Idx → Elt 𝔽 .i32) : wordN T = T (ix1 (0 : Fin 1)) :=
  congrArg T (funext fun d => Fin.ext (by fin_cases d; rfl))

/-- A point's number as a word is the number. -/
theorem coord_word : ∀ t : Fin grid0.N, (BitVec.ofNat 32 (grid0.coords t 0).val).toNat = t.val := by
  intro t
  have := t.isLt
  have h : t.val < 288 := this
  rw [coord_val, BitVec.toNat_ofNat]; omega

/-- Where each window's block lies in its array. -/
theorem emb0_val (t : Fin grid0.N) (y : S512x1x1024.Idx) (d : Fin 3) :
    ((((cfgA a).win (0 : Fin 6)).blk t).view.emb y d : ℕ)
      = (![(Scalar.minsi (BitVec.ofNat 32 (grid0.coords t 0).val) (Scalar.subi (wordN (tabN a)) 1#32)).toNat, 0, 0] : Fin 3 → ℕ) d * (![512, 1, 1024] : Fin 3 → ℕ) d + y d :=
  Pipeline.Window.rect_emb_val ((cfgA a).win (0 : Fin 6)) t y d rfl
theorem emb2_val (t : Fin grid0.N) (y : S1x1x2048.Idx) (d : Fin 3) :
    ((((cfgA a).win (2 : Fin 6)).blk t).view.emb y d : ℕ)
      = (![(wordAt (tabE a) (k0_off1 (grid0.coords t)) (k0_off1_inb _)).toNat, 0, 0] : Fin 3 → ℕ) d * (![1, 1, 2048] : Fin 3 → ℕ) d + y d :=
  Pipeline.Window.rect_emb_val ((cfgA a).win (2 : Fin 6)) t y d rfl
theorem emb4_val (t : Fin grid0.N) (y : S1x1x1024.Idx) (d : Fin 3) :
    ((((cfgA a).win (4 : Fin 6)).blk t).view.emb y d : ℕ)
      = (![(wordAt (tabE a) (k0_off1 (grid0.coords t)) (k0_off1_inb _)).toNat, 0, 0] : Fin 3 → ℕ) d * (![1, 1, 1024] : Fin 3 → ℕ) d + y d :=
  Pipeline.Window.rect_emb_val ((cfgA a).win (4 : Fin 6)) t y d rfl
theorem emb5_val (t : Fin grid0.N) (y : S512x1x1024.Idx) (d : Fin 3) :
    ((((cfgA a).win (5 : Fin 6)).blk t).view.emb y d : ℕ)
      = (![(BitVec.ofNat 32 (grid0.coords t 0).val).toNat, 0, 0] : Fin 3 → ℕ) d * (![512, 1, 1024] : Fin 3 → ℕ) d + y d :=
  Pipeline.Window.rect_emb_val ((cfgA a).win (5 : Fin 6)) t y d rfl

variable (c : Dev nD) (hE : ∀ x, (tabE a x : BitVec 32).toNat < 32)

/-- The arguments as arrays. -/
abbrev arg3 : S147456x1x1024.Idx → Elt 𝔽 .f32 := m ((c.tc : Thread nD τ).loc main_arg3)
abbrev arg4 : S32x1024x2048.Idx → Elt 𝔽 .f32 := m ((c.tc : Thread nD τ).loc main_arg4)
abbrev arg5 : S32x1x2048.Idx → Elt 𝔽 .f32 := m ((c.tc : Thread nD τ).loc main_arg5)
abbrev arg6 : S32x1024x1024.Idx → Elt 𝔽 .f32 := m ((c.tc : Thread nD τ).loc main_arg6)
abbrev arg7 : S32x1x1024.Idx → Elt 𝔽 .f32 := m ((c.tc : Thread nD τ).loc main_arg7)

/-- The expert of point `t`. -/
abbrev expertAt (t : Fin 288) : Fin 32 := ⟨(tabE a (ix1 t) : BitVec 32).toNat, hE _⟩

/-- The expert's blocks are its slabs of the weights and the biases. -/
theorem block1 (t : Fin grid0.N) (k : Fin 1024) (f : Fin 2048) :
    wIn a m ρ c t (ix3 (0 : Fin 1) k f) = arg4 m c (ix3 (expertAt a hE t) k f) := by
  refine congrArg (arg4 m c) (funext fun d => Fin.ext ((emb1_val a t _ d).trans ?_))
  rw [wordAt_eq]
  fin_cases d
  · show _ * 1 + 0 = _; simp
  · show 0 * 1024 + k.val = k.val; omega
  · show 0 * 2048 + f.val = f.val; omega
theorem block2 (t : Fin grid0.N) (f : Fin 2048) :
    (iblk a m ρ c (2 : Fin 6) t : S1x1x2048.Idx → Elt 𝔽 .f32) (ix3 (0 : Fin 1) (0 : Fin 1) f) = arg5 m c (ix3 (expertAt a hE t) (0 : Fin 1) f) := by
  refine congrArg (arg5 m c) (funext fun d => Fin.ext ((emb2_val a t _ d).trans ?_))
  rw [wordAt_eq]
  fin_cases d
  · show _ * 1 + 0 = _; simp
  · rfl
  · show 0 * 2048 + f.val = f.val; omega
theorem block3 (t : Fin grid0.N) (k : Fin 1024) (f : Fin 1024) :
    wOut a m ρ c t (ix3 (0 : Fin 1) k f) = arg6 m c (ix3 (expertAt a hE t) k f) := by
  refine congrArg (arg6 m c) (funext fun d => Fin.ext ((emb3_val a t _ d).trans ?_))
  rw [wordAt_eq]
  fin_cases d
  · show _ * 1 + 0 = _; simp
  · show 0 * 1024 + k.val = k.val; omega
  · show 0 * 1024 + f.val = f.val; omega
theorem block4 (t : Fin grid0.N) (f : Fin 1024) :
    (iblk a m ρ c (4 : Fin 6) t : S1x1x1024.Idx → Elt 𝔽 .f32) (ix3 (0 : Fin 1) (0 : Fin 1) f) = arg7 m c (ix3 (expertAt a hE t) (0 : Fin 1) f) := by
  refine congrArg (arg7 m c) (funext fun d => Fin.ext ((emb4_val a t _ d).trans ?_))
  rw [wordAt_eq]
  fin_cases d
  · show _ * 1 + 0 = _; simp
  · rfl
  · show 0 * 1024 + f.val = f.val; omega

/-- A tile in use reads its own rows: its number is at most the last used one's. -/
theorem row_word_eq (k : ℕ) (hk : k < 288) (n : BitVec 32) (h : (BitVec.ofNat 32 k).slt n = true) :
    (Scalar.minsi (BitVec.ofNat 32 k) (Scalar.subi n 1#32)).toNat = k := by
  have hkn : (BitVec.ofNat 32 k).toNat = k := by rw [BitVec.toNat_ofNat]; omega
  rw [BitVec.slt_eq_decide, decide_eq_true_eq, BitVec.toInt_eq_toNat_cond, BitVec.toInt_eq_toNat_cond, hkn] at h
  have hb : k < n.toNat ∧ n.toNat < 2147483648 := by
    have := n.isLt
    split at h <;> split at h <;> omega
  have hs : (Scalar.subi n 1#32).toNat = n.toNat - 1 := by
    simp only [Scalar.subi, IntOp.subi]; bv_omega
  simp only [Scalar.minsi, IntOp.minsi]
  split
  · exact hkn
  · rename_i h'
    rw [Bool.not_eq_true, BitVec.slt_eq_decide, decide_eq_false_iff_not, BitVec.toInt_eq_toNat_cond, BitVec.toInt_eq_toNat_cond, hs, hkn] at h'
    rw [hs]
    split at h' <;> split at h' <;> omega
theorem block0 (t : Fin grid0.N) (h : (BitVec.ofNat 32 t.val).slt (tabN a (ix1 (0 : Fin 1))) = true) (p : Fin 512) (k : Fin 1024)
    (r : Fin 147456) (hr : r.val = t.val * 512 + p.val) :
    (iblk a m ρ c (0 : Fin 6) t : S512x1x1024.Idx → Elt 𝔽 .f32) (ix3 p (0 : Fin 1) k) = arg3 m c (ix3 r (0 : Fin 1) k) := by
  refine congrArg (arg3 m c) (funext fun d => Fin.ext ((emb0_val a t _ d).trans ?_))
  rw [wordN_eq, coord_val, row_word_eq t.val t.isLt _ h]
  fin_cases d
  · show t.val * 512 + p.val = r.val; omega
  · rfl
  · show 0 * 1024 + k.val = k.val; omega

/-- The point computes its tile exactly when the tile is in use. -/
theorem cond2_iff (i : grid0.Coords) (n : BitVec 32) : k0_cond2 i n = 1#1 ↔ (BitVec.ofNat 32 (i 0).val).slt n = true := by
  unfold k0_cond2
  simp only [Scalar.cmpi, Scalar.extui, IntOp.cmpi]
  cases (BitVec.ofNat 32 (i 0).val).slt n <;> decide

/-- Row `p` of the tile of point `t`. -/
theorem tileAt_apply (t : Fin grid0.N) (p : Fin 512) (j : Fin 1024) (r : Fin 147456) (hr : r.val = t.val * 512 + p.val) :
    tileAt a m ρ c t (ix3 p (0 : Fin 1) j)
      = used t.val (tabN a (ix1 (0 : Fin 1))) (row (fun k => live p.val (tabL a (ix1 (t : Fin 288))) (arg3 m c (ix3 r (0 : Fin 1) k)))
          (fun k f => arg4 m c (ix3 (expertAt a hE t) k f)) (fun f => arg5 m c (ix3 (expertAt a hE t) (0 : Fin 1) f))
          (fun f j => arg6 m c (ix3 (expertAt a hE t) f j)) (fun j => arg7 m c (ix3 (expertAt a hE t) (0 : Fin 1) j)) j) := by
  unfold tileAt tileNext used
  by_cases h : (BitVec.ofNat 32 t.val).slt (tabN a (ix1 (0 : Fin 1))) = true
  · rw [if_pos ((cond2_iff _ _).2 (by rw [wordN_eq, coord_val]; exact h)), tileOut_apply, wordL_eq]
    have hs : IntOp.cmpi .slt (BitVec.ofNat 32 t.val) (tabN a (ix1 (0 : Fin 1))) = 1#1 := by
      show BitVec.ofBool _ = _; rw [h]; rfl
    rw [hs]
    refine Eq.trans ?_ (if_pos rfl).symm
    have e0 : (fun k : Fin 1024 => live p.val (tabL a (ix1 (t : Fin 288))) ((iblk a m ρ c (0 : Fin 6) t : S512x1x1024.Idx → Elt 𝔽 .f32) (ix3 p (0 : Fin 1) k)))
        = fun k => live p.val (tabL a (ix1 (t : Fin 288))) (arg3 m c (ix3 r (0 : Fin 1) k)) :=
      funext fun k => congrArg (live p.val _) (block0 a m ρ c t h p k r hr)
    have e1 : (fun (k : Fin 1024) (f : Fin 2048) => castIn (wIn a m ρ c t) (ix2 k f)) = fun k f => arg4 m c (ix3 (expertAt a hE t) k f) :=
      funext fun k => funext fun f => block1 a m ρ c hE t k f
    have e2 := funext fun f => block2 a m ρ c hE t f
    have e3 : (fun (k : Fin 1024) (f : Fin 1024) => castOut (wOut a m ρ c t) (ix2 k f)) = fun k f => arg6 m c (ix3 (expertAt a hE t) k f) :=
      funext fun k => funext fun f => block3 a m ρ c hE t k f
    have e4 := funext fun f => block4 a m ρ c hE t f
    rw [e1, e3]
    erw [e0, e2, e4]
  · rw [if_neg (fun h' => h (by have := (cond2_iff _ _).1 h'; rwa [wordN_eq, coord_val] at this))]
    have hs : IntOp.cmpi .slt (BitVec.ofNat 32 t.val) (tabN a (ix1 (0 : Fin 1))) = 0#1 := by
      show BitVec.ofBool _ = _; rw [Bool.not_eq_true] at h; rw [h]; rfl
    rw [hs]
    rfl

/-- The result's block index at point `t`. -/
theorem index5 (t : Fin grid0.N) : ((cfgA a).win (5 : Fin 6)).index t = (![(BitVec.ofNat 32 (grid0.coords t 0).val).toNat, 0, 0] : Fin 3 → ℕ) := rfl

/-- Every point's block is written back: the next point's block is another. -/
theorem flush5 (t : Fin grid0.N) : ((cfgA a).win (5 : Fin 6)).flush t = true := by
  refine (Pipeline.Window.flush_out ((cfgA a).win (5 : Fin 6)) rfl t).2 ?_
  by_cases h : t.val + 1 = grid0.N
  · exact .inl h
  · refine .inr ⟨by have := t.isLt; show t.val + 1 < grid0.N; omega, fun e => ?_⟩
    rw [index5, index5] at e
    have e0 := congrFun e (0 : Fin 3)
    simp only [Matrix.cons_val_zero] at e0
    rw [coord_word, coord_word] at e0
    simp at e0

/-- THE RESULT: an array whose rows are the specification's rows is what the call leaves. -/
theorem result_eq (G : S147456x1x1024.Idx → Elt 𝔽 .f32)
    (hG : ∀ (t : Fin 288) (p : Fin 512) (j : Fin 1024) (r : Fin 147456), r.val = t.val * 512 + p.val → G (ix3 r (0 : Fin 1) j)
      = used t.val (tabN a (ix1 (0 : Fin 1))) (row (fun k => live p.val (tabL a (ix1 (t : Fin 288))) (arg3 m c (ix3 r (0 : Fin 1) k)))
          (fun k f => arg4 m c (ix3 (expertAt a hE t) k f)) (fun f => arg5 m c (ix3 (expertAt a hE t) (0 : Fin 1) f))
          (fun f j => arg6 m c (ix3 (expertAt a hE t) f j)) (fun j => arg7 m c (ix3 (expertAt a hE t) (0 : Fin 1) j)) j)) :
    (dats a m ρ 0 c).arrAt (5 : Fin 6) (cfgA a).N = G := by
  refine (dats a m ρ 0 c).arrAt_eq_of_emb (5 : Fin 6) G (fun t _ y => ?_) (fun i => ?_)
  · obtain ⟨p, j, rfl⟩ : ∃ (p : Fin 512) (j : Fin 1024), y = ix3 p (0 : Fin 1) j :=
      ⟨y (0 : Fin 3), y (2 : Fin 3), funext fun d => by
        fin_cases d
        · rfl
        · exact Subsingleton.elim (α := Fin 1) _ _
        · rfl⟩
    have ht : t.val < 288 := t.isLt
    have hp := p.isLt
    refine (tileAt_apply a m ρ c hE t p j ⟨t.val * 512 + p.val, by omega⟩ rfl).trans ?_
    refine (hG t p j ⟨t.val * 512 + p.val, by omega⟩ rfl).symm.trans (congrArg G (funext fun d => Fin.ext (Eq.trans ?_ (emb5_val a t _ d).symm)))
    rw [coord_word]
    fin_cases d
    · rfl
    · rfl
    · show j.val = 0 * 1024 + j.val; omega
  · have h0 : (i (0 : Fin 3)).val < 147456 := (i (0 : Fin 3)).isLt
    have h1 : (i (1 : Fin 3)).val < 1 := (i (1 : Fin 3)).isLt
    have h2 : (i (2 : Fin 3)).val < 1024 := (i (2 : Fin 3)).isLt
    have ht : (i (0 : Fin 3)).val / 512 < 288 := by omega
    let t : Fin grid0.N := ⟨(i (0 : Fin 3)).val / 512, ht⟩
    refine ⟨t, flush5 a t, Finset.mem_map.2 ⟨ix3 (⟨(i (0 : Fin 3)).val % 512, Nat.mod_lt _ (by decide)⟩ : Fin 512) (0 : Fin 1) (⟨(i (2 : Fin 3)).val, h2⟩ : Fin 1024),
      Finset.mem_univ _, funext fun d => Fin.ext ((emb5_val a t _ d).trans ?_)⟩⟩
    rw [coord_word]
    fin_cases d
    · show (i (0 : Fin 3)).val / 512 * 512 + (i (0 : Fin 3)).val % 512 = (i (0 : Fin 3)).val; omega
    · show 0 * 1 + 0 = (i (1 : Fin 3)).val; omega
    · show 0 * 1024 + (i (2 : Fin 3)).val = (i (2 : Fin 3)).val; omega

end Cert.KernelIdeal.Experts

end
-- ==== Proof.Reference.Run.lean ====
/- The reference runs and leaves its arguments and every counter as they were: it declares no semaphore. -/
module

public import proofs.«01_k».proof.Proof.Gen.ReferenceIdeal.Run
public import Idealize.ShloMosaic.Lib.Quiescent
public import Idealize.ShloMosaic.PureOps.Ideal

@[expose] public section

noncomputable section

namespace Cert.ReferenceIdeal.Experts

open Cert.ReferenceIdeal Cert.ReferenceIdeal.Gen
open Idealize.ShloMosaic Idealize.ShloMosaic.TcCoe Idealize.SL.Sem

local notation "𝔽" => Idealize.ShloMosaic.Ideal

/-- THE FRAME of the reference. -/
theorem quiescent (m : (ℓ : Loc nD τ sig) → Buf (Elt 𝔽) ℓ) (ρ : Dev nD → PrngReg) :
    θ_run (defs (F := 𝔽)) (onTc (τ := τ) (main (F := 𝔽))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => (h c).2, sem_eq_zero_of_no_sems (by decide) r.2⟩) (Cert.ReferenceIdeal.Value.run m ρ)

end Cert.ReferenceIdeal.Experts

end
-- ==== Proof.Reference.Gather.lean ====
/- A gather of whole slabs of an array along its first axis, one slab number per result slab, read at an index: what `x[idx]` of a
   rank-3 array at a vector of slab numbers does. -/
module

public import Idealize.ShloMosaic.Lib.ValueIdx
public import Idealize.ShloMosaic.PureOps.ShapeOps

@[expose] public section

noncomputable section

namespace Cert.Experts

open Idealize.ShloMosaic Idealize.ShloMosaic.ValueIdx

/-- The dimension numbers of that gather, for `N` slabs of `A` rows and `B` columns and `T` slab numbers. -/
abbrev slabDims (N A B T : ℕ)
    (wf : GatherDims.WF ⟨3, ![N, A, B]⟩ ⟨2, ![T, 1]⟩ ⟨3, ![T, A, B]⟩ [1, 2] [0] [] [0] [] 1 ![1, A, B]) :
    GatherDims ⟨3, ![N, A, B]⟩ ⟨2, ![T, 1]⟩ ⟨3, ![T, A, B]⟩ where
  offsetDims := [1, 2]
  collapsedSliceDims := [0]
  operandBatchingDims := []
  startIndicesBatchingDims := []
  startIndexMap := [0]
  indexVectorDim := 1
  sliceSizes := ![1, A, B]
  wf := wf

/-- Slab `t` of the result is the slab of the operand that the `t`-th number names, read signed and clamped into range. -/
theorem gather_slab_apply {α : Type} {N A B T : ℕ} (hN : 0 < N)
    (wf : GatherDims.WF ⟨3, ![N, A, B]⟩ ⟨2, ![T, 1]⟩ ⟨3, ![T, A, B]⟩ [1, 2] [0] [] [0] [] 1 ![1, A, B])
    (x : (⟨3, ![N, A, B]⟩ : Shape).Idx → α) (idx : IVec ⟨2, ![T, 1]⟩ 32) (t : Fin T) (k : Fin A) (c : Fin B) :
    Host.gather (slabDims N A B T wf) x idx (ix3 t k c)
      = x (ix3 ⟨min (idx (ix2 t (0 : Fin 1))).toInt.toNat (N - 1), by omega⟩ k c) := by
  unfold Host.gather
  refine congrArg x (funext fun a => Fin.ext ?_)
  show (slabDims N A B T wf).start (ix3 t k c) idx a + (slabDims N A B T wf).batchCoord (ix3 t k c) a
    + (slabDims N A B T wf).offCoord (ix3 t k c) a = _
  rw [GatherDims.batchCoord_eq_zero _ _ _ List.not_mem_nil, Nat.add_zero]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  have zero_not : ∀ b : Fin 3, b ≠ 0 → b ∉ (slabDims N A B T wf).startIndexMap := fun b hb h => hb (List.mem_singleton.mp h)
  have kept : ∀ b : Fin 3, b ≠ 0 → b ∈ (slabDims N A B T wf).sKept := fun b hb =>
    (GatherDims.mem_sKept _ _).mpr ⟨fun h => hb (List.mem_singleton.mp h), List.not_mem_nil⟩
  rcases h012 with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (slabDims N A B T wf).startIndexMap from List.mem_singleton.mpr rfl)]
    have hsi : (slabDims N A B T wf).siIdx (ix3 t k c) ⟨List.idxOf (0 : Fin 3) (slabDims N A B T wf).startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    rw [hsi]
    rfl
  · unfold GatherDims.start GatherDims.offCoord
    rw [dif_neg (zero_not 1 (by decide)), dif_pos (kept 1 (by decide)), Nat.zero_add]
    rfl
  · unfold GatherDims.start GatherDims.offCoord
    rw [dif_neg (zero_not 2 (by decide)), dif_pos (kept 2 (by decide)), Nat.zero_add]
    rfl

/-- A slab number below 32 is not wrapped: it is not negative. -/
theorem wrap_self (w : BitVec 32) (h : w.toNat < 32) : Scalar.select (IntOp.cmpi .slt w 0#32) (IntOp.addi w 32#32) w = w := by
  have hs : w.slt 0#32 = false := by
    rw [BitVec.slt_eq_decide, decide_eq_false_iff_not, BitVec.toInt_eq_toNat_cond]
    simp only [BitVec.toInt_zero]
    split <;> omega
  show (if BitVec.ofBool (w.slt 0#32) = 1#1 then _ else w) = w
  rw [hs]
  rfl

/-- Nor clamped: it is below 32. -/
theorem clamp_self (w : BitVec 32) (h : w.toNat < 32) : min w.toInt.toNat (32 - 1) = w.toNat := by
  rw [BitVec.toInt_eq_toNat_cond]
  split <;> omega

end Cert.Experts

end
-- ==== Proof.Reference.Value.lean ====
/- What the reference computes, over the extended reals: every row of every tile is the specification's row, of the tile's live
   rows and the weights of the expert the table names for it. -/
module

public import proofs.«01_k».proof.Proof.Spec
public import proofs.«01_k».proof.Proof.Reference.Gather
public import proofs.«01_k».proof.Proof.Gen.ReferenceIdeal.Read

@[expose] public section

set_option maxRecDepth 16384

noncomputable section

namespace Cert.ReferenceIdeal.Experts

open Cert.ReferenceIdeal Cert.ReferenceIdeal.Gen Cert.ReferenceIdeal.Read Cert.Experts
open Idealize.ShloMosaic Idealize.ShloMosaic.ValueIdx

local notation "𝔽" => Idealize.ShloMosaic.Ideal

variable (x0 x1 : (⟨S288, .i32⟩ : BufTy).Contents (Elt 𝔽)) (x2 : (⟨S1, .i32⟩ : BufTy).Contents (Elt 𝔽))
  (x3 : (⟨S147456x1x1024, .f32⟩ : BufTy).Contents (Elt 𝔽)) (x4 : (⟨S32x1024x2048, .f32⟩ : BufTy).Contents (Elt 𝔽))
  (x5 : (⟨S32x1x2048, .f32⟩ : BufTy).Contents (Elt 𝔽)) (x6 : (⟨S32x1024x1024, .f32⟩ : BufTy).Contents (Elt 𝔽))
  (x7 : (⟨S32x1x1024, .f32⟩ : BufTy).Contents (Elt 𝔽))

/-- The expert of tile `t`. -/
abbrev expert (h0 : ∀ x, (x0 x : BitVec 32).toNat < 32) (t : Fin 288) : Fin 32 := ⟨(x0 (ix1 t) : BitVec 32).toNat, h0 _⟩

/-- A tile's slab number is its expert: it is neither wrapped nor clamped. -/
theorem number_eq (h0 : ∀ x, (x0 x : BitVec 32).toNat < 32) (t : Fin 288) :
    (⟨min (Scalar.select (IntOp.cmpi .slt (x0 (ix1 t)) 0#32) (IntOp.addi (x0 (ix1 t)) 32#32) (x0 (ix1 t)) : BitVec 32).toInt.toNat (32 - 1),
      by omega⟩ : Fin 32) = expert x0 h0 t := by
  refine Fin.ext ?_
  show min _ _ = _
  rw [wrap_self _ (h0 _), clamp_self _ (h0 _)]

/-- The four gathers read the expert's slab. -/
theorem gather4_apply (h0 : ∀ x, (x0 x : BitVec 32).toNat < 32) (t : Fin 288) (k : Fin 1024) (c : Fin 2048) :
    val_main_v12 (F := 𝔽) x0 x4 (ix3 t k c) = x4 (ix3 (expert x0 h0 t) k c) :=
  (gather_slab_apply (by decide) gather_S32x1024x2048_S288x1_S288x1024x2048_12_0_n_n_0_1_110242048_wf x4 (val_main_v11 (F := 𝔽) x0) t k c).trans
    (congrArg (fun e => x4 (ix3 e k c)) (Eq.trans (by
      refine Fin.ext ?_
      show min (val_main_v11 (F := 𝔽) x0 (ix2 t (0 : Fin 1)) : BitVec 32).toInt.toNat 31 = _
      rw [val_main_v11_apply, show idx_main_v11 (ix2 t (0 : Fin 1)) = ix1 t from funext fun d => by fin_cases d; rfl]
      rfl) (number_eq x0 h0 t)))
theorem gather5_apply (h0 : ∀ x, (x0 x : BitVec 32).toNat < 32) (t : Fin 288) (k : Fin 1) (c : Fin 2048) :
    val_main_v20 (F := 𝔽) x0 x5 (ix3 t k c) = x5 (ix3 (expert x0 h0 t) k c) :=
  (gather_slab_apply (by decide) gather_S32x1x2048_S288x1_S288x1x2048_12_0_n_n_0_1_112048_wf x5 (val_main_v19 (F := 𝔽) x0) t k c).trans
    (congrArg (fun e => x5 (ix3 e k c)) (Eq.trans (by
      refine Fin.ext ?_
      show min (val_main_v19 (F := 𝔽) x0 (ix2 t (0 : Fin 1)) : BitVec 32).toInt.toNat 31 = _
      rw [val_main_v19_apply, show idx_main_v19 (ix2 t (0 : Fin 1)) = ix1 t from funext fun d => by fin_cases d; rfl]
      rfl) (number_eq x0 h0 t)))
theorem gather6_apply (h0 : ∀ x, (x0 x : BitVec 32).toNat < 32) (t : Fin 288) (k : Fin 1024) (c : Fin 1024) :
    val_main_v46 (F := 𝔽) x0 x6 (ix3 t k c) = x6 (ix3 (expert x0 h0 t) k c) :=
  (gather_slab_apply (by decide) gather_S32x1024x1024_S288x1_S288x1024x1024_12_0_n_n_0_1_110241024_wf x6 (val_main_v45 (F := 𝔽) x0) t k c).trans
    (congrArg (fun e => x6 (ix3 e k c)) (Eq.trans (by
      refine Fin.ext ?_
      show min (val_main_v45 (F := 𝔽) x0 (ix2 t (0 : Fin 1)) : BitVec 32).toInt.toNat 31 = _
      rw [val_main_v45_apply, show idx_main_v45 (ix2 t (0 : Fin 1)) = ix1 t from funext fun d => by fin_cases d; rfl]
      rfl) (number_eq x0 h0 t)))
theorem gather7_apply (h0 : ∀ x, (x0 x : BitVec 32).toNat < 32) (t : Fin 288) (k : Fin 1) (c : Fin 1024) :
    val_main_v54 (F := 𝔽) x0 x7 (ix3 t k c) = x7 (ix3 (expert x0 h0 t) k c) :=
  (gather_slab_apply (by decide) gather_S32x1x1024_S288x1_S288x1x1024_12_0_n_n_0_1_111024_wf x7 (val_main_v53 (F := 𝔽) x0) t k c).trans
    (congrArg (fun e => x7 (ix3 e k c)) (Eq.trans (by
      refine Fin.ext ?_
      show min (val_main_v53 (F := 𝔽) x0 (ix2 t (0 : Fin 1)) : BitVec 32).toInt.toNat 31 = _
      rw [val_main_v53_apply, show idx_main_v53 (ix2 t (0 : Fin 1)) = ix1 t from funext fun d => by fin_cases d; rfl]
      rfl) (number_eq x0 h0 t)))

/-- A tile's rows, those past the live ones zero. -/
theorem rows_apply (t : Fin 288) (p : Fin 512) (k : Fin 1024) (r : Fin 147456) (hr : r.val = t.val * 512 + p.val) :
    val_main_v5 (F := 𝔽) x1 x3 (ix3 t p k) = live p.val (x1 (ix1 t)) (x3 (ix3 r (0 : Fin 1) k)) := by
  rw [val_main_v5_apply, val_main_call0_v1_apply, val_main_v3_apply, val_main_v0_apply, val_main_v2_apply, val_main_v1_apply, val_main_v4_apply,
    val_main_call0_v2_apply, val_main_call0_v0_apply, val_main_cst_apply]
  rw [show idx_main_v1 (idx_main_v2 (idx_main_call0_v1 (ix3 t p k))) = ix1 t from funext fun d => by fin_cases d; rfl,
    show idx_main_v4 (ix3 t p k) = ix3 r (0 : Fin 1) k from funext fun d => Fin.ext (by
      have hk := k.isLt
      fin_cases d
      · show ((t.val * 512 + p.val) * 1024 + k.val) / 1024 = r.val; omega
      · rfl
      · show ((t.val * 512 + p.val) * 1024 + k.val) % 1024 = k.val; omega)]
  rfl

/-- The hidden layer before the gate. -/
theorem hid_apply (h0 : ∀ x, (x0 x : BitVec 32).toNat < 32) (t : Fin 288) (p : Fin 512) (c : Fin 2048) (r : Fin 147456) (hr : r.val = t.val * 512 + p.val) :
    val_main_v22 (F := 𝔽) x0 x1 x3 x4 x5 (ix3 t p c)
      = hid (fun k => live p.val (x1 (ix1 t)) (x3 (ix3 r (0 : Fin 1) k))) (fun k c => x4 (ix3 (expert x0 h0 t) k c))
          (fun c => x5 (ix3 (expert x0 h0 t) (0 : Fin 1) c)) c := by
  rw [val_main_v22_apply, val_main_v13_apply, val_main_v21_apply,
    show idx_main_v21 (ix3 t p c) = ix3 t (0 : Fin 1) c from funext fun d => by fin_cases d <;> rfl, gather5_apply x0 x5 h0]
  refine congrArg (fun s : Num => (s + _ : EReal)) (Finset.sum_congr rfl fun k _ => ?_)
  rw [show lidx_main_v13 (ix3 t p c) k = ix3 t p k from funext fun d => by fin_cases d <;> rfl,
    show ridx_main_v13 (ix3 t p c) k = ix3 t k c from funext fun d => by fin_cases d <;> rfl, rows_apply x1 x3 t p k r hr, gather4_apply x0 x4 h0]

/-- The reference's spelling of the gated activation is the logistic one. -/
theorem gate_spelt (z l : Num) :
    (FloatOps.mulf (FloatOps.mulf (FloatOps.minimumf z seven) (FloatOps.hostDivf one (FloatOps.addf one (FloatOps.hostUnary .exp (FloatOps.hostNegf (FloatOps.mulf slope (FloatOps.minimumf z seven)))))))
      (FloatOps.addf (FloatOps.minimumf seven (FloatOps.maximumf negSeven l)) one) : Num) = gate z l := by
  unfold gate
  congr 2
  show Ideal.div one (one + _ : EReal) = Ideal.logistic _
  rw [one_eq]
  rfl

/-- The gated hidden layer. -/
theorem act_apply (h0 : ∀ x, (x0 x : BitVec 32).toNat < 32) (t : Fin 288) (p : Fin 512) (f : Fin 1024) (r : Fin 147456) (hr : r.val = t.val * 512 + p.val) :
    val_main_v39 (F := 𝔽) x0 x1 x3 x4 x5 (ix3 t p f)
      = act (fun k => live p.val (x1 (ix1 t)) (x3 (ix3 r (0 : Fin 1) k))) (fun k c => x4 (ix3 (expert x0 h0 t) k c))
          (fun c => x5 (ix3 (expert x0 h0 t) (0 : Fin 1) c)) f := by
  unfold act
  rw [← hid_apply x0 x1 x3 x4 x5 h0 t p _ r hr, ← hid_apply x0 x1 x3 x4 x5 h0 t p _ r hr, ← gate_spelt]
  rw [val_main_v39_apply, val_main_v36_apply, val_main_v38_apply, val_main_v35_apply, val_main_v33_apply, val_main_v31_apply, val_main_v30_apply,
    val_main_v29_apply, val_main_v25_apply, val_main_v27_apply, val_main_call1_v2_apply, val_main_v23_apply, val_main_v26_apply,
    show idx_main_v23 (ix3 t p f) = ix3 t p (⟨f.val, by omega⟩ : Fin 2048) from funext fun d => by fin_cases d <;> rfl,
    show idx_main_v26 (ix3 t p f) = ix3 t p (⟨1024 + f.val, by omega⟩ : Fin 2048) from funext fun d => by fin_cases d <;> rfl,
    val_main_v24_apply, val_main_cst_3_apply, val_main_v28_apply, val_main_cst_6_apply, val_main_v32_apply, val_main_cst_7_apply,
    val_main_v34_apply, val_main_cst_8_apply, val_main_v37_apply, val_main_cst_9_apply, val_main_call1_v4_apply, val_main_call1_v3_apply, val_main_cst_5_apply,
    val_main_call1_v1_apply, val_main_call1_v0_apply, val_main_cst_4_apply]
  rfl

/-- THE REFERENCE: row `p` of tile `t`, column `j`, is the specification's row where the tile is in use, and zero elsewhere. -/
theorem out_apply (h0 : ∀ x, (x0 x : BitVec 32).toNat < 32) (t : Fin 288) (p : Fin 512) (j : Fin 1024) (r : Fin 147456) (hr : r.val = t.val * 512 + p.val) :
    val_main_v63 (F := 𝔽) x0 x1 x2 x3 x4 x5 x6 x7 (ix3 r (0 : Fin 1) j)
      = used t.val (x2 (ix1 (0 : Fin 1))) (row (fun k => live p.val (x1 (ix1 t)) (x3 (ix3 r (0 : Fin 1) k))) (fun k c => x4 (ix3 (expert x0 h0 t) k c))
          (fun c => x5 (ix3 (expert x0 h0 t) (0 : Fin 1) c)) (fun f j => x6 (ix3 (expert x0 h0 t) f j)) (fun j => x7 (ix3 (expert x0 h0 t) (0 : Fin 1) j)) j) := by
  rw [val_main_v63_apply, show idx_main_v63 (ix3 r (0 : Fin 1) j) = ix3 t p j from funext fun d => Fin.ext (by
    have hj := j.isLt
    have hp := p.isLt
    fin_cases d
    · show ((r.val * 1 + 0) * 1024 + j.val) / 524288 = t.val; omega
    · show ((r.val * 1 + 0) * 1024 + j.val) / 1024 % 512 = p.val; omega
    · show ((r.val * 1 + 0) * 1024 + j.val) % 1024 = j.val; omega)]
  rw [val_main_v62_apply, val_main_call2_v1_apply, val_main_v61_apply, val_main_v58_apply, val_main_v57_apply, val_main_v60_apply, val_main_v59_apply,
    val_main_call2_v2_apply, val_main_call2_v0_apply, val_main_cst_14_apply,
    show idx_main_v59 (idx_main_v60 (idx_main_call2_v1 (ix3 t p j))) = ix1 (0 : Fin 1) from funext fun d => by fin_cases d; rfl]
  refine congrArg (fun v : Num => used t.val (x2 (ix1 (0 : Fin 1))) v) ?_
  rw [val_main_v56_apply, val_main_v47_apply, val_main_v55_apply,
    show idx_main_v55 (ix3 t p j) = ix3 t (0 : Fin 1) j from funext fun d => by fin_cases d <;> rfl, gather7_apply x0 x7 h0]
  refine congrArg (fun s : Num => (s + _ : EReal)) (Finset.sum_congr rfl fun f _ => ?_)
  rw [show lidx_main_v47 (ix3 t p j) f = ix3 t p f from funext fun d => by fin_cases d <;> rfl,
    show ridx_main_v47 (ix3 t p j) f = ix3 t f j from funext fun d => by fin_cases d <;> rfl, act_apply x0 x1 x3 x4 x5 h0 t p f r hr, gather6_apply x0 x6 h0]

end Cert.ReferenceIdeal.Experts

end
-- ==== Proof.Proj.Spec.lean ====
/- The mathematics of the input projection, over the extended reals: each row of the batch is normalized by the root of its
   mean square, scaled by the gain and by the modulation, shifted, and multiplied with the columns of the weights. -/
module

public import Idealize.ShloMosaic.PureOps.Ideal

@[expose] public section

noncomputable section

namespace Cert.Proj

open Idealize.ShloMosaic

/-- One entry of a normalized and modulated row `x`: `x k / √(mean x² + ε) · g k · (1 + s k) + b k`. -/
def hid (x g s b : Fin 1024 → EReal) (k : Fin 1024) : EReal :=
  x k * Ideal.rsqrt (Ideal.div (∑ j : Fin 1024, x j * x j) (Ideal.ofBits .f32 0x44800000#32) + Ideal.ofBits .f32 0x358637BD#32)
    * g k * (1 + s k) + b k

/-- A row's product with one column `w` of the weights. -/
def dotCol (x g s b w : Fin 1024 → EReal) : EReal := ∑ k : Fin 1024, hid x g s b k * w k

end Cert.Proj

end
-- ==== Proof.Proj.Tile.lean ====
/- What the projection's body computes for one tile of 512 rows, over the extended reals. -/
module

public import proofs.«01_k».proof.Proof.Proj.Spec
public import proofs.«01_k».proof.Proof.Gen.Kernel2Ideal.Value
public import Idealize.ShloMosaic.Lib.Pointwise

@[expose] public section

set_option maxRecDepth 16384

noncomputable section

namespace Cert.Kernel2Ideal.Proj

open Cert.Kernel2Ideal Cert.Kernel2Ideal.Gen Cert.Kernel2Ideal.Value Cert.Proj
open Idealize.ShloMosaic

local notation "𝔽" => Idealize.ShloMosaic.Ideal

/-- Row `r` of the tile, normalized and modulated. -/
theorem norm_apply (x : Vec 𝔽 S1x512x1024 .f32) (g : Vec 𝔽 S1x1024 .f32) (s b : Vec 𝔽 S1x1x1024 .f32) (r : Fin 512) (k : Fin 1024) :
    k0_pay2 x g s b (ix2 r k)
      = hid (fun k => x (ix3 0 r k)) (fun k => g (ix2 0 k)) (fun k => s (ix3 0 0 k)) (fun k => b (ix3 0 0 k)) k := by
  pointwise [k0_pay2, hid]

/-- The first product: one entry is the row's product with that column. -/
theorem qk_apply (x : Vec 𝔽 S1x512x1024 .f32) (g : Vec 𝔽 S1x1024 .f32) (s b : Vec 𝔽 S1x1x1024 .f32) (w : Vec 𝔽 S1024x1024 .bf16)
    (r : Fin 512) (j : Fin 1024) :
    k0_pay3 x g s b w (ix3 0 r j) = ∑ k : Fin 1024, k0_pay2 x g s b (ix2 r k) * w (ix2 k j) := by
  unfold k0_pay3
  generalize k0_pay2 x g s b = h
  pointwise

theorem v_apply (h : FVec 𝔽 S512x1024 .bf16) (w : Vec 𝔽 S1024x1024 .bf16) (r : Fin 512) (j : Fin 1024) :
    k0_pay4 h w (ix3 0 r j) = ∑ k : Fin 1024, h (ix2 r k) * w (ix2 k j) := by
  pointwise [k0_pay4]

theorem u_apply (h : FVec 𝔽 S512x1024 .bf16) (w : Vec 𝔽 S1024x512 .bf16) (r j : Fin 512) :
    k0_pay5 h w (ix2 r j) = ∑ k : Fin 1024, h (ix2 r k) * w (ix2 k j) := by
  pointwise [k0_pay5]

theorem gate_apply (h : FVec 𝔽 S512x1024 .bf16) (w : Vec 𝔽 S32x1024 .bf16) (b : Vec 𝔽 S32x1 .f32) (q : Fin 32) (r : Fin 512) :
    k0_pay1 (k0_pay10 h w) b (ix3 0 q r) = (∑ k : Fin 1024, w (ix2 q k) * h (ix2 r k)) + b (ix2 q 0) := by
  pointwise [k0_pay1, k0_pay10]

end Cert.Kernel2Ideal.Proj

end
-- ==== Proof.Proj.Out.lean ====
/- The four blocks one grid point of the projection writes, read at an index, over the extended reals: every entry is the
   product of a normalized row of the tile with one column of the weights (for the gates, the bias added). -/
module

public import proofs.«01_k».proof.Proof.Proj.Tile
public import Idealize.ShloMosaic.Lib.Pipeline.ValueKit

@[expose] public section

set_option maxRecDepth 16384

noncomputable section

namespace Cert.Kernel2Ideal.Proj

open Cert.Kernel2Ideal Cert.Kernel2Ideal.Gen Cert.Kernel2Ideal.Value Cert.Proj
open Idealize.ShloMosaic

local notation "𝔽" => Idealize.ShloMosaic.Ideal

variable (x0 : Vec 𝔽 S1x512x1024 .f32) (x1 : Vec 𝔽 S1x1024 .f32) (x2 x3 : Vec 𝔽 S1x1x1024 .f32)
variable (x4 : Vec 𝔽 S1024x2560 .bf16) (x5 : Vec 𝔽 S32x1024 .bf16) (x6 : Vec 𝔽 S32x1 .f32)

/-- Row `r` of the tile times a column of the weights. -/
abbrev cell (r : Fin 512) (w : Fin 1024 → EReal) : EReal :=
  dotCol (fun k => x0 (ix3 0 r k)) (fun k => x1 (ix2 0 k)) (fun k => x2 (ix3 0 0 k)) (fun k => x3 (ix3 0 0 k)) w

theorem out7_apply (r : Fin 512) (j : Fin 1024) :
    out0_7 x0 x1 x2 x3 x4 x5 x6 (ix3 0 r j) = cell x0 x1 x2 x3 r (fun k => x4 (ix2 k ⟨j.val, by omega⟩)) := by
  frame_out
  rw [qk_apply]
  refine Finset.sum_congr rfl fun k _ => ?_
  rw [norm_apply]
  pointwise

theorem out8_apply (r : Fin 512) (j : Fin 1024) :
    out0_8 x0 x1 x2 x3 x4 x5 x6 (ix3 0 r j) = cell x0 x1 x2 x3 r (fun k => x4 (ix2 k ⟨1024 + j.val, by omega⟩)) := by
  frame_out
  rw [show k0_pay11 x0 x1 x2 x3 x4 x5 x6 = k0_pay2 (View.ld x0 r0_0) (View.ld x1 r0_1) (View.ld x2 r0_2) (View.ld x3 r0_2) from rfl, v_apply]
  refine Finset.sum_congr rfl fun k _ => ?_
  rw [norm_apply]
  pointwise

theorem out9_apply (q : Fin 4) (r : Fin 512) (j : Fin 128) :
    out0_9 x0 x1 x2 x3 x4 x5 x6 (ix4 0 q r j) = cell x0 x1 x2 x3 r (fun k => x4 (ix2 k ⟨2048 + (q.val * 128 + j.val), by omega⟩)) := by
  unfold out0_9
  refine (canon9_eq _ _ _ _ _ _).trans ?_
  refine Eq.trans (b := k0_pay5 (k0_pay2 (View.ld x0 r0_0) (View.ld x1 r0_1) (View.ld x2 r0_2) (View.ld x3 r0_2)) (View.ld x4 r0_5)
    (ix2 r ⟨q.val * 128 + j.val, by omega⟩)) ?_ ?_
  · rfl
  rw [u_apply]
  refine Finset.sum_congr rfl fun k _ => ?_
  rw [norm_apply]
  pointwise

theorem out10_apply (q : Fin 32) (r : Fin 512) :
    out0_10 x0 x1 x2 x3 x4 x5 x6 (ix3 0 q r) = cell x0 x1 x2 x3 r (fun k => x5 (ix2 q k)) + x6 (ix2 q 0) := by
  frame_out
  rw [show k0_pay11 x0 x1 x2 x3 x4 x5 x6 = k0_pay2 (View.ld x0 r0_0) (View.ld x1 r0_1) (View.ld x2 r0_2) (View.ld x3 r0_2) from rfl, gate_apply]
  refine congrArg₂ (· + ·) (Finset.sum_congr rfl fun k _ => ?_) ?_
  · rw [norm_apply, mul_comm]
    pointwise
  · pointwise

end Cert.Kernel2Ideal.Proj

end
-- ==== Proof.Proj.Kernel.lean ====
/- What the projection call leaves in its four results, over the extended reals.

   Grid point `(n, i)` reads rows `512·i …` of sequence `n`, that sequence's scale and shift, and the whole of the gain, of the
   weights and of the gates' bias; it writes the same rows of the four results. The host has cut the weights' columns into the
   2560 columns of the first three results (columns 0 … 2047 and 2080 … 2591) and the 32 transposed columns of the gates. -/
module

public import proofs.«01_k».proof.Proof.Proj.Out
public import Idealize.ShloMosaic.Lib.Claim

@[expose] public section

set_option maxRecDepth 16384

noncomputable section

namespace Cert.Kernel2Ideal.Proj

open Cert.Kernel2Ideal Cert.Kernel2Ideal.Gen Cert.Kernel2Ideal.Value Cert.Proj
open Idealize.ShloMosaic Idealize.ShloMosaic.TcCoe Idealize.ShloMosaic.Tactic

local notation "𝔽" => Idealize.ShloMosaic.Ideal

variable (m : (ℓ : Loc nD τ sig) → Buf (Elt 𝔽) ℓ) (c : Dev nD)

/-- The arguments as arrays. -/
abbrev arg0 : S8x4096x1024.Idx → Elt 𝔽 .f32 := m ((c.tc : Thread nD τ).loc main_arg0)
abbrev arg1 : S1024.Idx → Elt 𝔽 .f32 := m ((c.tc : Thread nD τ).loc main_arg1)
abbrev arg2 : S8x1x1024.Idx → Elt 𝔽 .f32 := m ((c.tc : Thread nD τ).loc main_arg2)
abbrev arg3 : S8x1x1024.Idx → Elt 𝔽 .f32 := m ((c.tc : Thread nD τ).loc main_arg3)
abbrev arg4 : S1024x5664.Idx → Elt 𝔽 .f32 := m ((c.tc : Thread nD τ).loc main_arg4)
abbrev arg5 : S2x2x8.Idx → Elt 𝔽 .f32 := m ((c.tc : Thread nD τ).loc main_arg5)

/-- What the host hands over: the gain as one row. -/
theorem gain_apply (k : Fin 1024) : (V m c main_v8 : S1x1024.Idx → Elt 𝔽 .f32) (ix2 0 k) = arg1 m c (ix1 k) := by
  entry_read
  pointwise

/-- The first 2048 columns of the weights handed over are the weights' own … -/
theorem weights_left (k : Fin 1024) (j : Fin 2560) (h : j.val < 2048) :
    (V m c main_v3 : S1024x2560.Idx → Elt 𝔽 .bf16) (ix2 k j) = arg4 m c (ix2 k ⟨j.val, by omega⟩) := by
  entry_read
  pointwise
  rw [dif_pos h]

/-- … and the other 512 are the weights' columns from 2080. -/
theorem weights_right (k : Fin 1024) (j : Fin 2560) (h : 2048 ≤ j.val) :
    (V m c main_v3 : S1024x2560.Idx → Elt 𝔽 .bf16) (ix2 k j) = arg4 m c (ix2 k ⟨32 + j.val, by omega⟩) := by
  entry_read
  pointwise
  rw [dif_neg (by omega)]
  refine congrArg (arg4 m c) (congrArg (ix2 k) (Fin.ext ?_))
  show 2080 + (j.val - 2048) = 32 + j.val
  omega

/-- The gates' columns are the weights' columns from 2048, transposed. -/
theorem gates_apply (q : Fin 32) (k : Fin 1024) :
    (V m c main_v6 : S32x1024.Idx → Elt 𝔽 .bf16) (ix2 q k) = arg4 m c (ix2 k ⟨2048 + q.val, by omega⟩) := by
  entry_read
  pointwise

/-- The gates' bias, its three axes laid out as one. -/
theorem bias_apply (q : Fin 32) :
    (V m c main_v9 : S32x1.Idx → Elt 𝔽 .f32) (ix2 q 0) = arg5 m c (ix3 ⟨q.val / 16, by omega⟩ ⟨q.val / 8 % 2, by omega⟩ ⟨q.val % 8, by omega⟩) := by
  entry_read
  pointwise

/-- The sequence and the tile of a grid point. -/
abbrev seqOf (t : Fin grid0.N) : Fin 8 := ⟨t.val / 8, by have : t.val < 64 := t.isLt; omega⟩
abbrev tileOf (t : Fin grid0.N) : Fin 8 := ⟨t.val % 8, by omega⟩
/-- Row `r` of the tile as a row of the sequence. -/
abbrev rowOf (t : Fin grid0.N) (r : Fin 512) : Fin 4096 := ⟨t.val % 8 * 512 + r.val, by omega⟩

theorem coord0 : ∀ t : Fin grid0.N, (BitVec.ofNat 32 (grid0.coords t 0).val).toNat = t.val / 8 := by decide +kernel
theorem coord1 : ∀ t : Fin grid0.N, (BitVec.ofNat 32 (grid0.coords t 1).val).toNat = t.val % 8 := by decide +kernel

/-- Where each window's block lies in its array. -/
theorem emb0_val (t : Fin grid0.N) (y : S1x512x1024.Idx) (d : Fin 3) :
    ((win0_0.blk t).view.emb y d : ℕ)
      = (![(BitVec.ofNat 32 (grid0.coords t 0).val).toNat, (BitVec.ofNat 32 (grid0.coords t 1).val).toNat, 0] : Fin 3 → ℕ) d * (![1, 512, 1024] : Fin 3 → ℕ) d + y d :=
  Pipeline.Window.rect_emb_val win0_0 t y d rfl
theorem emb1_val (t : Fin grid0.N) (y : S1x1024.Idx) (d : Fin 2) :
    ((win0_1.blk t).view.emb y d : ℕ) = (![0, 0] : Fin 2 → ℕ) d * (![1, 1024] : Fin 2 → ℕ) d + y d :=
  Pipeline.Window.rect_emb_val win0_1 t y d rfl
theorem emb2_val (t : Fin grid0.N) (y : S1x1x1024.Idx) (d : Fin 3) :
    ((win0_2.blk t).view.emb y d : ℕ)
      = (![(BitVec.ofNat 32 (grid0.coords t 0).val).toNat, 0, 0] : Fin 3 → ℕ) d * (![1, 1, 1024] : Fin 3 → ℕ) d + y d :=
  Pipeline.Window.rect_emb_val win0_2 t y d rfl
theorem emb3_val (t : Fin grid0.N) (y : S1x1x1024.Idx) (d : Fin 3) :
    ((win0_3.blk t).view.emb y d : ℕ)
      = (![(BitVec.ofNat 32 (grid0.coords t 0).val).toNat, 0, 0] : Fin 3 → ℕ) d * (![1, 1, 1024] : Fin 3 → ℕ) d + y d :=
  Pipeline.Window.rect_emb_val win0_3 t y d rfl
theorem emb4_val (t : Fin grid0.N) (y : S1024x2560.Idx) (d : Fin 2) :
    ((win0_4.blk t).view.emb y d : ℕ) = (![0, 0] : Fin 2 → ℕ) d * (![1024, 2560] : Fin 2 → ℕ) d + y d :=
  Pipeline.Window.rect_emb_val win0_4 t y d rfl
theorem emb5_val (t : Fin grid0.N) (y : S32x1024.Idx) (d : Fin 2) :
    ((win0_5.blk t).view.emb y d : ℕ) = (![0, 0] : Fin 2 → ℕ) d * (![32, 1024] : Fin 2 → ℕ) d + y d :=
  Pipeline.Window.rect_emb_val win0_5 t y d rfl
theorem emb6_val (t : Fin grid0.N) (y : S32x1.Idx) (d : Fin 2) :
    ((win0_6.blk t).view.emb y d : ℕ) = (![0, 0] : Fin 2 → ℕ) d * (![32, 1] : Fin 2 → ℕ) d + y d :=
  Pipeline.Window.rect_emb_val win0_6 t y d rfl
theorem emb7_val (t : Fin grid0.N) (y : S1x512x1024.Idx) (d : Fin 3) :
    ((win0_7.blk t).view.emb y d : ℕ)
      = (![(BitVec.ofNat 32 (grid0.coords t 0).val).toNat, (BitVec.ofNat 32 (grid0.coords t 1).val).toNat, 0] : Fin 3 → ℕ) d * (![1, 512, 1024] : Fin 3 → ℕ) d + y d :=
  Pipeline.Window.rect_emb_val win0_7 t y d rfl
theorem emb8_val (t : Fin grid0.N) (y : S1x512x1024.Idx) (d : Fin 3) :
    ((win0_8.blk t).view.emb y d : ℕ)
      = (![(BitVec.ofNat 32 (grid0.coords t 0).val).toNat, (BitVec.ofNat 32 (grid0.coords t 1).val).toNat, 0] : Fin 3 → ℕ) d * (![1, 512, 1024] : Fin 3 → ℕ) d + y d :=
  Pipeline.Window.rect_emb_val win0_8 t y d rfl
theorem emb9_val (t : Fin grid0.N) (y : S1x4x512x128.Idx) (d : Fin 4) :
    ((win0_9.blk t).view.emb y d : ℕ)
      = (![(BitVec.ofNat 32 (grid0.coords t 0).val).toNat, 0, (BitVec.ofNat 32 (grid0.coords t 1).val).toNat, 0] : Fin 4 → ℕ) d * (![1, 4, 512, 128] : Fin 4 → ℕ) d + y d :=
  Pipeline.Window.rect_emb_val win0_9 t y d rfl
theorem emb10_val (t : Fin grid0.N) (y : S1x32x512.Idx) (d : Fin 3) :
    ((win0_10.blk t).view.emb y d : ℕ)
      = (![(BitVec.ofNat 32 (grid0.coords t 0).val).toNat, 0, (BitVec.ofNat 32 (grid0.coords t 1).val).toNat] : Fin 3 → ℕ) d * (![1, 32, 512] : Fin 3 → ℕ) d + y d :=
  Pipeline.Window.rect_emb_val win0_10 t y d rfl

/-- The blocks a point reads, at an index. -/
theorem block0 (t : Fin grid0.N) (r : Fin 512) (k : Fin 1024) :
    (iblk m c 0 t : S1x512x1024.Idx → Elt 𝔽 .f32) (ix3 0 r k) = arg0 m c (ix3 (seqOf t) (rowOf t r) k) := by
  refine (congrFun (V_main_arg0 m c) _).trans (congrArg (arg0 m c) (funext fun d => Fin.ext ((emb0_val t _ d).trans ?_)))
  rw [coord0, coord1]
  fin_cases d
  · show t.val / 8 * 1 + 0 = t.val / 8; omega
  · rfl
  · show 0 * 1024 + k.val = k.val; omega
theorem block1 (t : Fin grid0.N) (k : Fin 1024) :
    (iblk m c 1 t : S1x1024.Idx → Elt 𝔽 .f32) (ix2 0 k) = arg1 m c (ix1 k) := by
  refine Eq.trans (congrArg (V m c main_v8) (funext fun d => Fin.ext ((emb1_val t _ d).trans ?_))) (gain_apply m c k)
  fin_cases d
  · rfl
  · show 0 * 1024 + k.val = k.val; omega
theorem block2 (t : Fin grid0.N) (k : Fin 1024) :
    (iblk m c 2 t : S1x1x1024.Idx → Elt 𝔽 .f32) (ix3 0 0 k) = arg2 m c (ix3 (seqOf t) 0 k) := by
  refine (congrFun (V_main_arg2 m c) _).trans (congrArg (arg2 m c) (funext fun d => Fin.ext ((emb2_val t _ d).trans ?_)))
  rw [coord0]
  fin_cases d
  · show t.val / 8 * 1 + 0 = t.val / 8; omega
  · rfl
  · show 0 * 1024 + k.val = k.val; omega
theorem block3 (t : Fin grid0.N) (k : Fin 1024) :
    (iblk m c 3 t : S1x1x1024.Idx → Elt 𝔽 .f32) (ix3 0 0 k) = arg3 m c (ix3 (seqOf t) 0 k) := by
  refine (congrFun (V_main_arg3 m c) _).trans (congrArg (arg3 m c) (funext fun d => Fin.ext ((emb3_val t _ d).trans ?_)))
  rw [coord0]
  fin_cases d
  · show t.val / 8 * 1 + 0 = t.val / 8; omega
  · rfl
  · show 0 * 1024 + k.val = k.val; omega
theorem block4 (t : Fin grid0.N) (k : Fin 1024) (j : Fin 2560) :
    (iblk m c 4 t : S1024x2560.Idx → Elt 𝔽 .bf16) (ix2 k j) = (V m c main_v3 : S1024x2560.Idx → Elt 𝔽 .bf16) (ix2 k j) := by
  refine congrArg (V m c main_v3) (funext fun d => Fin.ext ((emb4_val t _ d).trans ?_))
  fin_cases d
  · show 0 * 1024 + k.val = k.val; omega
  · show 0 * 2560 + j.val = j.val; omega
theorem block5 (t : Fin grid0.N) (q : Fin 32) (k : Fin 1024) :
    (iblk m c 5 t : S32x1024.Idx → Elt 𝔽 .bf16) (ix2 q k) = arg4 m c (ix2 k ⟨2048 + q.val, by omega⟩) := by
  refine Eq.trans (congrArg (V m c main_v6) (funext fun d => Fin.ext ((emb5_val t _ d).trans ?_))) (gates_apply m c q k)
  fin_cases d
  · show 0 * 32 + q.val = q.val; omega
  · show 0 * 1024 + k.val = k.val; omega
theorem block6 (t : Fin grid0.N) (q : Fin 32) :
    (iblk m c 6 t : S32x1.Idx → Elt 𝔽 .f32) (ix2 q 0) = arg5 m c (ix3 ⟨q.val / 16, by omega⟩ ⟨q.val / 8 % 2, by omega⟩ ⟨q.val % 8, by omega⟩) := by
  refine Eq.trans (congrArg (V m c main_v9) (funext fun d => Fin.ext ((emb6_val t _ d).trans ?_))) (bias_apply m c q)
  fin_cases d
  · show 0 * 32 + q.val = q.val; omega
  · rfl

/-- THE PROJECTION: row `l` of sequence `n`, normalized and modulated, times column `j` of the weights. -/
abbrev proj (n : Fin 8) (l : Fin 4096) (j : Fin 5664) : EReal :=
  dotCol (fun k => arg0 m c (ix3 n l k)) (fun k => arg1 m c (ix1 k)) (fun k => arg2 m c (ix3 n 0 k)) (fun k => arg3 m c (ix3 n 0 k))
    (fun k => arg4 m c (ix2 k j))

theorem cell_eq (t : Fin grid0.N) (r : Fin 512) (w : Fin 1024 → EReal) (j : Fin 5664) (hw : ∀ k, w k = arg4 m c (ix2 k j)) :
    cell (iblk m c 0 t) (iblk m c 1 t) (iblk m c 2 t) (iblk m c 3 t) r w = proj m c (seqOf t) (rowOf t r) j := by
  unfold cell proj
  refine congr (congr (congr (congr (congrArg dotCol (funext fun k => ?_)) (funext fun k => ?_)) (funext fun k => ?_)) (funext fun k => ?_)) (funext hw)
  · exact block0 m c t r k
  · exact block1 m c t k
  · exact block2 m c t k
  · exact block3 m c t k

/-- THE FIRST RESULT: columns 0 … 1023. -/
theorem result7 (G : S8x4096x1024.Idx → Elt 𝔽 .bf16) (hG : ∀ n l (j : Fin 1024), G (ix3 n l j) = proj m c n l ⟨j.val, by omega⟩) :
    (dats m 0 c).arrAt 7 cfg0.N = G := by
  refine (dats m 0 c).arrAt_eq_of_covers 7 G (by decide +kernel) fun t _ y => ?_
  obtain ⟨r, j, rfl⟩ : ∃ (r : Fin 512) (j : Fin 1024), y = ix3 0 r j :=
    ⟨y 1, y 2, funext fun d => by
      fin_cases d
      · exact Subsingleton.elim (α := Fin 1) _ _
      · rfl
      · rfl⟩
  refine Eq.trans (b := out0_7 (iblk m c 0 t) (iblk m c 1 t) (iblk m c 2 t) (iblk m c 3 t) (iblk m c 4 t) (iblk m c 5 t) (iblk m c 6 t) (ix3 0 r j))
    (congrFun (after0_7 m c t) _) ?_
  rw [out7_apply, cell_eq m c t r _ ⟨j.val, by omega⟩ fun k => (block4 m c t k _).trans (weights_left m c k _ (by show j.val < 2048; omega)), ← hG]
  refine congrArg G (funext fun d => Fin.ext (Eq.trans ?_ (emb7_val t _ d).symm))
  rw [coord0, coord1]
  fin_cases d
  · show t.val / 8 = t.val / 8 * 1 + 0; omega
  · rfl
  · show j.val = 0 * 1024 + j.val; omega

/-- THE SECOND RESULT: columns 1024 … 2047. -/
theorem result8 (G : S8x4096x1024.Idx → Elt 𝔽 .bf16) (hG : ∀ n l (j : Fin 1024), G (ix3 n l j) = proj m c n l ⟨1024 + j.val, by omega⟩) :
    (dats m 0 c).arrAt 8 cfg0.N = G := by
  refine (dats m 0 c).arrAt_eq_of_covers 8 G (by decide +kernel) fun t _ y => ?_
  obtain ⟨r, j, rfl⟩ : ∃ (r : Fin 512) (j : Fin 1024), y = ix3 0 r j :=
    ⟨y 1, y 2, funext fun d => by
      fin_cases d
      · exact Subsingleton.elim (α := Fin 1) _ _
      · rfl
      · rfl⟩
  refine Eq.trans (b := out0_8 (iblk m c 0 t) (iblk m c 1 t) (iblk m c 2 t) (iblk m c 3 t) (iblk m c 4 t) (iblk m c 5 t) (iblk m c 6 t) (ix3 0 r j))
    (congrFun (after0_8 m c t) _) ?_
  rw [out8_apply, cell_eq m c t r _ ⟨1024 + j.val, by omega⟩ fun k => (block4 m c t k _).trans (weights_left m c k _ (by show 1024 + j.val < 2048; omega)), ← hG]
  refine congrArg G (funext fun d => Fin.ext (Eq.trans ?_ (emb8_val t _ d).symm))
  rw [coord0, coord1]
  fin_cases d
  · show t.val / 8 = t.val / 8 * 1 + 0; omega
  · rfl
  · show j.val = 0 * 1024 + j.val; omega

/-- THE THIRD RESULT: columns 2080 … 2591, in four groups of 128. -/
theorem result9 (G : S8x4x4096x128.Idx → Elt 𝔽 .f32)
    (hG : ∀ n (q : Fin 4) l (j : Fin 128), G (ix4 n q l j) = proj m c n l ⟨2080 + (q.val * 128 + j.val), by omega⟩) :
    (dats m 0 c).arrAt 9 cfg0.N = G := by
  refine (dats m 0 c).arrAt_eq_of_covers 9 G (by decide +kernel) fun t _ y => ?_
  obtain ⟨q, r, j, rfl⟩ : ∃ (q : Fin 4) (r : Fin 512) (j : Fin 128), y = ix4 0 q r j :=
    ⟨y 1, y 2, y 3, funext fun d => by
      fin_cases d
      · exact Subsingleton.elim (α := Fin 1) _ _
      · rfl
      · rfl
      · rfl⟩
  refine Eq.trans (b := out0_9 (iblk m c 0 t) (iblk m c 1 t) (iblk m c 2 t) (iblk m c 3 t) (iblk m c 4 t) (iblk m c 5 t) (iblk m c 6 t) (ix4 0 q r j))
    (congrFun (after0_9 m c t) _) ?_
  rw [out9_apply, cell_eq m c t r _ ⟨2080 + (q.val * 128 + j.val), by omega⟩ fun k => (block4 m c t k _).trans
    ((weights_right m c k _ (by show 2048 ≤ 2048 + (q.val * 128 + j.val); omega)).trans
      (congrArg (arg4 m c) (congrArg (ix2 k) (Fin.ext (by show 32 + (2048 + (q.val * 128 + j.val)) = 2080 + (q.val * 128 + j.val); omega))))), ← hG]
  refine congrArg G (funext fun d => Fin.ext (Eq.trans ?_ (emb9_val t _ d).symm))
  rw [coord0, coord1]
  fin_cases d
  · show t.val / 8 = t.val / 8 * 1 + 0; omega
  · show q.val = 0 * 4 + q.val; omega
  · rfl
  · show j.val = 0 * 128 + j.val; omega

/-- THE FOURTH RESULT: the gates, columns 2048 … 2079 and their bias. -/
theorem result10 (G : S8x32x4096.Idx → Elt 𝔽 .f32)
    (hG : ∀ n (q : Fin 32) l, G (ix3 n q l) = proj m c n l ⟨2048 + q.val, by omega⟩
      + arg5 m c (ix3 ⟨q.val / 16, by omega⟩ ⟨q.val / 8 % 2, by omega⟩ ⟨q.val % 8, by omega⟩)) :
    (dats m 0 c).arrAt 10 cfg0.N = G := by
  refine (dats m 0 c).arrAt_eq_of_covers 10 G (by decide +kernel) fun t _ y => ?_
  obtain ⟨q, r, rfl⟩ : ∃ (q : Fin 32) (r : Fin 512), y = ix3 0 q r :=
    ⟨y 1, y 2, funext fun d => by
      fin_cases d
      · exact Subsingleton.elim (α := Fin 1) _ _
      · rfl
      · rfl⟩
  refine Eq.trans (b := out0_10 (iblk m c 0 t) (iblk m c 1 t) (iblk m c 2 t) (iblk m c 3 t) (iblk m c 4 t) (iblk m c 5 t) (iblk m c 6 t) (ix3 0 q r))
    (congrFun (after0_10 m c t) _) ?_
  rw [out10_apply, cell_eq m c t r _ ⟨2048 + q.val, by omega⟩ fun k => block5 m c t q k]
  refine (congrArg (fun v : EReal => (_ : EReal) + v) (block6 m c t q)).trans ?_
  rw [← hG]
  refine congrArg G (funext fun d => Fin.ext (Eq.trans ?_ (emb10_val t _ d).symm))
  rw [coord0, coord1]
  fin_cases d
  · show t.val / 8 = t.val / 8 * 1 + 0; omega
  · show q.val = 0 * 32 + q.val; omega
  · rfl

end Cert.Kernel2Ideal.Proj

end
-- ==== Proof.Proj.Reference.lean ====
/- The plain reference of the projection: it runs, leaves its arguments and every counter as they were, and each entry of its
   results is the product of a normalized row with a column of the weights (for the gates, the bias added). -/
module

public import proofs.«01_k».proof.Proof.Proj.Spec
public import proofs.«01_k».proof.Proof.Gen.Reference2Ideal.Run
public import proofs.«01_k».proof.Proof.Gen.Reference2Ideal.Read
public import Idealize.ShloMosaic.Lib.Quiescent
public import Idealize.ShloMosaic.Lib.Pointwise

@[expose] public section

set_option maxRecDepth 16384

noncomputable section

namespace Cert.Reference2Ideal.Proj

open Cert.Reference2Ideal Cert.Reference2Ideal.Gen Cert.Reference2Ideal.Read Cert.Proj
open Idealize.ShloMosaic Idealize.ShloMosaic.TcCoe Idealize.SL.Sem

local notation "𝔽" => Idealize.ShloMosaic.Ideal

/-- THE FRAME of the reference. -/
theorem quiescent (m : (ℓ : Loc nD τ sig) → Buf (Elt 𝔽) ℓ) (ρ : Dev nD → PrngReg) :
    θ_run (defs (F := 𝔽)) (onTc (τ := τ) (main (F := 𝔽))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2.2.2.2, sem_eq_zero_of_no_sems (by decide) r.2⟩) (Cert.Reference2Ideal.Value.run m ρ)

variable (x0 : S8x4096x1024.Idx → Elt 𝔽 .f32) (x1 : S1024.Idx → Elt 𝔽 .f32) (x2 x3 : S8x1x1024.Idx → Elt 𝔽 .f32)
variable (x4 : S1024x5664.Idx → Elt 𝔽 .f32) (x5 : S2x2x8.Idx → Elt 𝔽 .f32)

/-- The projection of row `l` of sequence `n` to column `j`. -/
abbrev proj (n : Fin 8) (l : Fin 4096) (j : Fin 5664) : EReal :=
  dotCol (fun k => x0 (ix3 n l k)) (fun k => x1 (ix1 k)) (fun k => x2 (ix3 n 0 k)) (fun k => x3 (ix3 n 0 k)) (fun k => x4 (ix2 k j))

theorem norm_apply (n : Fin 8) (l : Fin 4096) (k : Fin 1024) :
    val_main_v18 (F := 𝔽) x0 x1 x2 x3 (ix3 n l k)
      = hid (fun k => x0 (ix3 n l k)) (fun k => x1 (ix1 k)) (fun k => x2 (ix3 n 0 k)) (fun k => x3 (ix3 n 0 k)) k := by
  pointwise [val_main_v18, val_main_v17, val_main_v16, val_main_v15, val_main_v14, val_main_v13, val_main_cst_2, val_main_v12, val_main_v11,
    val_main_v10, val_main_v9, val_main_v8, val_main_v7, val_main_v6, val_main_v5, val_main_cst_1, val_main_v4, val_main_v3, val_main_cst_0,
    val_main_v2, val_main_v1, val_main_cst, val_main_v0, hid]

theorem proj_apply (n : Fin 8) (l : Fin 4096) (j : Fin 5664) :
    val_main_v19 (F := 𝔽) x0 x1 x2 x3 x4 (ix3 n l j) = proj x0 x1 x2 x3 x4 n l j := by
  rw [val_main_v19_apply]
  refine Finset.sum_congr rfl fun k _ => ?_
  rw [show lidx_main_v19 (ix3 n l j) k = ix3 n l k from funext fun d => by fin_cases d <;> rfl,
    show ridx_main_v19 (ix3 n l j) k = ix2 k j from funext fun d => by fin_cases d <;> rfl, norm_apply]

theorem out0_apply (n : Fin 8) (l : Fin 4096) (j : Fin 1024) :
    val_main_v28 (F := 𝔽) x0 x1 x2 x3 x4 (ix3 n l j) = proj x0 x1 x2 x3 x4 n l ⟨j.val, by omega⟩ := by
  rw [← proj_apply]
  unfold val_main_v28 val_main_v27
  generalize val_main_v19 (F := 𝔽) x0 x1 x2 x3 x4 = y
  pointwise

theorem out1_apply (n : Fin 8) (l : Fin 4096) (j : Fin 1024) :
    val_main_v30 (F := 𝔽) x0 x1 x2 x3 x4 (ix3 n l j) = proj x0 x1 x2 x3 x4 n l ⟨1024 + j.val, by omega⟩ := by
  rw [← proj_apply]
  unfold val_main_v30 val_main_v29
  generalize val_main_v19 (F := 𝔽) x0 x1 x2 x3 x4 = y
  pointwise

theorem out2_apply (n : Fin 8) (q : Fin 4) (l : Fin 4096) (j : Fin 128) :
    val_main_v31 (F := 𝔽) x0 x1 x2 x3 x4 (ix4 n q l j) = proj x0 x1 x2 x3 x4 n l ⟨2080 + (q.val * 128 + j.val), by omega⟩ := by
  rw [← proj_apply]
  unfold val_main_v31 val_main_v26 val_main_v25
  generalize val_main_v19 (F := 𝔽) x0 x1 x2 x3 x4 = y
  pointwise

theorem out3_apply (n : Fin 8) (q : Fin 32) (l : Fin 4096) :
    val_main_v33 (F := 𝔽) x0 x1 x2 x3 x4 x5 (ix3 n q l) = proj x0 x1 x2 x3 x4 n l ⟨2048 + q.val, by omega⟩
      + x5 (ix3 ⟨q.val / 16, by omega⟩ ⟨q.val / 8 % 2, by omega⟩ ⟨q.val % 8, by omega⟩) := by
  rw [← proj_apply]
  unfold val_main_v33 val_main_v32 val_main_v24 val_main_v23 val_main_v22 val_main_v21 val_main_v20
  generalize val_main_v19 (F := 𝔽) x0 x1 x2 x3 x4 = y
  pointwise

end Cert.Reference2Ideal.Proj

end
-- ==== Proof.Mix.Spec.lean ====
/- The mathematics of the mixing of the two branches, over the extended reals, one row of the batch at a time: the first
   branch's heads are normalized, gated and multiplied with their weights, the two branches are added under two gates, their
   product with the output weights is added to the row, and the row is normalized again. -/
module

public import proofs.«01_k».proof.Proof.Proj.Spec

@[expose] public section

noncomputable section

namespace Cert.Mix

open Idealize.ShloMosaic Cert.Proj

/-- One entry of a normalized head of 128 entries: `f l / √(mean f² + ε)`. -/
def head (f : Fin 128 → EReal) (l : Fin 128) : EReal :=
  f l * Ideal.rsqrt (Ideal.div (∑ j : Fin 128, f j * f j) (Ideal.ofBits .f32 0x43000000#32) + Ideal.ofBits .f32 0x358637BD#32)

/-- A row of eight heads, each normalized by itself. -/
def heads (f : Fin 1024 → EReal) (k : Fin 1024) : EReal :=
  head (fun l => f ⟨k.val / 128 * 128 + l.val, by omega⟩) ⟨k.val % 128, by omega⟩

/-- The first branch: the normalized heads under their gain and the gate `o`, times column `k` of the weights. -/
def ya (o f g : Fin 1024 → EReal) (w : Fin 1024 → Fin 1024 → EReal) (k : Fin 1024) : EReal :=
  ∑ j : Fin 1024, heads f j * g j * Ideal.logistic (o j) * w j k

/-- The two branches under their gates. -/
def merged (p q a b : Fin 1024 → EReal) (k : Fin 1024) : EReal := Ideal.logistic (p k) * a k + Ideal.logistic (q k) * b k

/-- The row with the mixed branches added: `x + m · (y @ w)`. -/
def added (x s y : Fin 1024 → EReal) (w : Fin 1024 → Fin 1024 → EReal) (k : Fin 1024) : EReal :=
  x k + s k * ∑ j : Fin 1024, y j * w j k

end Cert.Mix

end
-- ==== Proof.Mix.Tile.lean ====
/- What the mixing call's body computes for one tile of 512 rows, over the extended reals. -/
module

public import proofs.«01_k».proof.Proof.Mix.Spec
public import proofs.«01_k».proof.Proof.Gen.Kernel3Ideal.Skeleton
public import Idealize.ShloMosaic.Lib.Pointwise

@[expose] public section

set_option maxRecDepth 16384

noncomputable section

namespace Cert.Kernel3Ideal.Mix

open Cert.Kernel3Ideal Cert.Kernel3Ideal.Gen Cert.Proj Cert.Mix
open Idealize.ShloMosaic

local notation "𝔽" => Idealize.ShloMosaic.Ideal

/-- The gates' product: row `r`, normalized and modulated, times column `j`. -/
theorem og_apply (x : Vec 𝔽 S1x512x1024 .f32) (mo : Vec 𝔽 S1x6x1024 .f32) (g : Vec 𝔽 S1x1024 .f32) (w : Vec 𝔽 S1024x3072 .bf16)
    (r : Fin 512) (j : Fin 3072) :
    k0_pay4 x mo g w (ix2 r j)
      = dotCol (fun k => x (ix3 0 r k)) (fun k => g (ix2 0 k)) (fun k => mo (ix3 0 1 k)) (fun k => mo (ix3 0 0 k)) (fun k => w (ix2 k j)) := by
  pointwise [k0_pay4, k0_pay3, k0_pay2, dotCol, hid]

theorem hm_apply (a b : Vec 𝔽 S1x512x1024 .bf16) (r : Fin 512) (k : Fin 1024) :
    k0_pay5 a b (ix2 r k) = a (ix3 0 r k) + b (ix3 0 r k) := by
  pointwise [k0_pay5]

/-- The eight normalized heads under their gain. -/
theorem hn_apply (v : FVec 𝔽 S512x1024 .f32) (g : Vec 𝔽 S1x1024 .f32) (r : Fin 512) (q : Fin 8) (l : Fin 128) :
    k0_pay12 v (k0_pay6 v) (k0_pay7 v) (k0_pay8 v) (k0_pay9 v) (k0_pay10 v) (k0_pay11 v) g (ix2 r ⟨q.val * 128 + l.val, by omega⟩)
      = head (fun l => v (ix2 r ⟨q.val * 128 + l.val, by omega⟩)) l * g (ix2 0 ⟨q.val * 128 + l.val, by omega⟩) := by
  fin_cases q
  all_goals pointwise [k0_pay6, k0_pay7, k0_pay8, k0_pay9, k0_pay10, k0_pay11, k0_pay12, head]
  all_goals repeat rw [dif_neg (by omega)]
  all_goals try rw [dif_pos (by omega)]
  all_goals simp only [Nat.sub_sub, Nat.reduceAdd, Nat.add_sub_cancel_left]

theorem ya_apply (h : FVec 𝔽 S512x1024 .f32) (o : FVec 𝔽 S512x1024 .f32) (w : Vec 𝔽 S1024x1024 .bf16) (r : Fin 512) (k : Fin 1024) :
    k0_pay14 h o w (ix2 r k) = ∑ j : Fin 1024, h (ix2 r j) * Ideal.logistic (o (ix2 r j)) * w (ix2 j k) := by
  pointwise [k0_pay14]

theorem x1_apply (x : FVec 𝔽 S512x1024 .f32) (y : FVec 𝔽 S512x1024 .f32) (s : FVec 𝔽 S1x1024 .f32) (w : Vec 𝔽 S1024x1024 .bf16) (r : Fin 512) (k : Fin 1024) :
    k0_pay176 x y s w (ix2 r k) = added (fun k => x (ix2 r k)) (fun k => s (ix2 0 k)) (fun j => y (ix2 r j)) (fun j k => w (ix2 j k)) k := by
  pointwise [k0_pay176, added]

theorem h2_apply (x : FVec 𝔽 S512x1024 .f32) (mo : FVec 𝔽 S6x1024 .f32) (y : FVec 𝔽 S512x1024 .f32) (s : FVec 𝔽 S1x1024 .f32) (w : Vec 𝔽 S1024x1024 .bf16)
    (g : Vec 𝔽 S1x1024 .f32) (r : Fin 512) (k : Fin 1024) :
    k0_pay179 x mo y s w g (ix3 0 r k)
      = hid (fun k => k0_pay176 x y s w (ix2 r k)) (fun k => g (ix2 0 k)) (fun k => mo (ix2 4 k)) (fun k => mo (ix2 3 k)) k := by
  unfold k0_pay179 k0_pay178
  generalize k0_pay176 x y s w = z
  pointwise [hid]

/-- The two branches under their gates; the second branch is read from the eight planes of 128 columns. -/
theorem merged_apply (og : FVec 𝔽 S512x3072 .f32) (a : FVec 𝔽 S512x1024 .f32) (p0 p1 p2 p3 p4 p5 p6 p7 : Vec 𝔽 S1x512x128 .f32)
    (bg : Vec 𝔽 S1x2048 .f32) (r : Fin 512) (q : Fin 8) (l : Fin 128) :
    k0_pay174 og a p0 p1 p2 p3 p4 p5 p6 p7 bg (ix2 r ⟨q.val * 128 + l.val, by omega⟩)
      = Ideal.logistic (og (ix2 r ⟨1024 + (q.val * 128 + l.val), by omega⟩) + bg (ix2 0 ⟨q.val * 128 + l.val, by omega⟩)) * a (ix2 r ⟨q.val * 128 + l.val, by omega⟩)
        + Ideal.logistic (og (ix2 r ⟨1024 + (1024 + (q.val * 128 + l.val)), by omega⟩) + bg (ix2 0 ⟨1024 + (q.val * 128 + l.val), by omega⟩))
          * (![p0, p1, p2, p3, p4, p5, p6, p7] q) (ix3 0 r l) := by
  fin_cases q
  all_goals pointwise [k0_pay174]
  all_goals repeat rw [dif_neg (by omega)]
  all_goals try rw [dif_pos (by omega)]
  all_goals simp only [Nat.sub_sub, Nat.reduceAdd, Nat.add_sub_cancel_left]

end Cert.Kernel3Ideal.Mix

end
-- ==== Proof.Mix.Scratch.lean ====
/- The second branch's rows put into the order of the tokens. A point receives the tile's rows as 16 positions of 32 rows each;
   it stores the 128 columns `j` of position `t` into the rows `t, 16 + t, 32 + t, …` of plane `j`, for all `t` and `j`, and
   then loads the eight planes. Row `r` of a plane is therefore row `r / 16` of position `r % 16`. -/
module

public import proofs.«01_k».proof.Proof.Gen.Kernel3Ideal.Skeleton
public import Idealize.ShloMosaic.Lib.Pointwise
public import Idealize.ShloMosaic.Lib.Pipeline.ValueKit

@[expose] public section

set_option maxRecDepth 16384

noncomputable section

namespace Cert.Kernel3Ideal.Mix

open Cert.Kernel3Ideal Cert.Kernel3Ideal.Gen
open Idealize.ShloMosaic

local notation "𝔽" => Idealize.ShloMosaic.Ideal

/-- The planes filled: entry `(j, r, l)` is column `128·j + l` of row `r / 16` of position `r % 16`. -/
def planes (X : Vec 𝔽 S1x16x32x1024 .bf16) (y : S8x512x128.Idx) : Elt 𝔽 .f32 :=
  X (ix4 0 ⟨(y 1).val % 16, by omega⟩ ⟨(y 1).val / 16, by have : (y 1).val < 512 := (y 1).isLt; omega⟩
    ⟨(y 0).val * 128 + (y 2).val, by have : (y 0).val < 8 := (y 0).isLt; have : (y 2).val < 128 := (y 2).isLt; omega⟩)

/-- Rows `t, 16 + t, …` of plane `j`. -/
def rowsAt (j : Fin 8) (t : Fin 16) : Rect S8x512x128 where
  off := ![j.val, t.val, 0]
  size := ![1, 32, 128]
  stride := ![1, 16, 1]
  inb a := by
    match a with
    | ⟨0, _⟩ => exact Or.inr (show j.val + 1 * (1 - 1) < 8 by omega)
    | ⟨1, _⟩ => exact Or.inr (show t.val + 16 * (32 - 1) < 512 by omega)
    | ⟨2, _⟩ => exact Or.inr (show 0 + 1 * (128 - 1) < 128 by omega)
  stride_pos a := by
    match a with
    | ⟨0, _⟩ => exact Nat.one_pos
    | ⟨1, _⟩ => show 0 < 16; omega
    | ⟨2, _⟩ => exact Nat.one_pos

/-- Position `t` of the block. -/
def posRect (t : Fin 16) : Rect S1x16x32x1024 :=
  Rect.unit ![0, t.val, 0, 0] ![1, 1, 32, 1024] fun a => by
    match a with
    | ⟨0, _⟩ => show 0 + 1 ≤ 1; omega
    | ⟨1, _⟩ => show t.val + 1 ≤ 16; omega
    | ⟨2, _⟩ => show 0 + 32 ≤ 32; omega
    | ⟨3, _⟩ => show 0 + 1024 ≤ 1024; omega

/-- Columns `128·j …` of one position. -/
def colsOf (v : Vec 𝔽 S1x1x32x1024 .bf16) (j : Fin 8) : FVec 𝔽 S1x32x128 .f32 :=
  shapeCast S1x32x128 (extractStridedSlice S32x128 ![0, j.val * 128]
    (extf .f32 (shapeCast S32x1024 v shapeCasts_S1x1x32x1024_S32x1024 : FVec 𝔽 S32x1024 .bf16) bitsLt_bf16_f32 : FVec 𝔽 S32x1024 .f32)
    ⟨rfl, fun a => by
      match a with
      | ⟨0, _⟩ => show 0 + 32 ≤ 32; omega
      | ⟨1, _⟩ => show j.val * 128 + 128 ≤ 1024; omega⟩) shapeCasts_S32x128_S1x32x128

theorem colsOf_apply (v : Vec 𝔽 S1x1x32x1024 .bf16) (j : Fin 8) (n : Fin 32) (l : Fin 128) :
    colsOf v j (ix3 0 n l) = v (ix4 0 0 n ⟨j.val * 128 + l.val, by omega⟩) := by
  pointwise [colsOf]

/-- The 128 stores, the last one first. -/
def pieces (X : Vec 𝔽 S1x16x32x1024 .bf16) : List (View.Piece (Elt 𝔽) S8x512x128 .f32) :=
  List.ofFn fun n : Fin 128 =>
    ⟨rowsAt ⟨7 - n.val % 8, by omega⟩ ⟨15 - n.val / 8, by omega⟩,
      colsOf (View.ld X (posRect ⟨15 - n.val / 8, by omega⟩)) ⟨7 - n.val % 8, by omega⟩⟩

/-- Each store writes the planes' own entries. -/
theorem piece_apply (X : Vec 𝔽 S1x16x32x1024 .bf16) (j : Fin 8) (t : Fin 16) (x : S1x32x128.Idx) :
    colsOf (View.ld X (posRect t)) j x = planes X ((rowsAt j t).emb x) := by
  obtain ⟨n, l, rfl⟩ : ∃ (n : Fin 32) (l : Fin 128), x = ix3 0 n l :=
    ⟨x 1, x 2, funext fun d => by
      fin_cases d
      · exact Subsingleton.elim (α := Fin 1) _ _
      · rfl
      · rfl⟩
  refine (colsOf_apply _ j n l).trans (congrArg X (funext fun d => Fin.ext ?_))
  fin_cases d
  · rfl
  · show t.val + 1 * 0 = (t.val + 16 * n.val) % 16
    omega
  · show 0 + 1 * n.val = (t.val + 16 * n.val) / 16
    omega
  · show 0 + 1 * (j.val * 128 + l.val) = (j.val + 1 * 0) * 128 + (0 + 1 * l.val)
    omega

/-- After the 128 stores the scratch holds the planes. -/
theorem plane_canon (X : Vec 𝔽 S1x16x32x1024 .bf16) (y : S8x512x128.Idx) : View.canon (pieces X) y = planes X y := by
  refine View.canon_apply_of_pieces (planes X) _ ?_ y ?_
  · intro p hp x
    obtain ⟨n, rfl⟩ := (List.mem_ofFn' _ _).mp hp
    exact piece_apply X _ _ x
  · have h0 : (y 0).val < 8 := (y 0).isLt
    have h1 : (y 1).val < 512 := (y 1).isLt
    have h2 : (y 2).val < 128 := (y 2).isLt
    refine ⟨_, (List.mem_ofFn' _ _).mpr ⟨⟨(15 - (y 1).val % 16) * 8 + (7 - (y 0).val), by omega⟩, rfl⟩, ?_⟩
    rw [LoadRect.mem_set]
    intro a
    match a with
    | ⟨0, _⟩ => exact ⟨0, Nat.one_pos, show (y 0).val = 7 - ((15 - (y 1).val % 16) * 8 + (7 - (y 0).val)) % 8 + 1 * 0 by omega⟩
    | ⟨1, _⟩ => exact ⟨(y 1).val / 16, show (y 1).val / 16 < 32 by omega,
        show (y 1).val = 15 - ((15 - (y 1).val % 16) * 8 + (7 - (y 0).val)) / 8 + 16 * ((y 1).val / 16) by omega⟩
    | ⟨2, _⟩ => exact ⟨(y 2).val, h2, show (y 2).val = 0 + 1 * (y 2).val by omega⟩

/-- THE PLANES READ BACK: what a load of plane `q` finds after the 128 stores. -/
theorem plane_apply {κ : Kind} {sp : Space} (v : View sig κ sp S8x512x128 .f32) (X : Vec 𝔽 S1x16x32x1024 .bf16)
    (L : List (View.Piece (Elt 𝔽) S8x512x128 .f32)) (hL : L = pieces X) (q : ℕ) (hq : q < 8)
    (inb : ∀ a, (![q, 0, 0] : Fin 3 → ℕ) a + (![1, 512, 128] : Fin 3 → ℕ) a ≤ S8x512x128.size a) (r : Fin 512) (l : Fin 128) :
    (v.readCov L (Rect.unit (s := S8x512x128) ![q, 0, 0] ![1, 512, 128] inb).toLoadRect : S1x512x128.Idx → Elt 𝔽 .f32) (ix3 0 r l)
      = X (ix4 0 ⟨r.val % 16, by omega⟩ ⟨r.val / 16, by omega⟩ ⟨q * 128 + l.val, by omega⟩) := by
  subst hL
  rw [View.readCov_eq_canon']
  refine (plane_canon X _).trans (congrArg X (funext fun d => Fin.ext ?_))
  fin_cases d
  · rfl
  · show (0 + 1 * r.val) % 16 = r.val % 16
    omega
  · show (0 + 1 * r.val) / 16 = r.val / 16
    omega
  · show (q + 1 * 0) * 128 + (0 + 1 * l.val) = q * 128 + l.val
    omega

end Cert.Kernel3Ideal.Mix

end
-- ==== Proof.Mix.Out.lean ====
/- The two blocks one grid point of the mixing call writes, read at an index, over the extended reals. -/
module

public import proofs.«01_k».proof.Proof.Mix.Tile
public import proofs.«01_k».proof.Proof.Mix.Scratch
public import proofs.«01_k».proof.Proof.Gen.Kernel3Ideal.Value

@[expose] public section

set_option maxRecDepth 16384

noncomputable section

namespace Cert.Kernel3Ideal.Mix

open Cert.Kernel3Ideal Cert.Kernel3Ideal.Gen Cert.Proj Cert.Mix
open Idealize.ShloMosaic Idealize.ShloMosaic.TcCoe

local notation "𝔽" => Idealize.ShloMosaic.Ideal

section Block

variable (x0 : Vec 𝔽 S1x512x1024 .f32) (x1 x2 : Vec 𝔽 S1x512x1024 .bf16) (x3 : Vec 𝔽 S1x16x32x1024 .bf16) (x4 : Vec 𝔽 S1x6x1024 .f32)
variable (x5 x6 x7 : Vec 𝔽 S1x1024 .f32) (x8 : Vec 𝔽 S1024x3072 .bf16) (x9 : Vec 𝔽 S1024x1024 .bf16) (x10 : Vec 𝔽 S1x2048 .f32)
variable (x11 : Vec 𝔽 S1024x1024 .bf16)

/-- Column `j` of the gates of row `r` of the tile. -/
abbrev gate (r : Fin 512) (j : Fin 3072) : EReal :=
  dotCol (fun k => x0 (ix3 0 r k)) (fun k => x5 (ix2 0 k)) (fun k => x4 (ix3 0 1 k)) (fun k => x4 (ix3 0 0 k)) (fun k => x8 (ix2 k j))

/-- The first branch of row `r`. -/
abbrev first (r : Fin 512) : Fin 1024 → EReal :=
  ya (fun k => gate x0 x4 x5 x8 r ⟨k.val, by omega⟩) (fun k => x1 (ix3 0 r k) + x2 (ix3 0 r k)) (fun k => x7 (ix2 0 k)) (fun j k => x9 (ix2 j k))

/-- The second branch of row `r`: row `r / 16` of position `r % 16`. -/
abbrev second (r : Fin 512) (k : Fin 1024) : EReal := x3 (ix4 0 ⟨r.val % 16, by omega⟩ ⟨r.val / 16, by omega⟩ k)

/-- Row `r` of the tile with the two branches mixed and added. -/
abbrev mixed (r : Fin 512) : Fin 1024 → EReal :=
  added (fun k => x0 (ix3 0 r k)) (fun k => x4 (ix3 0 2 k))
    (merged (fun k => gate x0 x4 x5 x8 r ⟨1024 + k.val, by omega⟩ + x10 (ix2 0 ⟨k.val, by omega⟩))
      (fun k => gate x0 x4 x5 x8 r ⟨1024 + (1024 + k.val), by omega⟩ + x10 (ix2 0 ⟨1024 + k.val, by omega⟩))
      (first x0 x1 x2 x4 x5 x7 x8 x9 r) (second x3 r))
    (fun j k => x11 (ix2 j k))

/-- The first branch as the body computes it. -/
abbrev yaTerm : FVec 𝔽 S512x1024 .f32 :=
  k0_pay14 (k0_pay12 (k0_pay5 x1 x2) (k0_pay6 (k0_pay5 x1 x2)) (k0_pay7 (k0_pay5 x1 x2)) (k0_pay8 (k0_pay5 x1 x2)) (k0_pay9 (k0_pay5 x1 x2))
    (k0_pay10 (k0_pay5 x1 x2)) (k0_pay11 (k0_pay5 x1 x2)) x7) (k0_pay13 (k0_pay4 x0 x4 x5 x8)) x9

theorem split (k : Fin 1024) : ∃ (q : Fin 8) (l : Fin 128), k = ⟨q.val * 128 + l.val, by omega⟩ :=
  ⟨⟨k.val / 128, by omega⟩, ⟨k.val % 128, by omega⟩, Fin.ext (by show k.val = k.val / 128 * 128 + k.val % 128; omega)⟩

theorem heads_split (f : Fin 1024 → EReal) (q : Fin 8) (l : Fin 128) :
    heads f ⟨q.val * 128 + l.val, by omega⟩ = head (fun l => f ⟨q.val * 128 + l.val, by omega⟩) l := by
  unfold heads
  have e : (q.val * 128 + l.val) / 128 = q.val := by omega
  refine congr (congrArg head (funext fun l' => congrArg f (Fin.ext ?_))) (Fin.ext ?_)
  · show (q.val * 128 + l.val) / 128 * 128 + l'.val = q.val * 128 + l'.val
    rw [e]
  · show (q.val * 128 + l.val) % 128 = l.val
    omega

theorem yaTerm_apply (r : Fin 512) (k : Fin 1024) :
    yaTerm x0 x1 x2 x4 x5 x7 x8 x9 (ix2 r k) = first x0 x1 x2 x4 x5 x7 x8 x9 r k := by
  unfold yaTerm first ya
  rw [ya_apply]
  refine Finset.sum_congr rfl fun j _ => ?_
  refine congrArg (· * _) (congr (congrArg HMul.hMul ?_) (congrArg Ideal.logistic ?_))
  · obtain ⟨q, l, rfl⟩ := split j
    rw [hn_apply, heads_split]
    refine congrArg (· * _) (congrArg (head · l) (funext fun l' => ?_))
    exact hm_apply x1 x2 r _
  · refine Eq.trans (b := k0_pay4 x0 x4 x5 x8 (ix2 r ⟨j.val, by omega⟩)) ?_ (og_apply _ _ _ _ r _)
    generalize k0_pay4 x0 x4 x5 x8 = z
    pointwise [k0_pay13]

/-- The two branches under their gates as the body computes them, the second one loaded from the eight planes. -/
abbrev brTerm (v : View sig .tc .vmem S8x512x128 .f32) (L : List (View.Piece (Elt 𝔽) S8x512x128 .f32)) : FVec 𝔽 S512x1024 .f32 :=
  k0_pay174 (k0_pay4 x0 x4 x5 x8) (yaTerm x0 x1 x2 x4 x5 x7 x8 x9)
    (v.readCov L (Rect.unit (s := S8x512x128) ![0, 0, 0] ![1, 512, 128] inb_S8x512x128_S1x512x128_0_0_0).toLoadRect)
    (v.readCov L (Rect.unit (s := S8x512x128) ![1, 0, 0] ![1, 512, 128] inb_S8x512x128_S1x512x128_1_0_0).toLoadRect)
    (v.readCov L (Rect.unit (s := S8x512x128) ![2, 0, 0] ![1, 512, 128] inb_S8x512x128_S1x512x128_2_0_0).toLoadRect)
    (v.readCov L (Rect.unit (s := S8x512x128) ![3, 0, 0] ![1, 512, 128] inb_S8x512x128_S1x512x128_3_0_0).toLoadRect)
    (v.readCov L (Rect.unit (s := S8x512x128) ![4, 0, 0] ![1, 512, 128] inb_S8x512x128_S1x512x128_4_0_0).toLoadRect)
    (v.readCov L (Rect.unit (s := S8x512x128) ![5, 0, 0] ![1, 512, 128] inb_S8x512x128_S1x512x128_5_0_0).toLoadRect)
    (v.readCov L (Rect.unit (s := S8x512x128) ![6, 0, 0] ![1, 512, 128] inb_S8x512x128_S1x512x128_6_0_0).toLoadRect)
    (v.readCov L (Rect.unit (s := S8x512x128) ![7, 0, 0] ![1, 512, 128] inb_S8x512x128_S1x512x128_7_0_0).toLoadRect) x10

variable (v : View sig .tc .vmem S8x512x128 .f32) (L : List (View.Piece (Elt 𝔽) S8x512x128 .f32)) (hL : L = pieces x3)
include hL

/-- The row with the branches added, as the body computes it. -/
theorem mixed_apply (r : Fin 512) (k : Fin 1024) :
    k0_pay176 (k0_pay2 x0) (brTerm x0 x1 x2 x4 x5 x7 x8 x9 x10 v L) (k0_pay175 (k0_pay3 x4)) x11 (ix2 r k)
      = mixed x0 x1 x2 x3 x4 x5 x7 x8 x9 x10 x11 r k := by
  rw [x1_apply]
  refine congrFun (congr (congr (congr (congrArg added (funext fun k => ?_)) (funext fun k => ?_)) (funext fun k => ?_)) rfl) k
  · pointwise [k0_pay2]
  · pointwise [k0_pay175, k0_pay3]
  · obtain ⟨q, l, rfl⟩ := split k
    unfold brTerm
    rw [merged_apply, yaTerm_apply, og_apply, og_apply]
    unfold merged
    refine congrArg₂ (· + ·) rfl (congrArg₂ (· * ·) rfl ?_)
    fin_cases q
    · exact plane_apply v x3 L hL 0 (by omega) _ r l
    · exact plane_apply v x3 L hL 1 (by omega) _ r l
    · exact plane_apply v x3 L hL 2 (by omega) _ r l
    · exact plane_apply v x3 L hL 3 (by omega) _ r l
    · exact plane_apply v x3 L hL 4 (by omega) _ r l
    · exact plane_apply v x3 L hL 5 (by omega) _ r l
    · exact plane_apply v x3 L hL 6 (by omega) _ r l
    · exact plane_apply v x3 L hL 7 (by omega) _ r l

/-- The first block's tower. -/
theorem tower14 (r : Fin 512) (k : Fin 1024) :
    k0_pay177 (k0_pay2 x0) (brTerm x0 x1 x2 x4 x5 x7 x8 x9 x10 v L) (k0_pay175 (k0_pay3 x4)) x11 (ix3 0 r k)
      = mixed x0 x1 x2 x3 x4 x5 x7 x8 x9 x10 x11 r k := by
  rw [← mixed_apply x0 x1 x2 x3 x4 x5 x7 x8 x9 x10 x11 v L hL]
  unfold k0_pay177
  generalize k0_pay176 (k0_pay2 x0) (brTerm x0 x1 x2 x4 x5 x7 x8 x9 x10 v L) (k0_pay175 (k0_pay3 x4)) x11 = z
  pointwise

/-- The second block's tower: the row with the branches added, normalized and modulated. -/
theorem tower15 (r : Fin 512) (k : Fin 1024) :
    k0_pay179 (k0_pay2 x0) (k0_pay3 x4) (brTerm x0 x1 x2 x4 x5 x7 x8 x9 x10 v L) (k0_pay175 (k0_pay3 x4)) x11 x6 (ix3 0 r k)
      = hid (mixed x0 x1 x2 x3 x4 x5 x7 x8 x9 x10 x11 r) (fun k => x6 (ix2 0 k)) (fun k => x4 (ix3 0 4 k)) (fun k => x4 (ix3 0 3 k)) k := by
  rw [h2_apply]
  refine congrFun (congr (congr (congr (congrArg hid (funext fun k => ?_)) rfl) (funext fun k => ?_)) (funext fun k => ?_)) k
  · exact mixed_apply x0 x1 x2 x3 x4 x5 x7 x8 x9 x10 x11 v L hL r k
  · pointwise [k0_pay3]
  · pointwise [k0_pay3]

end Block

variable (m : (ℓ : Loc nD τ sig) → Buf (Elt 𝔽) ℓ) (c : Dev nD)

/-- Row `r` of the tile of point `t`, mixed and added. -/
abbrev mixedAt (t : Fin cfg0.N) (r : Fin 512) : Fin 1024 → EReal :=
  mixed (iblk m c 0 t) (iblk m c 1 t) (iblk m c 2 t) (iblk m c 3 t) (iblk m c 4 t) (iblk m c 5 t) (iblk m c 7 t) (iblk m c 8 t) (iblk m c 9 t)
    (iblk m c 10 t) (iblk m c 11 t) r

/-- THE FIRST BLOCK. -/
theorem out14_apply (t : Fin cfg0.N) (r : Fin 512) (k : Fin 1024) : (outsAt0 m c t.val t.isLt).1 (ix3 0 r k) = mixedAt m c t r k := by
  by_cases h0 : t.val % 64 = 0
  · rw [outsAt0_A m c t h0]
    dsimp only
    frame_out
    refine tower14 _ _ _ _ _ _ _ _ _ _ _ (View.whole cc0_scratch1) _ ?_ r k
    sl_kernel_rfl
  · rw [outsAt0_B m c t h0]
    dsimp only
    frame_out
    refine tower14 _ _ _ _ _ _ _ _ _ _ _ (View.whole cc0_scratch1) _ ?_ r k
    sl_kernel_rfl

/-- THE SECOND BLOCK. -/
theorem out15_apply (t : Fin cfg0.N) (r : Fin 512) (k : Fin 1024) :
    (outsAt0 m c t.val t.isLt).2.1 (ix3 0 r k)
      = hid (mixedAt m c t r) (fun k => (iblk m c 6 t : S1x1024.Idx → Elt 𝔽 .f32) (ix2 0 k))
          (fun k => (iblk m c 4 t : S1x6x1024.Idx → Elt 𝔽 .f32) (ix3 0 4 k)) (fun k => (iblk m c 4 t : S1x6x1024.Idx → Elt 𝔽 .f32) (ix3 0 3 k)) k := by
  by_cases h0 : t.val % 64 = 0
  · rw [outsAt0_A m c t h0]
    dsimp only
    frame_out
    refine tower15 _ _ _ _ _ _ _ _ _ _ _ _ (View.whole cc0_scratch1) _ ?_ r k
    sl_kernel_rfl
  · rw [outsAt0_B m c t h0]
    dsimp only
    frame_out
    refine tower15 _ _ _ _ _ _ _ _ _ _ _ _ (View.whole cc0_scratch1) _ ?_ r k
    sl_kernel_rfl

end Cert.Kernel3Ideal.Mix

end
-- ==== Proof.Mix.Kernel.lean ====
/- What the mixing call leaves in its first two results, over the extended reals.

   Grid point `(n, i)` reads rows `512·i …` of sequence `n` of the tokens and of the two head streams, rows `32·i …` of every
   position of the second branch, that sequence's six rows of scales and shifts, and the whole of the gains, of the weights and of
   the bias; it writes the same rows of the two results. The host has cut columns 2592 … 5663 out of the projection's weights. -/
module

public import proofs.«01_k».proof.Proof.Mix.Out
public import Idealize.ShloMosaic.Lib.Claim

@[expose] public section

set_option maxRecDepth 16384

noncomputable section

namespace Cert.Kernel3Ideal.Mix

open Cert.Kernel3Ideal Cert.Kernel3Ideal.Gen Cert.Kernel3Ideal.Value Cert.Proj Cert.Mix
open Idealize.ShloMosaic Idealize.ShloMosaic.TcCoe Idealize.ShloMosaic.Tactic

local notation "𝔽" => Idealize.ShloMosaic.Ideal

variable (m : (ℓ : Loc nD τ sig) → Buf (Elt 𝔽) ℓ) (c : Dev nD)

/-- The arguments as arrays. -/
abbrev arg0 : S8x4096x1024.Idx → Elt 𝔽 .f32 := m ((c.tc : Thread nD τ).loc main_arg0)
abbrev arg1 : S8x4096x1024.Idx → Elt 𝔽 .bf16 := m ((c.tc : Thread nD τ).loc main_arg1)
abbrev arg2 : S8x4096x1024.Idx → Elt 𝔽 .bf16 := m ((c.tc : Thread nD τ).loc main_arg2)
abbrev arg3 : S8x16x256x1024.Idx → Elt 𝔽 .bf16 := m ((c.tc : Thread nD τ).loc main_arg3)
abbrev arg4 : S8x6x1024.Idx → Elt 𝔽 .f32 := m ((c.tc : Thread nD τ).loc main_arg4)
abbrev arg5 : S1024.Idx → Elt 𝔽 .f32 := m ((c.tc : Thread nD τ).loc main_arg5)
abbrev arg6 : S1024.Idx → Elt 𝔽 .f32 := m ((c.tc : Thread nD τ).loc main_arg6)
abbrev arg7 : S1024.Idx → Elt 𝔽 .f32 := m ((c.tc : Thread nD τ).loc main_arg7)
abbrev arg8 : S1024x5664.Idx → Elt 𝔽 .f32 := m ((c.tc : Thread nD τ).loc main_arg8)
abbrev arg9 : S1024x1024.Idx → Elt 𝔽 .f32 := m ((c.tc : Thread nD τ).loc main_arg9)
abbrev arg10 : S2048.Idx → Elt 𝔽 .f32 := m ((c.tc : Thread nD τ).loc main_arg10)
abbrev arg11 : S1024x1024.Idx → Elt 𝔽 .f32 := m ((c.tc : Thread nD τ).loc main_arg11)

/-- What the host hands over: the three gains as one row each … -/
theorem gain5_apply (k : Fin 1024) : (V m c main_v5 : S1x1024.Idx → Elt 𝔽 .f32) (ix2 0 k) = arg5 m c (ix1 k) := by
  entry_read
  pointwise
theorem gain6_apply (k : Fin 1024) : (V m c main_v6 : S1x1024.Idx → Elt 𝔽 .f32) (ix2 0 k) = arg6 m c (ix1 k) := by
  entry_read
  pointwise
theorem gain7_apply (k : Fin 1024) : (V m c main_v7 : S1x1024.Idx → Elt 𝔽 .f32) (ix2 0 k) = arg7 m c (ix1 k) := by
  entry_read
  pointwise

/-- … the gates' columns of the projection's weights … -/
theorem weights_apply (k : Fin 1024) (j : Fin 3072) :
    (V m c main_v1 : S1024x3072.Idx → Elt 𝔽 .bf16) (ix2 k j) = arg8 m c (ix2 k ⟨2592 + j.val, by omega⟩) := by
  entry_read
  pointwise

/-- … the two square weights … -/
theorem square9_apply (j k : Fin 1024) : (V m c main_v2 : S1024x1024.Idx → Elt 𝔽 .bf16) (ix2 j k) = arg9 m c (ix2 j k) := by
  entry_read
  pointwise
theorem square11_apply (j k : Fin 1024) : (V m c main_v3 : S1024x1024.Idx → Elt 𝔽 .bf16) (ix2 j k) = arg11 m c (ix2 j k) := by
  entry_read
  pointwise

/-- … and the bias as one row. -/
theorem bias_apply (j : Fin 2048) : (V m c main_v8 : S1x2048.Idx → Elt 𝔽 .f32) (ix2 0 j) = arg10 m c (ix1 j) := by
  entry_read
  pointwise

/-- The sequence and the tile of a grid point. -/
abbrev seqOf (t : Fin grid0.N) : Fin 8 := ⟨t.val / 8, by have : t.val < 64 := t.isLt; omega⟩
abbrev tileOf (t : Fin grid0.N) : Fin 8 := ⟨t.val % 8, by omega⟩
/-- Row `r` of the tile as a row of the sequence. -/
abbrev rowOf (t : Fin grid0.N) (r : Fin 512) : Fin 4096 := ⟨t.val % 8 * 512 + r.val, by omega⟩

theorem coord0 : ∀ t : Fin grid0.N, (BitVec.ofNat 32 (grid0.coords t 0).val).toNat = t.val / 8 := by decide +kernel
theorem coord1 : ∀ t : Fin grid0.N, (BitVec.ofNat 32 (grid0.coords t 1).val).toNat = t.val % 8 := by decide +kernel

/-- Where each window's block lies in its array. -/
theorem emb0_val (t : Fin grid0.N) (y : S1x512x1024.Idx) (d : Fin 3) :
    ((win0_0.blk t).view.emb y d : ℕ)
      = (![(BitVec.ofNat 32 (grid0.coords t 0).val).toNat, (BitVec.ofNat 32 (grid0.coords t 1).val).toNat, 0] : Fin 3 → ℕ) d * (![1, 512, 1024] : Fin 3 → ℕ) d + y d :=
  Pipeline.Window.rect_emb_val win0_0 t y d rfl
theorem emb1_val (t : Fin grid0.N) (y : S1x512x1024.Idx) (d : Fin 3) :
    ((win0_1.blk t).view.emb y d : ℕ)
      = (![(BitVec.ofNat 32 (grid0.coords t 0).val).toNat, (BitVec.ofNat 32 (grid0.coords t 1).val).toNat, 0] : Fin 3 → ℕ) d * (![1, 512, 1024] : Fin 3 → ℕ) d + y d :=
  Pipeline.Window.rect_emb_val win0_1 t y d rfl
theorem emb2_val (t : Fin grid0.N) (y : S1x512x1024.Idx) (d : Fin 3) :
    ((win0_2.blk t).view.emb y d : ℕ)
      = (![(BitVec.ofNat 32 (grid0.coords t 0).val).toNat, (BitVec.ofNat 32 (grid0.coords t 1).val).toNat, 0] : Fin 3 → ℕ) d * (![1, 512, 1024] : Fin 3 → ℕ) d + y d :=
  Pipeline.Window.rect_emb_val win0_2 t y d rfl
theorem emb3_val (t : Fin grid0.N) (y : S1x16x32x1024.Idx) (d : Fin 4) :
    ((win0_3.blk t).view.emb y d : ℕ)
      = (![(BitVec.ofNat 32 (grid0.coords t 0).val).toNat, 0, (BitVec.ofNat 32 (grid0.coords t 1).val).toNat, 0] : Fin 4 → ℕ) d * (![1, 16, 32, 1024] : Fin 4 → ℕ) d + y d :=
  Pipeline.Window.rect_emb_val win0_3 t y d rfl
theorem emb4_val (t : Fin grid0.N) (y : S1x6x1024.Idx) (d : Fin 3) :
    ((win0_4.blk t).view.emb y d : ℕ)
      = (![(BitVec.ofNat 32 (grid0.coords t 0).val).toNat, 0, 0] : Fin 3 → ℕ) d * (![1, 6, 1024] : Fin 3 → ℕ) d + y d :=
  Pipeline.Window.rect_emb_val win0_4 t y d rfl
theorem emb5_val (t : Fin grid0.N) (y : S1x1024.Idx) (d : Fin 2) :
    ((win0_5.blk t).view.emb y d : ℕ)
      = (![0, 0] : Fin 2 → ℕ) d * (![1, 1024] : Fin 2 → ℕ) d + y d :=
  Pipeline.Window.rect_emb_val win0_5 t y d rfl
theorem emb6_val (t : Fin grid0.N) (y : S1x1024.Idx) (d : Fin 2) :
    ((win0_6.blk t).view.emb y d : ℕ)
      = (![0, 0] : Fin 2 → ℕ) d * (![1, 1024] : Fin 2 → ℕ) d + y d :=
  Pipeline.Window.rect_emb_val win0_6 t y d rfl
theorem emb7_val (t : Fin grid0.N) (y : S1x1024.Idx) (d : Fin 2) :
    ((win0_7.blk t).view.emb y d : ℕ)
      = (![0, 0] : Fin 2 → ℕ) d * (![1, 1024] : Fin 2 → ℕ) d + y d :=
  Pipeline.Window.rect_emb_val win0_7 t y d rfl
theorem emb8_val (t : Fin grid0.N) (y : S1024x3072.Idx) (d : Fin 2) :
    ((win0_8.blk t).view.emb y d : ℕ)
      = (![0, 0] : Fin 2 → ℕ) d * (![1024, 3072] : Fin 2 → ℕ) d + y d :=
  Pipeline.Window.rect_emb_val win0_8 t y d rfl
theorem emb9_val (t : Fin grid0.N) (y : S1024x1024.Idx) (d : Fin 2) :
    ((win0_9.blk t).view.emb y d : ℕ)
      = (![0, 0] : Fin 2 → ℕ) d * (![1024, 1024] : Fin 2 → ℕ) d + y d :=
  Pipeline.Window.rect_emb_val win0_9 t y d rfl
theorem emb10_val (t : Fin grid0.N) (y : S1x2048.Idx) (d : Fin 2) :
    ((win0_10.blk t).view.emb y d : ℕ)
      = (![0, 0] : Fin 2 → ℕ) d * (![1, 2048] : Fin 2 → ℕ) d + y d :=
  Pipeline.Window.rect_emb_val win0_10 t y d rfl
theorem emb11_val (t : Fin grid0.N) (y : S1024x1024.Idx) (d : Fin 2) :
    ((win0_11.blk t).view.emb y d : ℕ)
      = (![0, 0] : Fin 2 → ℕ) d * (![1024, 1024] : Fin 2 → ℕ) d + y d :=
  Pipeline.Window.rect_emb_val win0_11 t y d rfl
theorem emb14_val (t : Fin grid0.N) (y : S1x512x1024.Idx) (d : Fin 3) :
    ((win0_14.blk t).view.emb y d : ℕ)
      = (![(BitVec.ofNat 32 (grid0.coords t 0).val).toNat, (BitVec.ofNat 32 (grid0.coords t 1).val).toNat, 0] : Fin 3 → ℕ) d * (![1, 512, 1024] : Fin 3 → ℕ) d + y d :=
  Pipeline.Window.rect_emb_val win0_14 t y d rfl
theorem emb15_val (t : Fin grid0.N) (y : S1x512x1024.Idx) (d : Fin 3) :
    ((win0_15.blk t).view.emb y d : ℕ)
      = (![(BitVec.ofNat 32 (grid0.coords t 0).val).toNat, (BitVec.ofNat 32 (grid0.coords t 1).val).toNat, 0] : Fin 3 → ℕ) d * (![1, 512, 1024] : Fin 3 → ℕ) d + y d :=
  Pipeline.Window.rect_emb_val win0_15 t y d rfl

/-- The blocks a point reads, at an index. -/
theorem block0 (t : Fin grid0.N) (r : Fin 512) (k : Fin 1024) :
    (iblk m c 0 t : S1x512x1024.Idx → Elt 𝔽 .f32) (ix3 0 r k) = arg0 m c (ix3 (seqOf t) (rowOf t r) k) := by
  refine (congrFun (V_main_arg0 m c) _).trans (congrArg (arg0 m c) (funext fun d => Fin.ext ((emb0_val t _ d).trans ?_)))
  rw [coord0, coord1]
  fin_cases d
  · show t.val / 8 * 1 + 0 = t.val / 8; omega
  · rfl
  · show 0 * 1024 + k.val = k.val; omega
theorem block1 (t : Fin grid0.N) (r : Fin 512) (k : Fin 1024) :
    (iblk m c 1 t : S1x512x1024.Idx → Elt 𝔽 .bf16) (ix3 0 r k) = arg1 m c (ix3 (seqOf t) (rowOf t r) k) := by
  refine (congrFun (V_main_arg1 m c) _).trans (congrArg (arg1 m c) (funext fun d => Fin.ext ((emb1_val t _ d).trans ?_)))
  rw [coord0, coord1]
  fin_cases d
  · show t.val / 8 * 1 + 0 = t.val / 8; omega
  · rfl
  · show 0 * 1024 + k.val = k.val; omega
theorem block2 (t : Fin grid0.N) (r : Fin 512) (k : Fin 1024) :
    (iblk m c 2 t : S1x512x1024.Idx → Elt 𝔽 .bf16) (ix3 0 r k) = arg2 m c (ix3 (seqOf t) (rowOf t r) k) := by
  refine (congrFun (V_main_arg2 m c) _).trans (congrArg (arg2 m c) (funext fun d => Fin.ext ((emb2_val t _ d).trans ?_)))
  rw [coord0, coord1]
  fin_cases d
  · show t.val / 8 * 1 + 0 = t.val / 8; omega
  · rfl
  · show 0 * 1024 + k.val = k.val; omega
theorem block3 (t : Fin grid0.N) (p : Fin 16) (r : Fin 32) (k : Fin 1024) :
    (iblk m c 3 t : S1x16x32x1024.Idx → Elt 𝔽 .bf16) (ix4 0 p r k) = arg3 m c (ix4 (seqOf t) p ⟨t.val % 8 * 32 + r.val, by omega⟩ k) := by
  refine (congrFun (V_main_arg3 m c) _).trans (congrArg (arg3 m c) (funext fun d => Fin.ext ((emb3_val t _ d).trans ?_)))
  rw [coord0, coord1]
  fin_cases d
  · show t.val / 8 * 1 + 0 = t.val / 8; omega
  · show 0 * 16 + p.val = p.val; omega
  · rfl
  · show 0 * 1024 + k.val = k.val; omega
theorem block4 (t : Fin grid0.N) (p : Fin 6) (k : Fin 1024) :
    (iblk m c 4 t : S1x6x1024.Idx → Elt 𝔽 .f32) (ix3 0 p k) = arg4 m c (ix3 (seqOf t) p k) := by
  refine (congrFun (V_main_arg4 m c) _).trans (congrArg (arg4 m c) (funext fun d => Fin.ext ((emb4_val t _ d).trans ?_)))
  rw [coord0]
  fin_cases d
  · show t.val / 8 * 1 + 0 = t.val / 8; omega
  · show 0 * 6 + p.val = p.val; omega
  · show 0 * 1024 + k.val = k.val; omega
theorem block5 (t : Fin grid0.N) (k : Fin 1024) :
    (iblk m c 5 t : S1x1024.Idx → Elt 𝔽 .f32) (ix2 0 k) = arg5 m c (ix1 k) := by
  refine Eq.trans (congrArg (V m c main_v5) (funext fun d => Fin.ext ((emb5_val t _ d).trans ?_))) (gain5_apply m c k)
  fin_cases d
  · rfl
  · show 0 * 1024 + k.val = k.val; omega
theorem block6 (t : Fin grid0.N) (k : Fin 1024) :
    (iblk m c 6 t : S1x1024.Idx → Elt 𝔽 .f32) (ix2 0 k) = arg6 m c (ix1 k) := by
  refine Eq.trans (congrArg (V m c main_v6) (funext fun d => Fin.ext ((emb6_val t _ d).trans ?_))) (gain6_apply m c k)
  fin_cases d
  · rfl
  · show 0 * 1024 + k.val = k.val; omega
theorem block7 (t : Fin grid0.N) (k : Fin 1024) :
    (iblk m c 7 t : S1x1024.Idx → Elt 𝔽 .f32) (ix2 0 k) = arg7 m c (ix1 k) := by
  refine Eq.trans (congrArg (V m c main_v7) (funext fun d => Fin.ext ((emb7_val t _ d).trans ?_))) (gain7_apply m c k)
  fin_cases d
  · rfl
  · show 0 * 1024 + k.val = k.val; omega
theorem block8 (t : Fin grid0.N) (k : Fin 1024) (j : Fin 3072) :
    (iblk m c 8 t : S1024x3072.Idx → Elt 𝔽 .bf16) (ix2 k j) = arg8 m c (ix2 k ⟨2592 + j.val, by omega⟩) := by
  refine Eq.trans (congrArg (V m c main_v1) (funext fun d => Fin.ext ((emb8_val t _ d).trans ?_))) (weights_apply m c k j)
  fin_cases d
  · show 0 * 1024 + k.val = k.val; omega
  · show 0 * 3072 + j.val = j.val; omega
theorem block10 (t : Fin grid0.N) (j : Fin 2048) :
    (iblk m c 10 t : S1x2048.Idx → Elt 𝔽 .f32) (ix2 0 j) = arg10 m c (ix1 j) := by
  refine Eq.trans (congrArg (V m c main_v8) (funext fun d => Fin.ext ((emb10_val t _ d).trans ?_))) (bias_apply m c j)
  fin_cases d
  · rfl
  · show 0 * 2048 + j.val = j.val; omega
theorem block9 (t : Fin grid0.N) (j k : Fin 1024) :
    (iblk m c 9 t : S1024x1024.Idx → Elt 𝔽 .bf16) (ix2 j k) = arg9 m c (ix2 j k) := by
  refine Eq.trans (congrArg (V m c main_v2) (funext fun d => Fin.ext ((emb9_val t _ d).trans ?_))) (square9_apply m c j k)
  fin_cases d
  · show 0 * 1024 + j.val = j.val; omega
  · show 0 * 1024 + k.val = k.val; omega
theorem block11 (t : Fin grid0.N) (j k : Fin 1024) :
    (iblk m c 11 t : S1024x1024.Idx → Elt 𝔽 .bf16) (ix2 j k) = arg11 m c (ix2 j k) := by
  refine Eq.trans (congrArg (V m c main_v3) (funext fun d => Fin.ext ((emb11_val t _ d).trans ?_))) (square11_apply m c j k)
  fin_cases d
  · show 0 * 1024 + j.val = j.val; omega
  · show 0 * 1024 + k.val = k.val; omega

/-- The projection of row `l` of sequence `n` to column `j`: the row normalized and modulated, times the column of the weights. -/
abbrev projG (n : Fin 8) (l : Fin 4096) (j : Fin 5664) : EReal :=
  dotCol (fun k => arg0 m c (ix3 n l k)) (fun k => arg5 m c (ix1 k)) (fun k => arg4 m c (ix3 n 1 k)) (fun k => arg4 m c (ix3 n 0 k))
    (fun k => arg8 m c (ix2 k j))

/-- The first branch of row `l` of sequence `n`. -/
abbrev firstG (n : Fin 8) (l : Fin 4096) : Fin 1024 → EReal :=
  ya (fun k => projG m c n l ⟨2592 + k.val, by omega⟩) (fun k => arg1 m c (ix3 n l k) + arg2 m c (ix3 n l k)) (fun k => arg7 m c (ix1 k))
    (fun j k => arg9 m c (ix2 j k))

/-- The second branch: row `l / 16` of position `l % 16`. -/
abbrev secondG (n : Fin 8) (l : Fin 4096) (k : Fin 1024) : EReal := arg3 m c (ix4 n ⟨l.val % 16, by omega⟩ ⟨l.val / 16, by omega⟩ k)

/-- THE MIXED ROW: the row with the two branches, each under its gate, projected and added under the scale. -/
abbrev mixedG (n : Fin 8) (l : Fin 4096) : Fin 1024 → EReal :=
  added (fun k => arg0 m c (ix3 n l k)) (fun k => arg4 m c (ix3 n 2 k))
    (merged (fun k => projG m c n l ⟨3616 + k.val, by omega⟩ + arg10 m c (ix1 ⟨k.val, by omega⟩))
      (fun k => projG m c n l ⟨3616 + (1024 + k.val), by omega⟩ + arg10 m c (ix1 ⟨1024 + k.val, by omega⟩))
      (firstG m c n l) (secondG m c n l))
    (fun j k => arg11 m c (ix2 j k))

theorem gate_eq (t : Fin grid0.N) (r : Fin 512) (j : Fin 3072) (i : Fin 5664) (hi : i.val = 2592 + j.val) :
    gate (iblk m c 0 t) (iblk m c 4 t) (iblk m c 5 t) (iblk m c 8 t) r j = projG m c (seqOf t) (rowOf t r) i := by
  unfold gate projG
  refine congr (congr (congr (congr (congrArg dotCol (funext fun k => ?_)) (funext fun k => ?_)) (funext fun k => ?_)) (funext fun k => ?_)) (funext fun k => ?_)
  · exact block0 m c t r k
  · exact block5 m c t k
  · exact block4 m c t 1 k
  · exact block4 m c t 0 k
  · exact (block8 m c t k j).trans (congrArg (arg8 m c) (congrArg (ix2 k) (Fin.ext hi.symm)))

theorem first_eq (t : Fin grid0.N) (r : Fin 512) :
    first (iblk m c 0 t) (iblk m c 1 t) (iblk m c 2 t) (iblk m c 4 t) (iblk m c 5 t) (iblk m c 7 t) (iblk m c 8 t) (iblk m c 9 t) r
      = firstG m c (seqOf t) (rowOf t r) := by
  unfold first firstG
  refine congr (congr (congr (congrArg ya (funext fun k => ?_)) (funext fun k => ?_)) (funext fun k => ?_)) (funext fun j => funext fun k => ?_)
  · exact gate_eq m c t r _ _ rfl
  · exact congrArg₂ (· + ·) (block1 m c t r k) (block2 m c t r k)
  · exact block7 m c t k
  · exact block9 m c t j k

theorem second_eq (t : Fin grid0.N) (r : Fin 512) : second (iblk m c 3 t) r = secondG m c (seqOf t) (rowOf t r) := by
  funext k
  refine (block3 m c t _ _ k).trans (congrArg (arg3 m c) ?_)
  refine congr (congr (congrArg (ix4 (seqOf t)) (Fin.ext ?_)) (Fin.ext ?_)) rfl
  · show r.val % 16 = (t.val % 8 * 512 + r.val) % 16; omega
  · show t.val % 8 * 32 + r.val / 16 = (t.val % 8 * 512 + r.val) / 16; omega

theorem mixed_eq (t : Fin grid0.N) (r : Fin 512) : mixedAt m c t r = mixedG m c (seqOf t) (rowOf t r) := by
  unfold mixedAt mixed mixedG
  refine congr (congr (congr (congrArg added (funext fun k => ?_)) (funext fun k => ?_)) ?_) (funext fun j => funext fun k => ?_)
  · exact block0 m c t r k
  · exact block4 m c t 2 k
  · refine congr (congr (congr (congrArg merged (funext fun k => ?_)) (funext fun k => ?_)) (first_eq m c t r)) (second_eq m c t r)
    · exact congrArg₂ (· + ·) (gate_eq m c t r _ _ (by show 3616 + k.val = 2592 + (1024 + k.val); omega)) (block10 m c t _)
    · exact congrArg₂ (· + ·) (gate_eq m c t r _ _ (by show 3616 + (1024 + k.val) = 2592 + (1024 + (1024 + k.val)); omega)) (block10 m c t _)
  · exact block11 m c t j k

/-- THE FIRST RESULT: the mixed rows. -/
theorem result14 (G : S8x4096x1024.Idx → Elt 𝔽 .f32) (hG : ∀ n l (k : Fin 1024), G (ix3 n l k) = mixedG m c n l k) :
    (dats m 0 c).arrAt 14 cfg0.N = G := by
  refine (dats m 0 c).arrAt_eq_of_covers 14 G (by decide +kernel) fun t _ y => ?_
  obtain ⟨r, k, rfl⟩ : ∃ (r : Fin 512) (k : Fin 1024), y = ix3 0 r k :=
    ⟨y 1, y 2, funext fun d => by
      fin_cases d
      · exact Subsingleton.elim (α := Fin 1) _ _
      · rfl
      · rfl⟩
  refine Eq.trans (b := (outsAt0 m c t.val t.isLt).1 (ix3 0 r k)) (congrFun (after0_14 m c t) _) ?_
  rw [out14_apply, mixed_eq, ← hG]
  refine congrArg G (funext fun d => Fin.ext (Eq.trans ?_ (emb14_val t _ d).symm))
  rw [coord0, coord1]
  fin_cases d
  · show t.val / 8 = t.val / 8 * 1 + 0; omega
  · rfl
  · show k.val = 0 * 1024 + k.val; omega

/-- THE SECOND RESULT: the mixed rows, normalized and modulated. -/
theorem result15 (G : S8x4096x1024.Idx → Elt 𝔽 .f32) (hG : ∀ n l (k : Fin 1024), G (ix3 n l k) = hid (mixedG m c n l) (fun k => arg6 m c (ix1 k)) (fun k => arg4 m c (ix3 n 4 k)) (fun k => arg4 m c (ix3 n 3 k)) k) :
    (dats m 0 c).arrAt 15 cfg0.N = G := by
  refine (dats m 0 c).arrAt_eq_of_covers 15 G (by decide +kernel) fun t _ y => ?_
  obtain ⟨r, k, rfl⟩ : ∃ (r : Fin 512) (k : Fin 1024), y = ix3 0 r k :=
    ⟨y 1, y 2, funext fun d => by
      fin_cases d
      · exact Subsingleton.elim (α := Fin 1) _ _
      · rfl
      · rfl⟩
  refine Eq.trans (b := (outsAt0 m c t.val t.isLt).2.1 (ix3 0 r k)) (congrFun (after0_15 m c t) _) ?_
  refine (out15_apply m c t r k).trans ?_
  rw [mixed_eq]
  refine Eq.trans (b := hid (mixedG m c (seqOf t) (rowOf t r)) (fun k => arg6 m c (ix1 k)) (fun k => arg4 m c (ix3 (seqOf t) 4 k)) (fun k => arg4 m c (ix3 (seqOf t) 3 k)) k)
    (congrFun (congr (congr (congr rfl (funext fun k => ?_)) (funext fun k => ?_)) (funext fun k => ?_)) k) ?_
  · exact block6 m c t k
  · exact block4 m c t 4 k
  · exact block4 m c t 3 k
  rw [← hG]
  refine congrArg G (funext fun d => Fin.ext (Eq.trans ?_ (emb15_val t _ d).symm))
  rw [coord0, coord1]
  fin_cases d
  · show t.val / 8 = t.val / 8 * 1 + 0; omega
  · rfl
  · show k.val = 0 * 1024 + k.val; omega

end Cert.Kernel3Ideal.Mix

end
-- ==== Proof.Mix.Reference.lean ====
/- The plain reference of the mixing: it runs, leaves its arguments and every counter as they were, and its two results are,
   row by row, the mixed row and its normalization. -/
module

public import proofs.«01_k».proof.Proof.Mix.Spec
public import proofs.«01_k».proof.Proof.Gen.Reference3Ideal.Run
public import proofs.«01_k».proof.Proof.Gen.Reference3Ideal.Read
public import Idealize.ShloMosaic.Lib.Quiescent
public import Idealize.ShloMosaic.Lib.Pointwise

@[expose] public section

set_option maxRecDepth 16384

noncomputable section

namespace Cert.Reference3Ideal.Mix

open Cert.Reference3Ideal Cert.Reference3Ideal.Gen Cert.Reference3Ideal.Read Cert.Proj Cert.Mix
open Idealize.ShloMosaic Idealize.ShloMosaic.TcCoe Idealize.SL.Sem

local notation "𝔽" => Idealize.ShloMosaic.Ideal

/-- THE FRAME of the reference. -/
theorem quiescent (m : (ℓ : Loc nD τ sig) → Buf (Elt 𝔽) ℓ) (ρ : Dev nD → PrngReg) :
    θ_run (defs (F := 𝔽)) (onTc (τ := τ) (main (F := 𝔽))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun r h => ⟨fun c => (h c).2.2, sem_eq_zero_of_no_sems (by decide) r.2⟩) (Cert.Reference3Ideal.Value.run m ρ)

variable (x0 : S8x4096x1024.Idx → Elt 𝔽 .f32) (x1 x2 : S8x4096x1024.Idx → Elt 𝔽 .bf16) (x3 : S8x16x256x1024.Idx → Elt 𝔽 .bf16)
variable (x4 : S8x6x1024.Idx → Elt 𝔽 .f32) (x5 x6 x7 : S1024.Idx → Elt 𝔽 .f32) (x8 : S1024x5664.Idx → Elt 𝔽 .f32)
variable (x9 : S1024x1024.Idx → Elt 𝔽 .f32) (x10 : S2048.Idx → Elt 𝔽 .f32) (x11 : S1024x1024.Idx → Elt 𝔽 .f32)

/-- The projection of row `l` of sequence `n` to column `j`. -/
abbrev proj (n : Fin 8) (l : Fin 4096) (j : Fin 5664) : EReal :=
  dotCol (fun k => x0 (ix3 n l k)) (fun k => x5 (ix1 k)) (fun k => x4 (ix3 n 1 k)) (fun k => x4 (ix3 n 0 k)) (fun k => x8 (ix2 k j))

/-- The first branch of a row. -/
abbrev first (n : Fin 8) (l : Fin 4096) : Fin 1024 → EReal :=
  ya (fun k => proj x0 x4 x5 x8 n l ⟨2592 + k.val, by omega⟩) (fun k => x1 (ix3 n l k) + x2 (ix3 n l k)) (fun k => x7 (ix1 k))
    (fun j k => x9 (ix2 j k))

/-- The second branch of a row: row `l / 16` of position `l % 16`. -/
abbrev second (n : Fin 8) (l : Fin 4096) (k : Fin 1024) : EReal := x3 (ix4 n ⟨l.val % 16, by omega⟩ ⟨l.val / 16, by omega⟩ k)

/-- The row with the two branches mixed and added. -/
abbrev mixed (n : Fin 8) (l : Fin 4096) : Fin 1024 → EReal :=
  added (fun k => x0 (ix3 n l k)) (fun k => x4 (ix3 n 2 k))
    (merged (fun k => proj x0 x4 x5 x8 n l ⟨3616 + k.val, by omega⟩ + x10 (ix1 ⟨k.val, by omega⟩))
      (fun k => proj x0 x4 x5 x8 n l ⟨3616 + (1024 + k.val), by omega⟩ + x10 (ix1 ⟨1024 + k.val, by omega⟩))
      (first x0 x1 x2 x4 x5 x7 x8 x9 n l) (second x3 n l))
    (fun j k => x11 (ix2 j k))

theorem norm_apply (n : Fin 8) (l : Fin 4096) (k : Fin 1024) :
    val_main_v20 (F := 𝔽) x0 x4 x5 (ix3 n l k)
      = hid (fun k => x0 (ix3 n l k)) (fun k => x5 (ix1 k)) (fun k => x4 (ix3 n 1 k)) (fun k => x4 (ix3 n 0 k)) k := by
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, hid]

theorem proj_apply (n : Fin 8) (l : Fin 4096) (j : Fin 5664) :
    val_main_v21 (F := 𝔽) x0 x4 x5 x8 (ix3 n l j) = proj x0 x4 x5 x8 n l j := by
  rw [val_main_v21_apply]
  refine Finset.sum_congr rfl fun k _ => ?_
  rw [show lidx_main_v21 (ix3 n l j) k = ix3 n l k from funext fun d => by fin_cases d <;> rfl,
    show ridx_main_v21 (ix3 n l j) k = ix2 k j from funext fun d => by fin_cases d <;> rfl, norm_apply]

/-- The normalized heads under their gain. -/
theorem heads_apply (n : Fin 8) (l : Fin 4096) (k : Fin 1024) :
    val_main_v41 (F := 𝔽) x1 x2 x7 (ix3 n l k) = heads (fun k => x1 (ix3 n l k) + x2 (ix3 n l k)) k * x7 (ix1 k) := by
  pointwise [val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, heads, head]
  rw [show (⟨k.val / 128 * 128 + k.val % 128, by omega⟩ : Fin 1024) = k from Fin.ext (by dsimp only; omega)]

/-- The first branch's gate. -/
theorem gate_apply (n : Fin 8) (l : Fin 4096) (k : Fin 1024) :
    val_main_v48 (F := 𝔽) x0 x4 x5 x8 (ix3 n l k) = Ideal.logistic (proj x0 x4 x5 x8 n l ⟨2592 + k.val, by omega⟩) := by
  rw [← proj_apply]
  unfold val_main_v48 val_main_v47 val_main_v46 val_main_v45 val_main_v44 val_main_v43 val_main_v42
  generalize val_main_v21 (F := 𝔽) x0 x4 x5 x8 = y
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, Ideal.logistic]

theorem first_apply (n : Fin 8) (l : Fin 4096) (k : Fin 1024) :
    val_main_v50 (F := 𝔽) x0 x1 x2 x4 x5 x7 x8 x9 (ix3 n l k) = first x0 x1 x2 x4 x5 x7 x8 x9 n l k := by
  rw [val_main_v50_apply]
  refine Finset.sum_congr rfl fun j _ => ?_
  rw [show lidx_main_v50 (ix3 n l k) j = ix3 n l j from funext fun d => by fin_cases d <;> rfl,
    show ridx_main_v50 (ix3 n l k) j = ix2 j k from funext fun d => by fin_cases d <;> rfl]
  refine congrArg (· * _) ?_
  unfold val_main_v49
  rw [show ∀ a b : FVec 𝔽 S8x4096x1024 .f32, mulf a b (ix3 n l j) = a (ix3 n l j) * b (ix3 n l j) from fun _ _ => rfl, heads_apply, gate_apply]

/-- The two gates of the branches. -/
theorem gates_apply (n : Fin 8) (l : Fin 4096) (j : Fin 2048) :
    val_main_v63 (F := 𝔽) x0 x4 x5 x8 x10 (ix3 n l j) = Ideal.logistic (proj x0 x4 x5 x8 n l ⟨3616 + j.val, by omega⟩ + x10 (ix1 j)) := by
  rw [← proj_apply]
  unfold val_main_v63 val_main_v62 val_main_v61 val_main_v60 val_main_v59 val_main_v58 val_main_v57 val_main_v56 val_main_v55 val_main_v54
  generalize val_main_v21 (F := 𝔽) x0 x4 x5 x8 = y
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, Ideal.logistic]

/-- The second branch in the order of the tokens. -/
theorem second_apply (n : Fin 8) (l : Fin 4096) (k : Fin 1024) : val_main_v53 (F := 𝔽) x3 (ix3 n l k) = second x3 n l k := by
  pointwise [val_main_v53, val_main_v52, val_main_v51]

theorem merged_apply (n : Fin 8) (l : Fin 4096) (k : Fin 1024) :
    val_main_v68 (F := 𝔽) x0 x1 x2 x3 x4 x5 x7 x8 x9 x10 (ix3 n l k)
      = merged (fun k => proj x0 x4 x5 x8 n l ⟨3616 + k.val, by omega⟩ + x10 (ix1 ⟨k.val, by omega⟩))
        (fun k => proj x0 x4 x5 x8 n l ⟨3616 + (1024 + k.val), by omega⟩ + x10 (ix1 ⟨1024 + k.val, by omega⟩))
        (first x0 x1 x2 x4 x5 x7 x8 x9 n l) (second x3 n l) k := by
  unfold merged
  rw [← first_apply, ← second_apply, ← gates_apply x0 x4 x5 x8 x10 n l ⟨k.val, by omega⟩, ← gates_apply x0 x4 x5 x8 x10 n l ⟨1024 + k.val, by omega⟩]
  unfold val_main_v68 val_main_v67 val_main_v66 val_main_v65 val_main_v64
  generalize val_main_v63 (F := 𝔽) x0 x4 x5 x8 x10 = y
  generalize val_main_v50 (F := 𝔽) x0 x1 x2 x4 x5 x7 x8 x9 = z
  generalize val_main_v53 (F := 𝔽) x3 = w
  pointwise

/-- THE FIRST RESULT: the mixed row. -/
theorem out0_apply (n : Fin 8) (l : Fin 4096) (k : Fin 1024) :
    val_main_v73 (F := 𝔽) x0 x1 x2 x3 x4 x5 x7 x8 x9 x10 x11 (ix3 n l k) = mixed x0 x1 x2 x3 x4 x5 x7 x8 x9 x10 x11 n l k := by
  unfold mixed added
  have e : val_main_v70 (F := 𝔽) x0 x1 x2 x3 x4 x5 x7 x8 x9 x10 x11 (ix3 n l k) = ∑ j : Fin 1024,
      merged (fun k => proj x0 x4 x5 x8 n l ⟨3616 + k.val, by omega⟩ + x10 (ix1 ⟨k.val, by omega⟩))
        (fun k => proj x0 x4 x5 x8 n l ⟨3616 + (1024 + k.val), by omega⟩ + x10 (ix1 ⟨1024 + k.val, by omega⟩))
        (first x0 x1 x2 x4 x5 x7 x8 x9 n l) (second x3 n l) j * x11 (ix2 j k) := by
    rw [val_main_v70_apply]
    refine Finset.sum_congr rfl fun j _ => ?_
    rw [show lidx_main_v70 (ix3 n l k) j = ix3 n l j from funext fun d => by fin_cases d <;> rfl,
      show ridx_main_v70 (ix3 n l k) j = ix2 j k from funext fun d => by fin_cases d <;> rfl, merged_apply]
  rw [← e]
  unfold val_main_v73 val_main_v72 val_main_v71 val_main_v69
  generalize val_main_v70 (F := 𝔽) x0 x1 x2 x3 x4 x5 x7 x8 x9 x10 x11 = y
  pointwise

/-- THE SECOND RESULT: the mixed row, normalized and modulated. -/
theorem out1_apply (n : Fin 8) (l : Fin 4096) (k : Fin 1024) :
    val_main_v94 (F := 𝔽) x0 x1 x2 x3 x4 x5 x6 x7 x8 x9 x10 x11 (ix3 n l k)
      = hid (mixed x0 x1 x2 x3 x4 x5 x7 x8 x9 x10 x11 n l) (fun k => x6 (ix1 k)) (fun k => x4 (ix3 n 4 k)) (fun k => x4 (ix3 n 3 k)) k := by
  rw [show mixed x0 x1 x2 x3 x4 x5 x7 x8 x9 x10 x11 n l = fun k => val_main_v73 (F := 𝔽) x0 x1 x2 x3 x4 x5 x7 x8 x9 x10 x11 (ix3 n l k) from
    funext fun k => (out0_apply x0 x1 x2 x3 x4 x5 x7 x8 x9 x10 x11 n l k).symm]
  unfold val_main_v94 val_main_v93 val_main_v92 val_main_v91 val_main_v90 val_main_v89 val_main_v88 val_main_v87 val_main_v86 val_main_v85 val_main_v84 val_main_v83 val_main_v82 val_main_v81 val_main_v80 val_main_v79 val_main_v78 val_main_v77 val_main_v76 val_main_v75 val_main_v74
  generalize val_main_v73 (F := 𝔽) x0 x1 x2 x3 x4 x5 x7 x8 x9 x10 x11 = y
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, hid]

end Cert.Reference3Ideal.Mix

end
-- ==== Proof.Ada.Spec.lean ====
/- The modulation over the extended reals. A conditioning row goes through the gated unit `x · σ(x)`, is multiplied by the
   weights, and the bias is added. There are sixteen rows: the eight conditioning rows, the row of the context, and seven rows of
   zeros, for which the bias alone is left. -/
module

public import Idealize.ShloMosaic.PureOps.Ideal.Laws

@[expose] public section

noncomputable section

namespace Cert.Ada

open Idealize.ShloMosaic

/-- The sixteen rows: the eight conditioning rows, the context's, and zeros. -/
def rowsOf (f : Fin 8 → Fin 1024 → EReal) (g : Fin 1024 → EReal) (r : Fin 16) (k : Fin 1024) : EReal :=
  if h : r.val < 8 then f ⟨r.val, h⟩ k else if r.val < 9 then g k else 0

/-- One entry of the modulation: the row through the gated unit, times a column of the weights, plus the bias. -/
def modCol (f : Fin 1024 → EReal) (w : Fin 1024 → EReal) (b : EReal) : EReal := ∑ k, f k * Ideal.logistic (f k) * w k + b

/-- Of a row of zeros only the bias is left. -/
theorem modCol_zero (w : Fin 1024 → EReal) (b : EReal) : modCol (fun _ => 0) w b = b := by
  unfold modCol
  rw [Finset.sum_eq_zero fun k _ => by rw [zero_mul, zero_mul], zero_add]

end Cert.Ada

end
-- ==== Proof.Ada.Kernel.lean ====
/- What the modulation call leaves in its result, over the extended reals: grid point `j` reads all sixteen rows and 1024 columns
   of the weights and of the bias, and writes the same columns of the result. -/
module

public import proofs.«01_k».proof.Proof.Ada.Spec
public import proofs.«01_k».proof.Proof.Gen.Kernel4Ideal.Value
public import Idealize.ShloMosaic.Lib.Pipeline.ValueKit
public import Idealize.ShloMosaic.Lib.Claim
public import Idealize.ShloMosaic.Lib.Pointwise

@[expose] public section

set_option maxRecDepth 16384

noncomputable section

namespace Cert.Kernel4Ideal.Ada

open Cert.Kernel4Ideal Cert.Kernel4Ideal.Gen Cert.Kernel4Ideal.Value Cert.Ada
open Idealize.ShloMosaic Idealize.ShloMosaic.TcCoe Idealize.ShloMosaic.Tactic

local notation "𝔽" => Idealize.ShloMosaic.Ideal

/-- The block one grid point writes, at an index. -/
theorem out3_apply (x0 : Vec 𝔽 S16x1024 .f32) (x1 : Vec 𝔽 S1024x1024 .f32) (x2 : Vec 𝔽 S1x1024 .f32) (r : Fin 16) (j : Fin 1024) :
    out0_3 x0 x1 x2 (ix2 r j) = modCol (fun k => x0 (ix2 r k)) (fun k => x1 (ix2 k j)) (x2 (ix2 0 j)) := by
  frame_out
  unfold modCol
  pointwise [k0_pay1]

variable (m : (ℓ : Loc nD τ sig) → Buf (Elt 𝔽) ℓ) (c : Dev nD)

/-- The arguments as arrays. -/
abbrev arg0 : S8x1024.Idx → Elt 𝔽 .f32 := m ((c.tc : Thread nD τ).loc main_arg0)
abbrev arg1 : S1024.Idx → Elt 𝔽 .f32 := m ((c.tc : Thread nD τ).loc main_arg1)
abbrev arg2 : S1024x6144.Idx → Elt 𝔽 .f32 := m ((c.tc : Thread nD τ).loc main_arg2)
abbrev arg3 : S6144.Idx → Elt 𝔽 .f32 := m ((c.tc : Thread nD τ).loc main_arg3)

set_option maxHeartbeats 2000000 in
/-- The array the host hands over: the conditioning rows, the context's row and seven rows of zeros, one under the other. -/
theorem rows_eq : (V m c main_v2 : S16x1024.Idx → Elt 𝔽 .f32)
    = concatenate S16x1024 0 [⟨S8x1024, arg0 m c⟩, ⟨S1x1024, broadcastInDim S1x1024 ![1] bcast_S1024_S1x1024_1 (arg1 m c)⟩,
        ⟨S7x1024, broadcastInDim S7x1024 ![] bcast_S_S7x1024 (constant (F := 𝔽) S_ .f32 0x00000000#32)⟩]
        concatenates_S8x1024_S1x1024_S7x1024_S16x1024_d0 := by
  show StableHlo.after hostOps0 (fun b => m (c, b)) (Proc.devRef .tc main_v2) = _
  after_results <;> rfl

/-- The rows the host hands over. -/
theorem rows_apply (r : Fin 16) (k : Fin 1024) :
    (V m c main_v2 : S16x1024.Idx → Elt 𝔽 .f32) (ix2 r k) = rowsOf (fun n k => arg0 m c (ix2 n k)) (fun k => arg1 m c (ix1 k)) r k := by
  rw [rows_eq]
  pointwise
  unfold rowsOf
  by_cases h : r.val < 8
  · rw [dif_pos h, dif_pos h]
  · by_cases h' : r.val < 9
    · rw [dif_neg h, dif_neg h, if_pos h', dif_pos (by omega)]
    · rw [dif_neg h, dif_neg h, if_neg h', dif_neg (by omega)]

/-- The bias as one row. -/
theorem bias_apply (j : Fin 6144) : (V m c main_v3 : S1x6144.Idx → Elt 𝔽 .f32) (ix2 0 j) = arg3 m c (ix1 j) := by
  entry_read
  pointwise

theorem coord0 : ∀ t : Fin grid0.N, (BitVec.ofNat 32 (grid0.coords t 0).val).toNat = t.val := by decide +kernel

/-- Where each window's block lies in its array. -/
theorem emb0_val (t : Fin grid0.N) (y : S16x1024.Idx) (d : Fin 2) :
    ((win0_0.blk t).view.emb y d : ℕ) = (![0, 0] : Fin 2 → ℕ) d * (![16, 1024] : Fin 2 → ℕ) d + y d :=
  Pipeline.Window.rect_emb_val win0_0 t y d rfl
theorem emb1_val (t : Fin grid0.N) (y : S1024x1024.Idx) (d : Fin 2) :
    ((win0_1.blk t).view.emb y d : ℕ)
      = (![0, (BitVec.ofNat 32 (grid0.coords t 0).val).toNat] : Fin 2 → ℕ) d * (![1024, 1024] : Fin 2 → ℕ) d + y d :=
  Pipeline.Window.rect_emb_val win0_1 t y d rfl
theorem emb2_val (t : Fin grid0.N) (y : S1x1024.Idx) (d : Fin 2) :
    ((win0_2.blk t).view.emb y d : ℕ)
      = (![0, (BitVec.ofNat 32 (grid0.coords t 0).val).toNat] : Fin 2 → ℕ) d * (![1, 1024] : Fin 2 → ℕ) d + y d :=
  Pipeline.Window.rect_emb_val win0_2 t y d rfl
theorem emb3_val (t : Fin grid0.N) (y : S16x1024.Idx) (d : Fin 2) :
    ((win0_3.blk t).view.emb y d : ℕ)
      = (![0, (BitVec.ofNat 32 (grid0.coords t 0).val).toNat] : Fin 2 → ℕ) d * (![16, 1024] : Fin 2 → ℕ) d + y d :=
  Pipeline.Window.rect_emb_val win0_3 t y d rfl

/-- Column `j` of a point's block as a column of the array. -/
abbrev colOf (t : Fin grid0.N) (j : Fin 1024) : Fin 6144 := ⟨t.val * 1024 + j.val, by have : t.val < 6 := t.isLt; omega⟩

/-- The blocks a point reads, at an index. -/
theorem block0 (t : Fin grid0.N) (r : Fin 16) (k : Fin 1024) :
    (iblk m c 0 t : S16x1024.Idx → Elt 𝔽 .f32) (ix2 r k) = rowsOf (fun n k => arg0 m c (ix2 n k)) (fun k => arg1 m c (ix1 k)) r k := by
  refine Eq.trans (congrArg (V m c main_v2) (funext fun d => Fin.ext ((emb0_val t _ d).trans ?_))) (rows_apply m c r k)
  fin_cases d
  · show 0 * 16 + r.val = r.val; omega
  · show 0 * 1024 + k.val = k.val; omega
theorem block1 (t : Fin grid0.N) (k j : Fin 1024) :
    (iblk m c 1 t : S1024x1024.Idx → Elt 𝔽 .f32) (ix2 k j) = arg2 m c (ix2 k (colOf t j)) := by
  refine (congrFun (V_main_arg2 m c) _).trans (congrArg (arg2 m c) (funext fun d => Fin.ext ((emb1_val t _ d).trans ?_)))
  rw [coord0]
  fin_cases d
  · show 0 * 1024 + k.val = k.val; omega
  · rfl
theorem block2 (t : Fin grid0.N) (j : Fin 1024) :
    (iblk m c 2 t : S1x1024.Idx → Elt 𝔽 .f32) (ix2 0 j) = arg3 m c (ix1 (colOf t j)) := by
  refine Eq.trans (congrArg (V m c main_v3) (funext fun d => Fin.ext ((emb2_val t _ d).trans ?_))) (bias_apply m c (colOf t j))
  rw [coord0]
  fin_cases d
  · rfl
  · rfl

/-- THE RESULT: every row's modulation. -/
theorem result3 (G : S16x6144.Idx → Elt 𝔽 .f32)
    (hG : ∀ r j, G (ix2 r j) = modCol (rowsOf (fun n k => arg0 m c (ix2 n k)) (fun k => arg1 m c (ix1 k)) r) (fun k => arg2 m c (ix2 k j)) (arg3 m c (ix1 j))) :
    (dats m 0 c).arrAt 3 cfg0.N = G := by
  refine (dats m 0 c).arrAt_eq_of_covers 3 G (by decide +kernel) fun t _ y => ?_
  obtain ⟨r, j, rfl⟩ : ∃ (r : Fin 16) (j : Fin 1024), y = ix2 r j :=
    ⟨y 0, y 1, funext fun d => by fin_cases d <;> rfl⟩
  refine Eq.trans (b := out0_3 (iblk m c 0 t) (iblk m c 1 t) (iblk m c 2 t) (ix2 r j)) (congrFun (after0_3 m c t) _) ?_
  rw [out3_apply]
  refine Eq.trans (b := G (ix2 r (colOf t j))) ?_ ?_
  · rw [hG]
    refine congr (congr (congrArg modCol (funext fun k => ?_)) (funext fun k => ?_)) ?_
    · exact block0 m c t r k
    · exact block1 m c t k j
    · exact block2 m c t j
  · refine congrArg G (funext fun d => Fin.ext (Eq.trans ?_ (emb3_val t _ d).symm))
    rw [coord0]
    fin_cases d
    · show r.val = 0 * 16 + r.val; omega
    · rfl

end Cert.Kernel4Ideal.Ada

end
-- ==== Proof.Ada.Reference.lean ====
/- The plain reference of the modulation: it runs, leaves its arguments and every counter as they were, and its result is, row by
   row, the modulation of the conditioning rows, of the context's row and of zeros. -/
module

public import proofs.«01_k».proof.Proof.Ada.Spec
public import proofs.«01_k».proof.Proof.Gen.Reference4Ideal.Run
public import proofs.«01_k».proof.Proof.Gen.Reference4Ideal.Read
public import Idealize.ShloMosaic.Lib.Quiescent
public import Idealize.ShloMosaic.Lib.Pointwise

@[expose] public section

set_option maxRecDepth 16384

noncomputable section

namespace Cert.Reference4Ideal.Ada

open Cert.Reference4Ideal Cert.Reference4Ideal.Gen Cert.Reference4Ideal.Read Cert.Ada
open Idealize.ShloMosaic Idealize.ShloMosaic.TcCoe Idealize.SL.Sem

local notation "𝔽" => Idealize.ShloMosaic.Ideal

/-- THE FRAME of the reference. -/
theorem quiescent (m : (ℓ : Loc nD τ sig) → Buf (Elt 𝔽) ℓ) (ρ : Dev nD → PrngReg) :
    θ_run (defs (F := 𝔽)) (onTc (τ := τ) (main (F := 𝔽))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2, sem_eq_zero_of_no_sems (by decide) r.2⟩) (Cert.Reference4Ideal.Value.run m ρ)

variable (x0 : S8x1024.Idx → Elt 𝔽 .f32) (x1 : S1024.Idx → Elt 𝔽 .f32) (x2 : S1024x6144.Idx → Elt 𝔽 .f32) (x3 : S6144.Idx → Elt 𝔽 .f32)

/-- The conditioning rows. -/
theorem cond_apply (r : Fin 8) (j : Fin 6144) :
    val_main_v4 (F := 𝔽) x0 x2 x3 (ix2 r j) = modCol (fun k => x0 (ix2 r k)) (fun k => x2 (ix2 k j)) (x3 (ix1 j)) := by
  have e : val_main_v1 (F := 𝔽) x0 x2 (ix2 r j) = ∑ k, x0 (ix2 r k) * Ideal.logistic (x0 (ix2 r k)) * x2 (ix2 k j) := by
    rw [val_main_v1_apply]
    refine Finset.sum_congr rfl fun k _ => ?_
    rw [show lidx_main_v1 (ix2 r j) k = ix2 r k from funext fun d => by fin_cases d <;> rfl,
      show ridx_main_v1 (ix2 r j) k = ix2 k j from funext fun d => by fin_cases d <;> rfl]
    refine congrArg (· * _) ?_
    pointwise [val_main_v0, val_main_call0_v5, val_main_call0_v4, val_main_call0_v3, val_main_call0_v2, val_main_call0_v1, val_main_call0_v0, val_main_call0_cst, val_main_call0_cst_0, Ideal.logistic]
  unfold modCol
  rw [← e]
  unfold val_main_v4 val_main_v3 val_main_v2
  generalize val_main_v1 (F := 𝔽) x0 x2 = y
  pointwise

/-- The context's row. -/
theorem ctx_apply (j : Fin 6144) :
    val_main_v7 (F := 𝔽) x1 x2 x3 (ix1 j) = modCol (fun k => x1 (ix1 k)) (fun k => x2 (ix2 k j)) (x3 (ix1 j)) := by
  have e : val_main_v6 (F := 𝔽) x1 x2 (ix1 j) = ∑ k, x1 (ix1 k) * Ideal.logistic (x1 (ix1 k)) * x2 (ix2 k j) := by
    rw [val_main_v6_apply]
    refine Finset.sum_congr rfl fun k _ => ?_
    rw [show lidx_main_v6 (ix1 j) k = ix1 k from funext fun d => by fin_cases d; rfl,
      show ridx_main_v6 (ix1 j) k = ix2 k j from funext fun d => by fin_cases d <;> rfl]
    refine congrArg (· * _) ?_
    pointwise [val_main_v5, val_main_call1_v5, val_main_call1_v4, val_main_call1_v3, val_main_call1_v2, val_main_call1_v1, val_main_call1_v0, val_main_call1_cst, val_main_call1_cst_0, Ideal.logistic]
  unfold modCol
  rw [← e]
  rfl

/-- THE RESULT, row by row. -/
theorem out_apply (r : Fin 16) (j : Fin 6144) :
    val_main_v10 (F := 𝔽) x0 x1 x2 x3 (ix2 r j)
      = modCol (rowsOf (fun n k => x0 (ix2 n k)) (fun k => x1 (ix1 k)) r) (fun k => x2 (ix2 k j)) (x3 (ix1 j)) := by
  have h0 : ∀ h : r.val < 8, modCol (rowsOf (fun n k => x0 (ix2 n k)) (fun k => x1 (ix1 k)) r) (fun k => x2 (ix2 k j)) (x3 (ix1 j))
      = val_main_v4 (F := 𝔽) x0 x2 x3 (ix2 ⟨r.val, h⟩ j) := fun h => by
    rw [cond_apply]
    refine congrArg (modCol · _ _) (funext fun k => ?_)
    rw [rowsOf, dif_pos h]
  have h1 : ¬r.val < 8 → r.val < 9 → modCol (rowsOf (fun n k => x0 (ix2 n k)) (fun k => x1 (ix1 k)) r) (fun k => x2 (ix2 k j)) (x3 (ix1 j))
      = val_main_v7 (F := 𝔽) x1 x2 x3 (ix1 j) := fun h h' => by
    rw [ctx_apply]
    refine congrArg (modCol · _ _) (funext fun k => ?_)
    rw [rowsOf, dif_neg h, if_pos h']
  have h2 : ¬r.val < 8 → ¬r.val < 9 → modCol (rowsOf (fun n k => x0 (ix2 n k)) (fun k => x1 (ix1 k)) r) (fun k => x2 (ix2 k j)) (x3 (ix1 j))
      = x3 (ix1 j) := fun h h' => by
    refine Eq.trans (congrArg (modCol · _ _) (funext fun k => ?_)) (modCol_zero _ _)
    rw [rowsOf, dif_neg h, if_neg h']
  unfold val_main_v10 val_main_v9 val_main_v8
  generalize val_main_v4 (F := 𝔽) x0 x2 x3 = y at h0 ⊢
  generalize val_main_v7 (F := 𝔽) x1 x2 x3 = z at h1 ⊢
  pointwise
  by_cases h : r.val < 8
  · rw [h0 h, dif_pos h]
  · by_cases h' : r.val < 9
    · rw [h1 h h', dif_neg h]
      rw [dif_pos (by omega)]
    · rw [h2 h h', dif_neg h]
      rw [dif_neg (by omega)]

end Cert.Reference4Ideal.Ada

end
-- ==== Proof.Conv.Spec.lean ====
/- The convolution over the extended reals. The 4096 positions of a sequence are the cells of a 64 × 64 grid, row by row; around the
   grid lies a border of zeros. A channel's value at a cell is the sum of the nine cells around it, each times its weight; it then
   goes through the gated unit `x · σ(x)`. -/
module

public import Idealize.ShloMosaic.PureOps.Ideal.Laws

@[expose] public section

noncomputable section

namespace Cert.Conv

open Idealize.ShloMosaic

/-- The grid with its border: rows and columns 0 and 65 are zero. -/
def cell (f : Fin 4096 → EReal) (r c : ℕ) : EReal :=
  if h : 1 ≤ r ∧ r ≤ 64 ∧ 1 ≤ c ∧ c ≤ 64 then f ⟨(r - 1) * 64 + (c - 1), by omega⟩ else 0

/-- The nine cells around grid cell `(r, c)`, each times its weight. -/
def conv (f : Fin 4096 → EReal) (w : Fin 3 → Fin 3 → EReal) (r c : ℕ) : EReal :=
  ∑ dy : Fin 3, ∑ dx : Fin 3, cell f (r + dy.val) (c + dx.val) * w dy dx

/-- One channel of the convolution at position `p`, through the gated unit. -/
def act (f : Fin 4096 → EReal) (w : Fin 3 → Fin 3 → EReal) (p : ℕ) : EReal :=
  conv f w (p / 64) (p % 64) * Ideal.logistic (conv f w (p / 64) (p % 64))

/-- The nine terms one after the other, a row of the grid at a time. -/
theorem conv_rows (f : Fin 4096 → EReal) (w : Fin 3 → Fin 3 → EReal) (r c : ℕ) :
    conv f w r c = 0 + cell f r c * w 0 0 + cell f r (c + 1) * w 0 1 + cell f r (c + 2) * w 0 2
      + cell f (r + 1) c * w 1 0 + cell f (r + 1) (c + 1) * w 1 1 + cell f (r + 1) (c + 2) * w 1 2
      + cell f (r + 2) c * w 2 0 + cell f (r + 2) (c + 1) * w 2 1 + cell f (r + 2) (c + 2) * w 2 2 := by
  unfold conv
  simp only [Fin.sum_univ_three, Fin.val_zero, Fin.val_one, Fin.val_two, add_zero, zero_add]
  abel

/-- The same nine terms, a column of the grid at a time. -/
theorem conv_columns (f : Fin 4096 → EReal) (w : Fin 3 → Fin 3 → EReal) (r c : ℕ) :
    conv f w r c = (w 0 0 * cell f r c + w 1 0 * cell f (r + 1) c + w 2 0 * cell f (r + 2) c)
      + (w 0 1 * cell f r (c + 1) + w 1 1 * cell f (r + 1) (c + 1) + w 2 1 * cell f (r + 2) (c + 1))
      + (w 0 2 * cell f r (c + 2) + w 1 2 * cell f (r + 1) (c + 2) + w 2 2 * cell f (r + 2) (c + 2)) := by
  rw [conv_rows]
  simp only [mul_comm (w _ _)]
  abel

/-- Left of the first column and right of the last there is nothing. -/
theorem cell_left (f : Fin 4096 → EReal) (r : ℕ) : cell f r 0 = 0 := by
  unfold cell; exact dif_neg (by omega)
theorem cell_right (f : Fin 4096 → EReal) (r : ℕ) : cell f r 65 = 0 := by
  unfold cell; exact dif_neg (by omega)

end Cert.Conv

end
-- ==== Proof.Conv.Tile.lean ====
/- One tile of the convolution call, over the extended reals: what the body computes from its rows of the grid. -/
module

public import proofs.«01_k».proof.Proof.Conv.Spec
public import proofs.«01_k».proof.Proof.Gen.Kernel5Ideal.Skeleton
public import Idealize.ShloMosaic.Lib.Pipeline.ValueKit
public import Idealize.ShloMosaic.Lib.Pointwise

@[expose] public section

set_option maxRecDepth 16384

noncomputable section

namespace Cert.Kernel5Ideal.Conv

open Cert.Kernel5Ideal Cert.Kernel5Ideal.Gen Cert.Conv
open Idealize.ShloMosaic Idealize.ShloMosaic.TcCoe Idealize.ShloMosaic.Tactic

local notation "𝔽" => Idealize.ShloMosaic.Ideal

/-- A position's column in the grid, as the body computes it. -/
theorem column_apply : ∀ p : Fin 1024, k0_pay5 (ix2 p 0) = BitVec.ofNat 32 (p.val % 64) := by decide +kernel

/-- The rows rotated by one, down and up. -/
theorem down_apply (i : grid0.Coords) (v0 : Vec 𝔽 S1x1024x512 .bf16) (v4 v10 : Vec 𝔽 S1x64x512 .bf16) (r : Fin 1152) (k : Fin 512) :
    k0_pay6 i v0 v4 v10 (ix2 r k) = k0_pay4 i v0 v4 v10 (ix2 ⟨(r.val + 1151) % 1152, Nat.mod_lt _ (by decide)⟩ k) := by
  unfold k0_pay6
  generalize k0_pay4 i v0 v4 v10 = y
  pointwise
  exact congrArg y (congrArg (ix2 · k) (Fin.ext (congrArg (· % 1152) (by omega))))
theorem up_apply (y : FVec 𝔽 S1152x512 .f32) (r : Fin 1152) (k : Fin 512) :
    k0_pay8 y (ix2 r k) = y (ix2 ⟨(r.val + 1) % 1152, Nat.mod_lt _ (by decide)⟩ k) := by
  unfold k0_pay8
  pointwise
  exact congrArg y (congrArg (ix2 · k) (Fin.ext (congrArg (· % 1152) (by omega))))

/-- The rows a tile is computed from: the 64 positions before it, its own 1024, the 64 after it. -/
theorem ext_apply (i : grid0.Coords) (v0 : Vec 𝔽 S1x1024x512 .bf16) (v4 v10 : Vec 𝔽 S1x64x512 .bf16) (r : Fin 1152) (k : Fin 512) :
    k0_pay4 i v0 v4 v10 (ix2 r k) = if h : r.val < 64 then (if (i 1).val = 0 then 0 else v4 (ix3 0 ⟨r.val, h⟩ k))
      else if h : r.val < 1088 then v0 (ix3 0 ⟨r.val - 64, by omega⟩ k) else if (i 1).val = 3 then 0 else v10 (ix3 0 ⟨r.val - 1088, by omega⟩ k) := by
  have hi : (i 1).val < 4 := (i 1).isLt
  have e0 : Scalar.cmpi .sgt (BitVec.ofNat 32 (i 1).val) 0#32 = if (i 1).val = 0 then 0#1 else 1#1 := by
    generalize (i 1).val = a at hi
    interval_cases a <;> rfl
  have e3 : Scalar.cmpi .slt (BitVec.ofNat 32 (i 1).val) 3#32 = if (i 1).val = 3 then 0#1 else 1#1 := by
    generalize (i 1).val = a at hi
    interval_cases a <;> rfl
  unfold k0_pay4
  pointwise
  rw [e0, e3]
  by_cases h : r.val < 64
  · rw [dif_pos h, dif_pos h]
    by_cases h' : (i 1).val = 0
    · rw [if_pos h', if_pos h']; rfl
    · rw [if_neg h', if_neg h']; rfl
  · rw [dif_neg h, dif_neg h]
    by_cases h2 : r.val < 1088
    · rw [dif_pos h2, dif_pos (show r.val - 64 < 1024 by omega)]
    · rw [dif_neg h2, dif_neg (show ¬r.val - 64 < 1024 by omega)]
      by_cases h' : (i 1).val = 3
      · rw [if_pos h', if_pos h']; rfl
      · rw [if_neg h', if_neg h']
        exact congrArg v10 (congrArg (ix3 0 · k) (Fin.ext (show r.val - 64 - 1024 = r.val - 1088 by omega)))

/-- The test for the first column of the grid, as a choice. -/
theorem first_column (n : ℕ) (h : n < 64) (x y : 𝔽 .f32) :
    Scalar.select (IntOp.cmpi CmpIPredicate.eq (BitVec.ofNat 32 n) 0#32) x y = if n = 0 then x else y := by
  have e : ∀ n : Fin 64, IntOp.cmpi CmpIPredicate.eq (BitVec.ofNat 32 n.val) 0#32 = if n.val = 0 then 1#1 else 0#1 := by decide
  rw [e ⟨n, h⟩]
  by_cases h' : n = 0
  · rw [if_pos h', if_pos h']; rfl
  · rw [if_neg h', if_neg h']; rfl

/-- The test for the last column of the grid, as a choice. -/
theorem last_column (n : ℕ) (h : n < 64) (x y : 𝔽 .f32) :
    Scalar.select (IntOp.cmpi CmpIPredicate.eq (BitVec.ofNat 32 n) 63#32) x y = if n = 63 then x else y := by
  have e : ∀ n : Fin 64, IntOp.cmpi CmpIPredicate.eq (BitVec.ofNat 32 n.val) 63#32 = if n.val = 63 then 1#1 else 0#1 := by decide
  rw [e ⟨n, h⟩]
  by_cases h' : n = 63
  · rw [if_pos h', if_pos h']; rfl
  · rw [if_neg h', if_neg h']; rfl

set_option maxHeartbeats 1000000 in
/-- One entry of a tile, given that row `r` of the rows it is computed from is cell `(b + r / 64, r % 64 + 1)` of the grid. -/
theorem tile_apply (f : Fin 4096 → EReal) (W : Fin 3 → Fin 3 → EReal) (b : ℕ) (k : Fin 512) (y z : FVec 𝔽 S1152x512 .f32)
    (w0 w1 w2 w3 w4 w5 w6 w7 w8 : Vec 𝔽 S1x512 .f32)
    (hy : ∀ r : Fin 1152, y (ix2 r k) = cell f (b + r.val / 64) (r.val % 64 + 1))
    (hz : ∀ r : Fin 1152, z (ix2 r k) = y (ix2 ⟨(r.val + 1151) % 1152, Nat.mod_lt _ (by decide)⟩ k))
    (h0 : w0 (ix2 0 k) = W 0 0) (h1 : w1 (ix2 0 k) = W 0 1) (h2 : w2 (ix2 0 k) = W 0 2) (h3 : w3 (ix2 0 k) = W 1 0) (h4 : w4 (ix2 0 k) = W 1 1)
    (h5 : w5 (ix2 0 k) = W 1 2) (h6 : w6 (ix2 0 k) = W 2 0) (h7 : w7 (ix2 0 k) = W 2 1) (h8 : w8 (ix2 0 k) = W 2 2) (p : Fin 1024) :
    k0_pay1 k0_pay5 (k0_pay7 y k0_pay5 z w0 w3 w6 w1 w4 w7) (k0_pay8 y) (k0_pay9 y) (k0_pay10 w2) w5 w8 (ix2 p k)
      = conv f W (b + p.val / 64) (p.val % 64) * Ideal.logistic (conv f W (b + p.val / 64) (p.val % 64)) := by
  have hu := up_apply y
  have hc := column_apply p
  rw [conv_columns]
  unfold k0_pay1 k0_pay7 k0_pay9 k0_pay10
  generalize k0_pay8 y = u at hu ⊢
  generalize k0_pay5 = col at hc ⊢
  pointwise
  rw [hc]
  simp only [h0, h1, h2, h3, h4, h5, h6, h7, h8]
  have hp := p.isLt
  have yc : ∀ (n : ℕ) (hn : n < 1152) (d c : ℕ), n / 64 = p.val / 64 + d → n % 64 + 1 = c → y (ix2 ⟨n, hn⟩ k) = cell f (b + p.val / 64 + d) c := by
    intro n hn d c e1 e2
    rw [hy, ← e2]
    exact congrArg (cell f · _) (by show b + n / 64 = _; omega)
  have left : Scalar.select (IntOp.cmpi CmpIPredicate.eq (BitVec.ofNat 32 (p.val % 64)) 0#32) 0
      (W 0 0 * z (ix2 ⟨p.val, by omega⟩ k) + W 1 0 * z (ix2 ⟨64 + p.val, by omega⟩ k) + W 2 0 * z (ix2 ⟨128 + p.val, by omega⟩ k))
      = W 0 0 * cell f (b + p.val / 64) (p.val % 64) + W 1 0 * cell f (b + p.val / 64 + 1) (p.val % 64) + W 2 0 * cell f (b + p.val / 64 + 2) (p.val % 64) := by
    rw [first_column _ (Nat.mod_lt _ (by decide))]
    by_cases h : p.val % 64 = 0
    · rw [if_pos h, h, cell_left, cell_left, cell_left, mul_zero, mul_zero, mul_zero, add_zero, add_zero]
    · rw [if_neg h, hz, hz, hz]
      exact congrArg₂ (· + ·) (congrArg₂ (· + ·) (congrArg (W 0 0 * ·) (yc _ _ 0 _ (by first | omega | (dsimp only; omega)) (by first | omega | (dsimp only; omega))))
        (congrArg (W 1 0 * ·) (yc _ _ 1 _ (by first | omega | (dsimp only; omega)) (by first | omega | (dsimp only; omega))))) (congrArg (W 2 0 * ·) (yc _ _ 2 _ (by first | omega | (dsimp only; omega)) (by first | omega | (dsimp only; omega))))
  have middle : W 0 1 * y (ix2 ⟨p.val, by omega⟩ k) + W 1 1 * y (ix2 ⟨64 + p.val, by omega⟩ k) + W 2 1 * y (ix2 ⟨128 + p.val, by omega⟩ k)
      = W 0 1 * cell f (b + p.val / 64) (p.val % 64 + 1) + W 1 1 * cell f (b + p.val / 64 + 1) (p.val % 64 + 1)
        + W 2 1 * cell f (b + p.val / 64 + 2) (p.val % 64 + 1) :=
    congrArg₂ (· + ·) (congrArg₂ (· + ·) (congrArg (W 0 1 * ·) (yc _ _ 0 _ (by first | omega | (dsimp only; omega)) (by first | omega | (dsimp only; omega))))
      (congrArg (W 1 1 * ·) (yc _ _ 1 _ (by first | omega | (dsimp only; omega)) (by first | omega | (dsimp only; omega))))) (congrArg (W 2 1 * ·) (yc _ _ 2 _ (by first | omega | (dsimp only; omega)) (by first | omega | (dsimp only; omega))))
  have right : Scalar.select (IntOp.cmpi CmpIPredicate.eq (BitVec.ofNat 32 (p.val % 64)) 63#32) 0
      (W 0 2 * u (ix2 ⟨p.val, by omega⟩ k) + W 1 2 * u (ix2 ⟨64 + p.val, by omega⟩ k) + W 2 2 * u (ix2 ⟨128 + p.val, by omega⟩ k))
      = W 0 2 * cell f (b + p.val / 64) (p.val % 64 + 2) + W 1 2 * cell f (b + p.val / 64 + 1) (p.val % 64 + 2)
        + W 2 2 * cell f (b + p.val / 64 + 2) (p.val % 64 + 2) := by
    rw [last_column _ (Nat.mod_lt _ (by decide))]
    by_cases h : p.val % 64 = 63
    · rw [if_pos h, h, cell_right, cell_right, cell_right, mul_zero, mul_zero, mul_zero, add_zero, add_zero]
    · rw [if_neg h, hu, hu, hu]
      exact congrArg₂ (· + ·) (congrArg₂ (· + ·) (congrArg (W 0 2 * ·) (yc _ _ 0 _ (by first | omega | (dsimp only; omega)) (by first | omega | (dsimp only; omega))))
        (congrArg (W 1 2 * ·) (yc _ _ 1 _ (by first | omega | (dsimp only; omega)) (by first | omega | (dsimp only; omega))))) (congrArg (W 2 2 * ·) (yc _ _ 2 _ (by first | omega | (dsimp only; omega)) (by first | omega | (dsimp only; omega))))
  rw [left, middle, right]

end Cert.Kernel5Ideal.Conv

end
-- ==== Proof.Conv.IdealSetup.lean ====
/- The convolution call: what both halves of its proof are stated over – the host lines before the launch, the blocks a grid point
   is given, which half of the channels a point works on.

   The grid has 8 × 4 × 2 points: a sequence, a tile of 1024 positions, and a half of the 1024 channels. The points of one sequence
   and tile come one after the other: the even one stores the tile of queries, the odd one the tile of transposed keys. -/
module

public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel5Ideal.Conv

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's arrays when the launch begins. -/
abbrev V (c : Dev nD) (b : Ref sig .tc) : Buf (Elt F) ((c : Thread nD τ).loc b) := StableHlo.after hostOps0 (fun b => m (c, b)) b

/-- The host lines before the launch allocate nothing. -/
theorem hostOps0_fresh : (hostOps0 : List (HloOp τ sig (Elt F))).Forall fun op => op.fresh = ∅ := by
  simp only [List.Forall]; repeat' constructor

set_option maxHeartbeats 800000 in
/-- The host lines before the launch, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The launch finds `main_arg0` as the program was given it. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The launch finds `main_arg1` as the program was given it. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body finds in each input's buffer that input's block, if it always leaves it there. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The point works on the first half of the channels: it stores queries. -/
abbrev cond0_0 (i : grid0.Coords) : Prop := k0_cond1 i = 1#1
theorem hcond0_0 : ∀ t : Fin cfg0.N, cond0_0 (grid0.coords t) ↔ t.val % 2 = 0 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 2 % 4 := Pipeline.Grid.coords_val t 1 (by decide) rfl
    have e2 : (grid0.coords t 2).val = t.val / 1 % 2 := Pipeline.Grid.coords_val t 2 (by decide) rfl
    simp only [cond0_0, k0_cond1, e0, e1, e2]
    word_cmp
   : ∀ t : Fin grid0.N, cond0_0 (grid0.coords t) ↔ t.val % 2 = 0)

/-- The point works on the second half of the channels: it stores keys. -/
abbrev cond0_1 (i : grid0.Coords) : Prop := k0_cond2 i = 1#1
theorem hcond0_1 : ∀ t : Fin cfg0.N, cond0_1 (grid0.coords t) ↔ t.val % 2 = 1 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 2 % 4 := Pipeline.Grid.coords_val t 1 (by decide) rfl
    have e2 : (grid0.coords t 2).val = t.val / 1 % 2 := Pipeline.Grid.coords_val t 2 (by decide) rfl
    simp only [cond0_1, k0_cond2, e0, e1, e2]
    word_cmp
   : ∀ t : Fin grid0.N, cond0_1 (grid0.coords t) ↔ t.val % 2 = 1)

/-- The inputs are read at every point. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl

/-- The queries are stored at the even points, the keys at the odd ones. -/
theorem live4 : ∀ t : Fin cfg0.N, t.val % 2 = 0 → cfg0.idle 4 (grid0.coords t) = false := by decide +kernel
theorem idle4 : ∀ t : Fin cfg0.N, t.val % 2 = 1 → cfg0.idle 4 (grid0.coords t) = true := by decide +kernel
theorem idle5 : ∀ t : Fin cfg0.N, t.val % 2 = 0 → cfg0.idle 5 (grid0.coords t) = true := by decide +kernel
theorem live5 : ∀ t : Fin cfg0.N, t.val % 2 = 1 → cfg0.idle 5 (grid0.coords t) = false := by decide +kernel

/-- Both are written back at the odd points. -/
theorem flush4 (t : Fin cfg0.N) (h : t.val % 2 = 1) : (cfg0.win 4).flush t = true := (flush0_4 t).mpr h
theorem noFlush4 (t : Fin cfg0.N) (h : t.val % 2 = 0) : (cfg0.win 4).flush t = false :=
  Bool.eq_false_iff.mpr fun h' => by have := (flush0_4 t).mp h'; omega
theorem noFlush5 (t : Fin cfg0.N) (h : t.val % 2 = 0) : (cfg0.win 5).flush t = false :=
  Bool.eq_false_iff.mpr fun h' => by have := (flush0_5 t).mp h'; omega

/-- One buffer of each result, through which its contents are stated. -/
abbrev VO0_4 : View sig .tc .vmem S1x1024x512 .bf16 := (Memref.whole cc0_stg4_0 : Memref sig .tc .vmem S1x1024x512 .bf16).view
abbrev VO0_5 : View sig .tc .vmem S1x512x1024 .bf16 := (Memref.whole cc0_stg5_0 : Memref sig .tc .vmem S1x512x1024 .bf16).view

/-- Each window's buffer at point `t`. -/
abbrev ms0_0 (t : Fin cfg0.N) : Memref sig .tc .vmem S1x1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S9x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x1024 .bf16 := win0_5.stage (cfg0.slots t 5)
abbrev hs0_5 (t : Fin cfg0.N) : (ms0_5 t).IsWhole := hstage0_5 ((cfg0.slots t 5).cast nbuf0_5)

end Cert.Kernel5Ideal.Conv

end
-- ==== Proof.Conv.IdealRun.lean ====
/- The convolution call: its body run once for each half of the channels. -/
module

public import proofs.«01_k».proof.Proof.Conv.IdealSetup

@[expose] public section

set_option maxRecDepth 16384

noncomputable section

namespace Cert.Kernel5Ideal.Conv

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg3 : Memref sig .tc .vmem S1x1024x512 .bf16) (harg3 : arg3.IsWhole) (arg4 : Memref sig .tc .vmem S1x64x512 .bf16) (harg4 : arg4.IsWhole)
  (arg5 : Memref sig .tc .vmem S1x64x512 .bf16) (harg5 : arg5.IsWhole) (arg6 : Memref sig .tc .vmem S9x512 .f32) (harg6 : arg6.IsWhole)
  (arg7 : Memref sig .tc .vmem S1x1024x512 .bf16) (harg7 : arg7.IsWhole) (arg8 : Memref sig .tc .vmem S1x512x1024 .bf16) (harg8 : arg8.IsWhole)

set_option maxHeartbeats 1000000 in
/-- The body on the first half of the channels: it stores the tile of queries and leaves the keys' buffer alone. What it stores is found by running it, as the pieces `L`. -/
noncomputable def kernelRun0_A (hc0 : cond0_0 i) (hc1 : ¬cond0_1 i)
    (x0 : Vec F S1x1024x512 .bf16) (x1 : Vec F S1x64x512 .bf16) (x2 : Vec F S1x64x512 .bf16) (x3 : Vec F S9x512 .f32) :
    { L : List (View.Piece (Elt F) S1x1024x512 .bf16) //
      ∀ (xi : Vec F S1x512x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (owns (c : Thread nD τ) arg8 fullShare xi)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L) ∗ (owns (c : Thread nD τ) arg8 fullShare xi)) -∗ K ⟨⟩))
          ⊢ wp frame (wpE (defs₀ (F := F)) Variants.none c none) E (cc0_conv i arg3 harg3 arg4 harg4 arg5 harg5 arg6 harg6 arg7 harg7 arg8 harg8) K } := by
  refine ⟨?_, fun xi E K => ?run⟩
  case run =>
    simp only [cc0_conv_eq_skeleton]; unfold cc0_conv_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg3.eq_unread hf0; obtain rfl := harg4.eq_unread hf1; obtain rfl := harg5.eq_unread hf2; obtain rfl := harg6.eq_unread hf3
    obtain rfl := harg8.eq_unread hf5
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; isplitr; · ipureintro; exact harg8.read_unread _
    iexact H5

/-- The pieces fill the whole tile. -/
theorem cover0_A_4 (hc0 : cond0_0 i) (hc1 : ¬cond0_1 i)
    (x0 : Vec F S1x1024x512 .bf16) (x1 : Vec F S1x64x512 .bf16) (x2 : Vec F S1x64x512 .bf16) (x3 : Vec F S9x512 .f32) (y : S1x1024x512.Idx) :
    ∃ pc ∈ (kernelRun0_A c i arg3 harg3 arg4 harg4 arg5 harg5 arg6 harg6 arg7 harg7 arg8 harg8 hc0 hc1 x0 x1 x2 x3).1, y ∈ pc.1.set :=
  View.cover_of_tiledL (kernelRun0_A c i arg3 harg3 arg4 harg4 arg5 harg5 arg6 harg6 arg7 harg7 arg8 harg8 hc0 hc1 x0 x1 x2 x3).1 S1x1024x512.size (by sl_kernel_rfl) y

/-- The tile such a point leaves. -/
def out0_A_4 (hc0 : cond0_0 i) (hc1 : ¬cond0_1 i)
    (x0 : Vec F S1x1024x512 .bf16) (x1 : Vec F S1x64x512 .bf16) (x2 : Vec F S1x64x512 .bf16) (x3 : Vec F S9x512 .f32) : Vec F S1x1024x512 .bf16 :=
  VO0_4.read (Elt F) (VO0_4.writes (Elt F) VO0_4.junk (kernelRun0_A c i arg3 harg3 arg4 harg4 arg5 harg5 arg6 harg6 arg7 harg7 arg8 harg8 hc0 hc1 x0 x1 x2 x3).1)

set_option maxHeartbeats 1000000 in
/-- The body on the second half of the channels: it stores the tile of keys and leaves the queries' buffer alone. What it stores is found by running it, as the pieces `L`. -/
noncomputable def kernelRun0_B (hc0 : ¬cond0_0 i) (hc1 : cond0_1 i)
    (x0 : Vec F S1x1024x512 .bf16) (x1 : Vec F S1x64x512 .bf16) (x2 : Vec F S1x64x512 .bf16) (x3 : Vec F S9x512 .f32) :
    { L : List (View.Piece (Elt F) S1x512x1024 .bf16) //
      ∀ (xi : Vec F S1x1024x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (owns (c : Thread nD τ) arg7 fullShare xi) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (owns (c : Thread nD τ) arg7 fullShare xi) ∗ (∃ f, arg8.view.loc (c : Thread nD τ) ↦[arg8.view.set]{fullShare} arg8.view.writes (Elt F) f L)) -∗ K ⟨⟩))
          ⊢ wp frame (wpE (defs₀ (F := F)) Variants.none c none) E (cc0_conv i arg3 harg3 arg4 harg4 arg5 harg5 arg6 harg6 arg7 harg7 arg8 harg8) K } := by
  refine ⟨?_, fun xi E K => ?run⟩
  case run =>
    simp only [cc0_conv_eq_skeleton]; unfold cc0_conv_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg3.eq_unread hf0; obtain rfl := harg4.eq_unread hf1; obtain rfl := harg5.eq_unread hf2; obtain rfl := harg6.eq_unread hf3
    obtain rfl := harg7.eq_unread hf4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact H5

/-- The pieces fill the whole tile. -/
theorem cover0_B_5 (hc0 : ¬cond0_0 i) (hc1 : cond0_1 i)
    (x0 : Vec F S1x1024x512 .bf16) (x1 : Vec F S1x64x512 .bf16) (x2 : Vec F S1x64x512 .bf16) (x3 : Vec F S9x512 .f32) (y : S1x512x1024.Idx) :
    ∃ pc ∈ (kernelRun0_B c i arg3 harg3 arg4 harg4 arg5 harg5 arg6 harg6 arg7 harg7 arg8 harg8 hc0 hc1 x0 x1 x2 x3).1, y ∈ pc.1.set :=
  View.cover_of_tiledL (kernelRun0_B c i arg3 harg3 arg4 harg4 arg5 harg5 arg6 harg6 arg7 harg7 arg8 harg8 hc0 hc1 x0 x1 x2 x3).1 S1x512x1024.size (by sl_kernel_rfl) y

/-- The tile such a point leaves. -/
def out0_B_5 (hc0 : ¬cond0_0 i) (hc1 : cond0_1 i)
    (x0 : Vec F S1x1024x512 .bf16) (x1 : Vec F S1x64x512 .bf16) (x2 : Vec F S1x64x512 .bf16) (x3 : Vec F S9x512 .f32) : Vec F S1x512x1024 .bf16 :=
  VO0_5.read (Elt F) (VO0_5.writes (Elt F) VO0_5.junk (kernelRun0_B c i arg3 harg3 arg4 harg4 arg5 harg5 arg6 harg6 arg7 harg7 arg8 harg8 hc0 hc1 x0 x1 x2 x3).1)

end Cert.Kernel5Ideal.Conv

end
-- ==== Proof.Conv.IdealFrame.lean ====
/- The convolution call: it runs to its end from any memory, leaves its arguments alone and every semaphore at zero. -/
module

public import proofs.«01_k».proof.Proof.Conv.IdealRun
public import Idealize.ShloMosaic.Lib.Claim

@[expose] public section

set_option maxRecDepth 16384

noncomputable section

namespace Cert.Kernel5Ideal.Conv

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tile of queries an even point stores, and the tile of keys an odd point stores. -/
def qTile (c : Dev nD) (t : Fin cfg0.N) (h : t.val % 2 = 0) : Vec F S1x1024x512 .bf16 :=
  out0_A_4 c (grid0.coords t) (ms0_0 t) (hs0_0 t) (ms0_1 t) (hs0_1 t) (ms0_2 t) (hs0_2 t) (ms0_3 t) (hs0_3 t) (ms0_4 t) (hs0_4 t) (ms0_5 t) (hs0_5 t)
    ((hcond0_0 t).mpr h) (fun h' => by have := (hcond0_1 t).mp h'; omega) (iblk m c 0 t) (iblk m c 1 t) (iblk m c 2 t) (iblk m c 3 t)
def kTile (c : Dev nD) (t : Fin cfg0.N) (h : t.val % 2 = 1) : Vec F S1x512x1024 .bf16 :=
  out0_B_5 c (grid0.coords t) (ms0_0 t) (hs0_0 t) (ms0_1 t) (hs0_1 t) (ms0_2 t) (hs0_2 t) (ms0_3 t) (hs0_3 t) (ms0_4 t) (hs0_4 t) (ms0_5 t) (hs0_5 t)
    (fun h' => by have := (hcond0_0 t).mp h'; omega) ((hcond0_1 t).mpr h) (iblk m c 0 t) (iblk m c 1 t) (iblk m c 2 t) (iblk m c 3 t)

/-- The even and the odd point of the pair `t` belongs to. -/
def evenOf (t : Fin cfg0.N) : Fin cfg0.N := ⟨2 * (t.val / 2), by have := t.isLt; omega⟩
def oddOf (t : Fin cfg0.N) : Fin cfg0.N := ⟨2 * (t.val / 2) + 1, by have : t.val < 64 := lt_of_lt_of_eq t.isLt N_0; exact lt_of_lt_of_eq (show _ < 64 by omega) N_0.symm⟩
theorem evenOf_mod (t : Fin cfg0.N) : (evenOf t).val % 2 = 0 := by show 2 * (t.val / 2) % 2 = 0; omega
theorem oddOf_mod (t : Fin cfg0.N) : (oddOf t).val % 2 = 1 := by show (2 * (t.val / 2) + 1) % 2 = 1; omega

/-- What the two results' buffers hold after a point, where it matters: the queries from the even point of the pair on, the keys
    after the odd point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => qTile m c (evenOf t) (evenOf_mod t)
    | ⟨5, _⟩ => kTile m c (oddOf t) (oddOf_mod t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = qTile m c (evenOf t) (evenOf_mod t) := by dsimp only [dats]
theorem after0_5 (c : Dev nD) (t : Fin cfg0.N) : (dats m 0 c).after 5 t = kTile m c (oddOf t) (oddOf_mod t) := by dsimp only [dats]

theorem qTile_congr (c : Dev nD) {s t : Fin cfg0.N} (h : s = t) (hs : s.val % 2 = 0) (ht : t.val % 2 = 0) : qTile m c s hs = qTile m c t ht := by
  subst h; rfl
theorem kTile_congr (c : Dev nD) {s t : Fin cfg0.N} (h : s = t) (hs : s.val % 2 = 1) (ht : t.val % 2 = 1) : kTile m c s hs = kTile m c t ht := by
  subst h; rfl
theorem after4_even (c : Dev nD) (t : Fin cfg0.N) (h : t.val % 2 = 0) : (dats m 0 c).after 4 t = qTile m c t h :=
  (after0_4 m c t).trans (qTile_congr m c (Fin.ext (show 2 * (t.val / 2) = t.val by omega)) _ _)
theorem after5_odd (c : Dev nD) (t : Fin cfg0.N) (h : t.val % 2 = 1) : (dats m 0 c).after 5 t = kTile m c t h :=
  (after0_5 m c t).trans (kTile_congr m c (Fin.ext (show 2 * (t.val / 2) + 1 = t.val by omega)) _ _)

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- An odd point finds in the queries' buffer the tile the even point before it stored. -/
theorem before4_odd (c : Dev nD) (t : Fin cfg0.N) (h : t.val % 2 = 1) (d) : (dats m 0 c).before 4 t d = (dats m 0 c).after 4 t := by
  have h0 : t.val ≠ 0 := by omega
  have hp : (t.val - 1) % 2 = 0 := by omega
  rw [(dats m 0 c).before_of_pos 4 t h0 rfl d]
  rw [noFlush4 ⟨t.val - 1, Nat.lt_of_le_of_lt (Nat.sub_le _ _) t.isLt⟩ hp]
  rw [if_neg Bool.false_ne_true]
  unfold Dat.left
  rw [live4 ⟨t.val - 1, Nat.lt_of_le_of_lt (Nat.sub_le _ _) t.isLt⟩ hp]
  show (dats m 0 c).after 4 ⟨t.val - 1, Nat.lt_of_le_of_lt (Nat.sub_le _ _) t.isLt⟩ = _
  rw [after0_4, after0_4]
  exact qTile_congr m c (Fin.ext (show 2 * ((t.val - 1) / 2) = 2 * (t.val / 2) by omega)) _ _

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 800000 in
/-- The body at any point: at an even one it stores the queries and hands the keys' buffer back as it found it; at an odd one it
    stores the keys and hands back the queries' buffer, which holds the tile stored at the point before. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  rcases Nat.mod_two_eq_zero_or_one t.val with h | h
  · have hc0 := (hcond0_0 t).mpr h
    have hc1 : ¬cond0_1 (grid0.coords t) := fun h' => by have := (hcond0_1 t).mp h'; omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [live4 t h], after4_even m c t h]
    rw [Dat.leavesExact_idle (dats m 0 c) 5 t (idle5 t h) (noFlush5 t h)]
    unfold qTile out0_A_4
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ hc0 hc1 (iblk m c 0 t) (iblk m c 1 t) (iblk m c 2 t) (iblk m c 3 t)).2 _ Set.univ _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, ⟨%e4, H4⟩, H5⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _ _)
    iexists _; iexact H5
  · have hc0 : ¬cond0_0 (grid0.coords t) := fun h' => by have := (hcond0_0 t).mp h'; omega
    have hc1 := (hcond0_1 t).mpr h
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [idle4 t h, flush4 t h]]
    simp only [before4_odd m c t h]
    rw [show (dats m 0 c).leavesExact 5 t = owns (c : Thread nD τ) (ms0_5 t) fullShare ((dats m 0 c).after 5 t) from by
      unfold Dat.leavesExact; rw [live5 t h], after5_odd m c t h]
    unfold kTile out0_B_5
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ hc0 hc1 (iblk m c 0 t) (iblk m c 1 t) (iblk m c 2 t) (iblk m c 3 t)).2 _ Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_B_5 c _ _ _ _ _ _ _ _ _ _ _ _ _ _ _ _ _ _ _)

/-- The body the launch calls at point `t`. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array ends as the tiles written back make it, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- After the launch both arguments are as given. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- The launch with both results named and both arguments unchanged. -/
theorem run_blocks : θ_run defs (onTc (τ := τ) (main (F := F))) ⟨m, fun _ => 0, ρ⟩ fun r => ∀ c : Dev nD,
      r.2.mem ((c : Thread nD τ).loc main_v1_0) = (dats m 0 c).arrAt 4 cfg0.N
      ∧ r.2.mem ((c : Thread nD τ).loc main_v1_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 4, (h c).1 5, kept_main_arg0 m r h c, kept_main_arg1 m r h c⟩) (run_main m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨kept_main_arg0 m _ h c, kept_main_arg1 m _ h c⟩) (run_main m ρ)

/-- From any memory with its semaphores at zero the program runs to its end, leaves its arguments as given and its semaphores at
    zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel5Ideal.Conv

end
-- ==== Proof.Conv.Kernel.lean ====
/- What the convolution call leaves in its two results, over the extended reals: grid point `(b, i, j)` reads the 1024 positions of
   tile `i` of sequence `b` with the 64 positions before and after them, for half `j` of the channels, and writes the tile of the
   queries or of the keys. -/
module

public import proofs.«01_k».proof.Proof.Conv.Tile
public import proofs.«01_k».proof.Proof.Conv.IdealFrame
public import Idealize.ShloMosaic.Lib.Pipeline.ValueKit
public import Idealize.ShloMosaic.Lib.Claim
public import Idealize.ShloMosaic.Lib.Pointwise

@[expose] public section

set_option maxRecDepth 16384

noncomputable section

namespace Cert.Kernel5Ideal.Conv

open Cert.Kernel5Ideal Cert.Kernel5Ideal.Gen Cert.Conv
open Idealize.ShloMosaic Idealize.ShloMosaic.TcCoe Idealize.ShloMosaic.Tactic

local notation "𝔽" => Idealize.ShloMosaic.Ideal

variable (m : (ℓ : Loc nD τ sig) → Buf (Elt 𝔽) ℓ) (c : Dev nD)

/-- One row of a tile's weights. -/
theorem row_apply (x : S9x512.Idx → EReal) (n : Fin 9) (h : ∀ a, (![n.val, 0] : Fin 2 → ℕ) a + (![1, 512] : Fin 2 → ℕ) a ≤ S9x512.size a) (k : Fin 512) :
    View.ld (Val := Elt 𝔽) (S := S9x512) (e' := .f32) x (Rect.unit (s := S9x512) ![n.val, 0] ![1, 512] h) (ix2 (0 : Fin 1) k) = x (ix2 n k) := by
  refine congrArg x (funext fun d => Fin.ext ?_)
  fin_cases d
  · rfl
  · show 0 + 1 * k.val = k.val; omega

set_option maxHeartbeats 1000000 in
/-- The tile of queries, at an index. -/
theorem qTile_apply (t : Fin cfg0.N) (h : t.val % 2 = 0) (f : Fin 4096 → EReal) (W : Fin 3 → Fin 3 → EReal) (b : ℕ) (p : Fin 1024) (k : Fin 512)
    (hy : ∀ r : Fin 1152, k0_pay4 (grid0.coords t) (iblk m c 0 t) (iblk m c 1 t) (iblk m c 2 t) (ix2 r k) = cell f (b + r.val / 64) (r.val % 64 + 1))
    (hW : ∀ dy dx : Fin 3, (iblk m c 3 t : S9x512.Idx → EReal) (ix2 ⟨3 * dy.val + dx.val, by omega⟩ k) = W dy dx) :
    qTile m c t h (ix3 0 p k) = conv f W (b + p.val / 64) (p.val % 64) * Ideal.logistic (conv f W (b + p.val / 64) (p.val % 64))
      * Scalar.ofBits (F := 𝔽) .f32 0x3E000000#32 := by
  have hz := down_apply (grid0.coords t) (iblk m c 0 t) (iblk m c 1 t) (iblk m c 2 t)
  unfold qTile
  generalize iblk m c 0 t = x0 at hy hz ⊢
  generalize iblk m c 1 t = x1 at hy hz ⊢
  generalize iblk m c 2 t = x2 at hy hz ⊢
  generalize iblk m c 3 t = x3 at hW ⊢
  frame_out
  have e := tile_apply f W b k (k0_pay4 (grid0.coords t) x0 x1 x2) (k0_pay6 (grid0.coords t) x0 x1 x2)
    (View.ld x3 (Rect.unit ![0, 0] ![1, 512] inb_S9x512_S1x512_0_0)) (View.ld x3 (Rect.unit ![1, 0] ![1, 512] inb_S9x512_S1x512_1_0))
    (View.ld x3 (Rect.unit ![2, 0] ![1, 512] inb_S9x512_S1x512_2_0)) (View.ld x3 (Rect.unit ![3, 0] ![1, 512] inb_S9x512_S1x512_3_0))
    (View.ld x3 (Rect.unit ![4, 0] ![1, 512] inb_S9x512_S1x512_4_0)) (View.ld x3 (Rect.unit ![5, 0] ![1, 512] inb_S9x512_S1x512_5_0))
    (View.ld x3 (Rect.unit ![6, 0] ![1, 512] inb_S9x512_S1x512_6_0)) (View.ld x3 (Rect.unit ![7, 0] ![1, 512] inb_S9x512_S1x512_7_0))
    (View.ld x3 (Rect.unit ![8, 0] ![1, 512] inb_S9x512_S1x512_8_0)) hy (fun r => hz r k)
    ((row_apply x3 0 _ k).trans (hW 0 0)) ((row_apply x3 1 _ k).trans (hW 0 1)) ((row_apply x3 2 _ k).trans (hW 0 2))
    ((row_apply x3 3 _ k).trans (hW 1 0)) ((row_apply x3 4 _ k).trans (hW 1 1)) ((row_apply x3 5 _ k).trans (hW 1 2))
    ((row_apply x3 6 _ k).trans (hW 2 0)) ((row_apply x3 7 _ k).trans (hW 2 1)) ((row_apply x3 8 _ k).trans (hW 2 2)) p
  rw [← e]
  unfold k0_pay2
  generalize k0_pay1 (F := 𝔽) _ _ _ _ _ _ _ = y
  pointwise

set_option maxHeartbeats 1000000 in
/-- The tile of keys, at an index. -/
theorem kTile_apply (t : Fin cfg0.N) (h : t.val % 2 = 1) (f : Fin 4096 → EReal) (W : Fin 3 → Fin 3 → EReal) (b : ℕ) (p : Fin 1024) (k : Fin 512)
    (hy : ∀ r : Fin 1152, k0_pay4 (grid0.coords t) (iblk m c 0 t) (iblk m c 1 t) (iblk m c 2 t) (ix2 r k) = cell f (b + r.val / 64) (r.val % 64 + 1))
    (hW : ∀ dy dx : Fin 3, (iblk m c 3 t : S9x512.Idx → EReal) (ix2 ⟨3 * dy.val + dx.val, by omega⟩ k) = W dy dx) :
    kTile m c t h (ix3 0 k p) = conv f W (b + p.val / 64) (p.val % 64) * Ideal.logistic (conv f W (b + p.val / 64) (p.val % 64)) := by
  have hz := down_apply (grid0.coords t) (iblk m c 0 t) (iblk m c 1 t) (iblk m c 2 t)
  unfold kTile
  generalize iblk m c 0 t = x0 at hy hz ⊢
  generalize iblk m c 1 t = x1 at hy hz ⊢
  generalize iblk m c 2 t = x2 at hy hz ⊢
  generalize iblk m c 3 t = x3 at hW ⊢
  frame_out
  have e := tile_apply f W b k (k0_pay4 (grid0.coords t) x0 x1 x2) (k0_pay6 (grid0.coords t) x0 x1 x2)
    (View.ld x3 (Rect.unit ![0, 0] ![1, 512] inb_S9x512_S1x512_0_0)) (View.ld x3 (Rect.unit ![1, 0] ![1, 512] inb_S9x512_S1x512_1_0))
    (View.ld x3 (Rect.unit ![2, 0] ![1, 512] inb_S9x512_S1x512_2_0)) (View.ld x3 (Rect.unit ![3, 0] ![1, 512] inb_S9x512_S1x512_3_0))
    (View.ld x3 (Rect.unit ![4, 0] ![1, 512] inb_S9x512_S1x512_4_0)) (View.ld x3 (Rect.unit ![5, 0] ![1, 512] inb_S9x512_S1x512_5_0))
    (View.ld x3 (Rect.unit ![6, 0] ![1, 512] inb_S9x512_S1x512_6_0)) (View.ld x3 (Rect.unit ![7, 0] ![1, 512] inb_S9x512_S1x512_7_0))
    (View.ld x3 (Rect.unit ![8, 0] ![1, 512] inb_S9x512_S1x512_8_0)) hy (fun r => hz r k)
    ((row_apply x3 0 _ k).trans (hW 0 0)) ((row_apply x3 1 _ k).trans (hW 0 1)) ((row_apply x3 2 _ k).trans (hW 0 2))
    ((row_apply x3 3 _ k).trans (hW 1 0)) ((row_apply x3 4 _ k).trans (hW 1 1)) ((row_apply x3 5 _ k).trans (hW 1 2))
    ((row_apply x3 6 _ k).trans (hW 2 0)) ((row_apply x3 7 _ k).trans (hW 2 1)) ((row_apply x3 8 _ k).trans (hW 2 2)) p
  rw [← e]
  unfold k0_pay3
  generalize k0_pay1 (F := 𝔽) _ _ _ _ _ _ _ = y
  pointwise

/-- The arguments as arrays: the channels to convolve, and the weights. -/
abbrev arg0 : S8x4096x1024.Idx → Elt 𝔽 .bf16 := m ((c.tc : Thread nD τ).loc main_arg0)
abbrev arg1 : S3x3x1024.Idx → Elt 𝔽 .f32 := m ((c.tc : Thread nD τ).loc main_arg1)

/-- The weights the host hands over: row `3 dy + dx`. -/
theorem weights_apply (dy dx : Fin 3) (q : Fin 1024) :
    (V m c main_v0 : S9x1024.Idx → Elt 𝔽 .f32) (ix2 ⟨3 * dy.val + dx.val, by omega⟩ q) = arg1 m c (ix3 dy dx q) := by
  entry_read
  have h1 := dy.isLt; have h2 := dx.isLt; have h3 := q.isLt
  refine shapeCast_apply _ _ _ (ix3 dy dx q) ?_
  refine (Shape.rowMajor_val_three _).trans (Eq.trans ?_ (Shape.rowMajor_val_two (ix2 (⟨3 * dy.val + dx.val, by omega⟩ : Fin 9) q)).symm)
  show (dy.val * 3 + dx.val) * 1024 + q.val = (3 * dy.val + dx.val) * 1024 + q.val
  omega

/-- The tile of a point. -/
theorem coord1 : ∀ t : Fin grid0.N, (grid0.coords t 1).val = t.val / 2 % 4 := by decide +kernel

/-- Which block each window reads or writes at a point. -/
theorem map0 : ∀ (t : Fin grid0.N) (d : Fin 3), cc0_transform_0 (grid0.coords t) d = (![t.val / 8, t.val / 2 % 4, t.val % 2] : Fin 3 → ℕ) d := by decide +kernel
theorem map1 : ∀ (t : Fin grid0.N) (d : Fin 3), cc0_transform_1 (grid0.coords t) d = (![t.val / 8, 16 * (t.val / 2 % 4) - 1, t.val % 2] : Fin 3 → ℕ) d := by decide +kernel
theorem map2 : ∀ (t : Fin grid0.N) (d : Fin 3), cc0_transform_2 (grid0.coords t) d = (![t.val / 8, min (16 * (t.val / 2 % 4) + 16) 63, t.val % 2] : Fin 3 → ℕ) d := by decide +kernel
theorem map3 : ∀ (t : Fin grid0.N) (d : Fin 2), cc0_transform_3 (grid0.coords t) d = (![0, t.val % 2] : Fin 2 → ℕ) d := by decide +kernel
theorem map4 : ∀ (t : Fin grid0.N) (d : Fin 3), cc0_transform_4 (grid0.coords t) d = (![t.val / 8, t.val / 2 % 4, 0] : Fin 3 → ℕ) d := by decide +kernel
theorem map5 : ∀ (t : Fin grid0.N) (d : Fin 3), cc0_transform_5 (grid0.coords t) d = (![t.val / 8, 0, t.val / 2 % 4] : Fin 3 → ℕ) d := by decide +kernel

/-- Where each window's block lies in its array. -/
theorem emb0_val (t : Fin grid0.N) (y : S1x1024x512.Idx) (d : Fin 3) :
    ((win0_0.blk t).view.emb y d : ℕ) = cc0_transform_0 (grid0.coords t) d * (![1, 1024, 512] : Fin 3 → ℕ) d + y d :=
  Pipeline.Window.rect_emb_val win0_0 t y d rfl
theorem emb1_val (t : Fin grid0.N) (y : S1x64x512.Idx) (d : Fin 3) :
    ((win0_1.blk t).view.emb y d : ℕ) = cc0_transform_1 (grid0.coords t) d * (![1, 64, 512] : Fin 3 → ℕ) d + y d :=
  Pipeline.Window.rect_emb_val win0_1 t y d rfl
theorem emb2_val (t : Fin grid0.N) (y : S1x64x512.Idx) (d : Fin 3) :
    ((win0_2.blk t).view.emb y d : ℕ) = cc0_transform_2 (grid0.coords t) d * (![1, 64, 512] : Fin 3 → ℕ) d + y d :=
  Pipeline.Window.rect_emb_val win0_2 t y d rfl
theorem emb3_val (t : Fin grid0.N) (y : S9x512.Idx) (d : Fin 2) :
    ((win0_3.blk t).view.emb y d : ℕ) = cc0_transform_3 (grid0.coords t) d * (![9, 512] : Fin 2 → ℕ) d + y d :=
  Pipeline.Window.rect_emb_val win0_3 t y d rfl
theorem emb4_val (t : Fin grid0.N) (y : S1x1024x512.Idx) (d : Fin 3) :
    ((win0_4.blk t).view.emb y d : ℕ) = cc0_transform_4 (grid0.coords t) d * (![1, 1024, 512] : Fin 3 → ℕ) d + y d :=
  Pipeline.Window.rect_emb_val win0_4 t y d rfl
theorem emb5_val (t : Fin grid0.N) (y : S1x512x1024.Idx) (d : Fin 3) :
    ((win0_5.blk t).view.emb y d : ℕ) = cc0_transform_5 (grid0.coords t) d * (![1, 512, 1024] : Fin 3 → ℕ) d + y d :=
  Pipeline.Window.rect_emb_val win0_5 t y d rfl

/-- A point's sequence, and channel `k` of its half as a channel of the array. -/
abbrev seqOf (t : Fin grid0.N) : Fin 8 := ⟨t.val / 8, by have : t.val < 64 := t.isLt; omega⟩
abbrev chanOf (t : Fin grid0.N) (k : Fin 512) : Fin 1024 := ⟨t.val % 2 * 512 + k.val, by omega⟩

/-- The blocks a point reads, at an index. -/
theorem block0 (t : Fin grid0.N) (r : Fin 1024) (k : Fin 512) :
    (iblk m c 0 t : S1x1024x512.Idx → Elt 𝔽 .bf16) (ix3 0 r k) = arg0 m c (ix3 (seqOf t) ⟨t.val / 2 % 4 * 1024 + r.val, by omega⟩ (chanOf t k)) := by
  refine (congrFun (V_main_arg0 m c) _).trans (congrArg (arg0 m c) (funext fun d => Fin.ext ((emb0_val t _ d).trans ?_)))
  rw [map0]
  fin_cases d
  · show t.val / 8 * 1 + 0 = t.val / 8; omega
  · rfl
  · rfl
theorem block1 (t : Fin grid0.N) (r : Fin 64) (k : Fin 512) :
    (iblk m c 1 t : S1x64x512.Idx → Elt 𝔽 .bf16) (ix3 0 r k) = arg0 m c (ix3 (seqOf t) ⟨(16 * (t.val / 2 % 4) - 1) * 64 + r.val, by omega⟩ (chanOf t k)) := by
  refine (congrFun (V_main_arg0 m c) _).trans (congrArg (arg0 m c) (funext fun d => Fin.ext ((emb1_val t _ d).trans ?_)))
  rw [map1]
  fin_cases d
  · show t.val / 8 * 1 + 0 = t.val / 8; omega
  · rfl
  · rfl
theorem block2 (t : Fin grid0.N) (r : Fin 64) (k : Fin 512) :
    (iblk m c 2 t : S1x64x512.Idx → Elt 𝔽 .bf16) (ix3 0 r k) = arg0 m c (ix3 (seqOf t) ⟨min (16 * (t.val / 2 % 4) + 16) 63 * 64 + r.val, by omega⟩ (chanOf t k)) := by
  refine (congrFun (V_main_arg0 m c) _).trans (congrArg (arg0 m c) (funext fun d => Fin.ext ((emb2_val t _ d).trans ?_)))
  rw [map2]
  fin_cases d
  · show t.val / 8 * 1 + 0 = t.val / 8; omega
  · rfl
  · rfl
theorem block3 (t : Fin grid0.N) (dy dx : Fin 3) (k : Fin 512) :
    (iblk m c 3 t : S9x512.Idx → EReal) (ix2 ⟨3 * dy.val + dx.val, by omega⟩ k) = arg1 m c (ix3 dy dx (chanOf t k)) := by
  refine Eq.trans (congrArg (V m c main_v0) (funext fun d => Fin.ext ((emb3_val t _ d).trans ?_))) (weights_apply m c dy dx (chanOf t k))
  rw [map3]
  fin_cases d
  · show 0 * 9 + (3 * dy.val + dx.val) = 3 * dy.val + dx.val; omega
  · rfl

/-- The rows a point computes from are 18 rows of the bordered grid, row by row. -/
theorem rows_apply (t : Fin grid0.N) (k : Fin 512) (r : Fin 1152) :
    k0_pay4 (F := 𝔽) (grid0.coords t) (iblk m c 0 t) (iblk m c 1 t) (iblk m c 2 t) (ix2 r k)
      = cell (fun p => arg0 m c (ix3 (seqOf t) p (chanOf t k))) (16 * (t.val / 2 % 4) + r.val / 64) (r.val % 64 + 1) := by
  have hr := r.isLt
  have hi : t.val / 2 % 4 < 4 := Nat.mod_lt _ (by decide)
  rw [ext_apply, coord1]
  unfold cell
  by_cases h : r.val < 64
  · rw [dif_pos h]
    by_cases h' : t.val / 2 % 4 = 0
    · rw [if_pos h', dif_neg (by omega)]
    · rw [if_neg h', dif_pos (by omega)]
      refine (block1 m c t ⟨r.val, h⟩ k).trans (congrArg (arg0 m c) (congrArg (ix3 _ · _) (Fin.ext ?_)))
      show (16 * (t.val / 2 % 4) - 1) * 64 + r.val = (16 * (t.val / 2 % 4) + r.val / 64 - 1) * 64 + (r.val % 64 + 1 - 1)
      omega
  · rw [dif_neg h]
    by_cases h2 : r.val < 1088
    · rw [dif_pos h2, dif_pos (by omega)]
      refine (block0 m c t ⟨r.val - 64, by omega⟩ k).trans (congrArg (arg0 m c) (congrArg (ix3 _ · _) (Fin.ext ?_)))
      show t.val / 2 % 4 * 1024 + (r.val - 64) = (16 * (t.val / 2 % 4) + r.val / 64 - 1) * 64 + (r.val % 64 + 1 - 1)
      omega
    · rw [dif_neg h2]
      by_cases h' : t.val / 2 % 4 = 3
      · rw [if_pos h', dif_neg (by omega)]
      · rw [if_neg h', dif_pos (by omega)]
        refine (block2 m c t ⟨r.val - 1088, by omega⟩ k).trans (congrArg (arg0 m c) (congrArg (ix3 _ · _) (Fin.ext ?_)))
        show min (16 * (t.val / 2 % 4) + 16) 63 * 64 + (r.val - 1088) = (16 * (t.val / 2 % 4) + r.val / 64 - 1) * 64 + (r.val % 64 + 1 - 1)
        omega

/-- One entry of a tile is the gated convolution at its position. -/
theorem act_tile (f : Fin 4096 → EReal) (W : Fin 3 → Fin 3 → EReal) (i : ℕ) (p : Fin 1024) :
    conv f W (16 * i + p.val / 64) (p.val % 64) * Ideal.logistic (conv f W (16 * i + p.val / 64) (p.val % 64)) = act f W (i * 1024 + p.val) := by
  unfold act
  rw [show (i * 1024 + p.val) / 64 = 16 * i + p.val / 64 by omega, show (i * 1024 + p.val) % 64 = p.val % 64 by omega]

/-- THE QUERIES: the gated convolution of the first half of the channels, scaled. -/
theorem result4 (G : S8x4096x512.Idx → Elt 𝔽 .bf16)
    (hG : ∀ (n : Fin 8) (l : Fin 4096) (k : Fin 512), G (ix3 n l k) = act (fun p => arg0 m c (ix3 n p ⟨k.val, by omega⟩)) (fun dy dx => arg1 m c (ix3 dy dx ⟨k.val, by omega⟩)) l.val
      * Scalar.ofBits (F := 𝔽) .f32 0x3E000000#32) :
    (dats m 0 c).arrAt 4 cfg0.N = G := by
  refine (dats m 0 c).arrAt_eq_of_covers 4 G (by decide +kernel) fun t hf y => ?_
  have hp : t.val % 2 = 1 := (flush0_4 t).mp hf
  obtain ⟨r, k, rfl⟩ : ∃ (r : Fin 1024) (k : Fin 512), y = ix3 0 r k :=
    ⟨y 1, y 2, funext fun d => by
      fin_cases d
      · exact Subsingleton.elim (α := Fin 1) _ _
      · rfl
      · rfl⟩
  refine Eq.trans (b := qTile m c (evenOf t) (evenOf_mod t) (ix3 0 r k)) (congrFun (after0_4 m c t) _) ?_
  rw [qTile_apply m c (evenOf t) (evenOf_mod t) _ _ _ r k (rows_apply m c (evenOf t) k) (fun dy dx => block3 m c (evenOf t) dy dx k), act_tile]
  have e0 : (evenOf t).val / 2 % 4 = t.val / 2 % 4 := by show 2 * (t.val / 2) / 2 % 4 = t.val / 2 % 4; omega
  have e1 : seqOf (evenOf t) = seqOf t := Fin.ext (by show 2 * (t.val / 2) / 8 = t.val / 8; omega)
  have e2 : chanOf (evenOf t) k = ⟨k.val, by omega⟩ := Fin.ext (by show 2 * (t.val / 2) % 2 * 512 + k.val = k.val; omega)
  rw [e0, e1, e2]
  refine (hG (seqOf t) ⟨t.val / 2 % 4 * 1024 + r.val, by omega⟩ k).symm.trans ?_
  refine congrArg G (funext fun d => Fin.ext (Eq.trans ?_ (emb4_val t _ d).symm))
  rw [map4]
  fin_cases d
  · show t.val / 8 = t.val / 8 * 1 + 0; omega
  · rfl
  · show k.val = 0 * 512 + k.val; omega

/-- THE KEYS: the gated convolution of the second half of the channels, positions and channels exchanged. -/
theorem result5 (G : S8x512x4096.Idx → Elt 𝔽 .bf16)
    (hG : ∀ (n : Fin 8) (k : Fin 512) (l : Fin 4096), G (ix3 n k l) = act (fun p => arg0 m c (ix3 n p ⟨512 + k.val, by omega⟩)) (fun dy dx => arg1 m c (ix3 dy dx ⟨512 + k.val, by omega⟩)) l.val) :
    (dats m 0 c).arrAt 5 cfg0.N = G := by
  refine (dats m 0 c).arrAt_eq_of_covers 5 G (by decide +kernel) fun t hf y => ?_
  have hp : t.val % 2 = 1 := (flush0_5 t).mp hf
  obtain ⟨k, r, rfl⟩ : ∃ (k : Fin 512) (r : Fin 1024), y = ix3 0 k r :=
    ⟨y 1, y 2, funext fun d => by
      fin_cases d
      · exact Subsingleton.elim (α := Fin 1) _ _
      · rfl
      · rfl⟩
  refine Eq.trans (b := kTile m c t hp (ix3 0 k r)) (congrFun (after5_odd m c t hp) _) ?_
  rw [kTile_apply m c t hp _ _ _ r k (rows_apply m c t k) (fun dy dx => block3 m c t dy dx k), act_tile]
  have e2 : chanOf t k = ⟨512 + k.val, by omega⟩ := Fin.ext (by show t.val % 2 * 512 + k.val = 512 + k.val; omega)
  rw [e2]
  refine (hG (seqOf t) k ⟨t.val / 2 % 4 * 1024 + r.val, by omega⟩).symm.trans ?_
  refine congrArg G (funext fun d => Fin.ext (Eq.trans ?_ (emb5_val t _ d).symm))
  rw [map5]
  fin_cases d
  · show t.val / 8 = t.val / 8 * 1 + 0; omega
  · show k.val = 0 * 512 + k.val; omega
  · rfl

end Cert.Kernel5Ideal.Conv

end
-- ==== Proof.Conv.RefGrid.lean ====
/- The plain reference of the convolution: the grid with its border of zeros. -/
module

public import proofs.«01_k».proof.Proof.Conv.Spec
public import proofs.«01_k».proof.Proof.Gen.Reference5Ideal.Read
public import Idealize.ShloMosaic.Lib.Pointwise
public import Idealize.ShloMosaic.Lib.KernelVsHost

@[expose] public section

set_option maxRecDepth 16384

noncomputable section

namespace Cert.Reference5Ideal.Conv

open Cert.Reference5Ideal Cert.Reference5Ideal.Gen Cert.Reference5Ideal.Read Cert.Conv
open Idealize.ShloMosaic Idealize.ShloMosaic.TcCoe Idealize.SL.Sem

local notation "𝔽" => Idealize.ShloMosaic.Ideal

variable (x0 : S8x4096x1024.Idx → Elt 𝔽 .bf16)

/-- The positions of a sequence laid out as a grid. -/
theorem grid_apply (n : Fin 8) (r c : Fin 64) (k : Fin 1024) :
    val_main_v1 (F := 𝔽) x0 (ix4 n r c k) = x0 (ix3 n ⟨r.val * 64 + c.val, by omega⟩ k) := by
  rw [val_main_v1_apply]
  show x0 _ = x0 _
  have hr := r.isLt; have hc := c.isLt; have hk := k.isLt; have hn := n.isLt
  refine congrArg x0 (funext fun d => Fin.ext ?_)
  fin_cases d
  · show (((n.val * 64 + r.val) * 64 + c.val) * 1024 + k.val) / 4194304 = n.val; omega
  · show (((n.val * 64 + r.val) * 64 + c.val) * 1024 + k.val) / 1024 % 4096 = r.val * 64 + c.val; omega
  · show (((n.val * 64 + r.val) * 64 + c.val) * 1024 + k.val) % 1024 = k.val; omega

/-- The grid with its border. -/
theorem pad_apply (n : Fin 8) (r c : Fin 66) (k : Fin 1024) :
    val_main_v2 (F := 𝔽) x0 (ix4 n r c k) = cell (fun p => x0 (ix3 n p k)) r.val c.val := by
  unfold val_main_v2 cell
  by_cases h : 1 ≤ r.val ∧ r.val ≤ 64 ∧ 1 ≤ c.val ∧ c.val ≤ 64
  · rw [dif_pos h]
    refine (pad_apply_of_inside _ _ _ _ _ _ _ _ (ix4 n ⟨r.val - 1, by omega⟩ ⟨c.val - 1, by omega⟩ k) fun d => ?_).trans (grid_apply x0 n _ _ k)
    fin_cases d
    · show n.val = 0 + n.val * (0 + 1); omega
    · show r.val = 1 + (r.val - 1) * (0 + 1); omega
    · show c.val = 1 + (c.val - 1) * (0 + 1); omega
    · show k.val = 0 + k.val * (0 + 1); omega
  · rw [dif_neg h]
    have hr := r.isLt; have hc := c.isLt
    have hz : val_main_call0_v0 (F := 𝔽) (Shape.Idx.first h_S_) = (0 : EReal) := by
      rw [val_main_call0_v0_apply, val_main_c_apply]
      show (((0#32 : BitVec 32).toInt : ℝ) : EReal) = 0
      simp
    by_cases h' : 1 ≤ r.val ∧ r.val ≤ 64
    · refine (pad_apply_of_not_inside _ _ _ _ _ _ _ _ 2 fun hh => ?_).trans hz
      have h1 : 1 ≤ c.val := hh.1
      have h2 : (c.val - 1) / (0 + 1) < 64 := hh.2.2
      omega
    · refine (pad_apply_of_not_inside _ _ _ _ _ _ _ _ 1 fun hh => ?_).trans hz
      have h1 : 1 ≤ r.val := hh.1
      have h2 : (r.val - 1) / (0 + 1) < 64 := hh.2.2
      omega

end Cert.Reference5Ideal.Conv

end
-- ==== Proof.Conv.RefSum.lean ====
/- The plain reference of the convolution: the nine shifted grids, each times its weights, one added to the other. -/
module

public import proofs.«01_k».proof.Proof.Conv.RefGrid

@[expose] public section

set_option maxRecDepth 16384

noncomputable section

namespace Cert.Reference5Ideal.Conv

open Cert.Reference5Ideal Cert.Reference5Ideal.Gen Cert.Reference5Ideal.Read Cert.Conv
open Idealize.ShloMosaic Idealize.ShloMosaic.TcCoe Idealize.SL.Sem

local notation "𝔽" => Idealize.ShloMosaic.Ideal

variable (x0 : S8x4096x1024.Idx → Elt 𝔽 .bf16) (x1 : S3x3x1024.Idx → Elt 𝔽 .f32) (n : Fin 8) (r c : Fin 64) (k : Fin 1024)

/-- One shifted grid times its weights, for each of the nine shifts. -/
theorem tap00 : val_main_v8 (F := 𝔽) x0 x1 (ix4 n r c k) = cell (fun p => x0 (ix3 n p k)) r.val c.val * x1 (ix3 0 0 k) := by
  rw [val_main_v8_apply, val_main_v3_apply, val_main_v7_apply, val_main_v6_apply, val_main_v5_apply, val_main_v4_apply]
  refine congrArg₂ (· * ·) (Eq.trans (congrArg (val_main_v2 (F := 𝔽) x0) (funext fun d => Fin.ext ?_)) (pad_apply x0 n ⟨r.val, by omega⟩ ⟨c.val, by omega⟩ k))
    (congrArg x1 (funext fun d => Fin.ext ?_))
  · fin_cases d
    · rfl
    · first | rfl | exact Nat.add_comm _ _
    · first | rfl | exact Nat.add_comm _ _
    · rfl
  · fin_cases d
    · rfl
    · rfl
    · exact Nat.mod_eq_of_lt k.isLt
theorem tap01 : val_main_v16 (F := 𝔽) x0 x1 (ix4 n r c k) = cell (fun p => x0 (ix3 n p k)) r.val (c.val + 1) * x1 (ix3 0 1 k) := by
  rw [val_main_v16_apply, val_main_v11_apply, val_main_v15_apply, val_main_v14_apply, val_main_v13_apply, val_main_v12_apply]
  refine congrArg₂ (· * ·) (Eq.trans (congrArg (val_main_v2 (F := 𝔽) x0) (funext fun d => Fin.ext ?_)) (pad_apply x0 n ⟨r.val, by omega⟩ ⟨(c.val + 1), by omega⟩ k))
    (congrArg x1 (funext fun d => Fin.ext ?_))
  · fin_cases d
    · rfl
    · first | rfl | exact Nat.add_comm _ _
    · first | rfl | exact Nat.add_comm _ _
    · rfl
  · fin_cases d
    · rfl
    · rfl
    · exact Nat.mod_eq_of_lt k.isLt
theorem tap02 : val_main_v23 (F := 𝔽) x0 x1 (ix4 n r c k) = cell (fun p => x0 (ix3 n p k)) r.val (c.val + 2) * x1 (ix3 0 2 k) := by
  rw [val_main_v23_apply, val_main_v18_apply, val_main_v22_apply, val_main_v21_apply, val_main_v20_apply, val_main_v19_apply]
  refine congrArg₂ (· * ·) (Eq.trans (congrArg (val_main_v2 (F := 𝔽) x0) (funext fun d => Fin.ext ?_)) (pad_apply x0 n ⟨r.val, by omega⟩ ⟨(c.val + 2), by omega⟩ k))
    (congrArg x1 (funext fun d => Fin.ext ?_))
  · fin_cases d
    · rfl
    · first | rfl | exact Nat.add_comm _ _
    · first | rfl | exact Nat.add_comm _ _
    · rfl
  · fin_cases d
    · rfl
    · rfl
    · exact Nat.mod_eq_of_lt k.isLt
theorem tap10 : val_main_v30 (F := 𝔽) x0 x1 (ix4 n r c k) = cell (fun p => x0 (ix3 n p k)) (r.val + 1) c.val * x1 (ix3 1 0 k) := by
  rw [val_main_v30_apply, val_main_v25_apply, val_main_v29_apply, val_main_v28_apply, val_main_v27_apply, val_main_v26_apply]
  refine congrArg₂ (· * ·) (Eq.trans (congrArg (val_main_v2 (F := 𝔽) x0) (funext fun d => Fin.ext ?_)) (pad_apply x0 n ⟨(r.val + 1), by omega⟩ ⟨c.val, by omega⟩ k))
    (congrArg x1 (funext fun d => Fin.ext ?_))
  · fin_cases d
    · rfl
    · first | rfl | exact Nat.add_comm _ _
    · first | rfl | exact Nat.add_comm _ _
    · rfl
  · fin_cases d
    · rfl
    · rfl
    · exact Nat.mod_eq_of_lt k.isLt
theorem tap11 : val_main_v37 (F := 𝔽) x0 x1 (ix4 n r c k) = cell (fun p => x0 (ix3 n p k)) (r.val + 1) (c.val + 1) * x1 (ix3 1 1 k) := by
  rw [val_main_v37_apply, val_main_v32_apply, val_main_v36_apply, val_main_v35_apply, val_main_v34_apply, val_main_v33_apply]
  refine congrArg₂ (· * ·) (Eq.trans (congrArg (val_main_v2 (F := 𝔽) x0) (funext fun d => Fin.ext ?_)) (pad_apply x0 n ⟨(r.val + 1), by omega⟩ ⟨(c.val + 1), by omega⟩ k))
    (congrArg x1 (funext fun d => Fin.ext ?_))
  · fin_cases d
    · rfl
    · first | rfl | exact Nat.add_comm _ _
    · first | rfl | exact Nat.add_comm _ _
    · rfl
  · fin_cases d
    · rfl
    · rfl
    · exact Nat.mod_eq_of_lt k.isLt
theorem tap12 : val_main_v44 (F := 𝔽) x0 x1 (ix4 n r c k) = cell (fun p => x0 (ix3 n p k)) (r.val + 1) (c.val + 2) * x1 (ix3 1 2 k) := by
  rw [val_main_v44_apply, val_main_v39_apply, val_main_v43_apply, val_main_v42_apply, val_main_v41_apply, val_main_v40_apply]
  refine congrArg₂ (· * ·) (Eq.trans (congrArg (val_main_v2 (F := 𝔽) x0) (funext fun d => Fin.ext ?_)) (pad_apply x0 n ⟨(r.val + 1), by omega⟩ ⟨(c.val + 2), by omega⟩ k))
    (congrArg x1 (funext fun d => Fin.ext ?_))
  · fin_cases d
    · rfl
    · first | rfl | exact Nat.add_comm _ _
    · first | rfl | exact Nat.add_comm _ _
    · rfl
  · fin_cases d
    · rfl
    · rfl
    · exact Nat.mod_eq_of_lt k.isLt
theorem tap20 : val_main_v51 (F := 𝔽) x0 x1 (ix4 n r c k) = cell (fun p => x0 (ix3 n p k)) (r.val + 2) c.val * x1 (ix3 2 0 k) := by
  rw [val_main_v51_apply, val_main_v46_apply, val_main_v50_apply, val_main_v49_apply, val_main_v48_apply, val_main_v47_apply]
  refine congrArg₂ (· * ·) (Eq.trans (congrArg (val_main_v2 (F := 𝔽) x0) (funext fun d => Fin.ext ?_)) (pad_apply x0 n ⟨(r.val + 2), by omega⟩ ⟨c.val, by omega⟩ k))
    (congrArg x1 (funext fun d => Fin.ext ?_))
  · fin_cases d
    · rfl
    · first | rfl | exact Nat.add_comm _ _
    · first | rfl | exact Nat.add_comm _ _
    · rfl
  · fin_cases d
    · rfl
    · rfl
    · exact Nat.mod_eq_of_lt k.isLt
theorem tap21 : val_main_v58 (F := 𝔽) x0 x1 (ix4 n r c k) = cell (fun p => x0 (ix3 n p k)) (r.val + 2) (c.val + 1) * x1 (ix3 2 1 k) := by
  rw [val_main_v58_apply, val_main_v53_apply, val_main_v57_apply, val_main_v56_apply, val_main_v55_apply, val_main_v54_apply]
  refine congrArg₂ (· * ·) (Eq.trans (congrArg (val_main_v2 (F := 𝔽) x0) (funext fun d => Fin.ext ?_)) (pad_apply x0 n ⟨(r.val + 2), by omega⟩ ⟨(c.val + 1), by omega⟩ k))
    (congrArg x1 (funext fun d => Fin.ext ?_))
  · fin_cases d
    · rfl
    · first | rfl | exact Nat.add_comm _ _
    · first | rfl | exact Nat.add_comm _ _
    · rfl
  · fin_cases d
    · rfl
    · rfl
    · exact Nat.mod_eq_of_lt k.isLt
theorem tap22 : val_main_v65 (F := 𝔽) x0 x1 (ix4 n r c k) = cell (fun p => x0 (ix3 n p k)) (r.val + 2) (c.val + 2) * x1 (ix3 2 2 k) := by
  rw [val_main_v65_apply, val_main_v60_apply, val_main_v64_apply, val_main_v63_apply, val_main_v62_apply, val_main_v61_apply]
  refine congrArg₂ (· * ·) (Eq.trans (congrArg (val_main_v2 (F := 𝔽) x0) (funext fun d => Fin.ext ?_)) (pad_apply x0 n ⟨(r.val + 2), by omega⟩ ⟨(c.val + 2), by omega⟩ k))
    (congrArg x1 (funext fun d => Fin.ext ?_))
  · fin_cases d
    · rfl
    · first | rfl | exact Nat.add_comm _ _
    · first | rfl | exact Nat.add_comm _ _
    · rfl
  · fin_cases d
    · rfl
    · rfl
    · exact Nat.mod_eq_of_lt k.isLt

/-- The sum starts at zero. -/
theorem start_apply (i : S8x64x64x1024.Idx) : val_main_v9 (F := 𝔽) i = (0 : EReal) := by
  rw [val_main_v9_apply, val_main_cst_apply]
  exact Ideal.ofBits_zero_f32

/-- The sum of the nine. -/
theorem sum_apply :
    val_main_v66 (F := 𝔽) x0 x1 (ix4 n r c k) = conv (fun p => x0 (ix3 n p k)) (fun dy dx => x1 (ix3 dy dx k)) r.val c.val := by
  rw [conv_rows]
  rw [val_main_v66_apply, val_main_v59_apply, val_main_v52_apply, val_main_v45_apply, val_main_v38_apply, val_main_v31_apply, val_main_v24_apply, val_main_v17_apply, val_main_v10_apply]
  rw [tap00, tap01, tap02, tap10, tap11, tap12, tap20, tap21, tap22, start_apply]
  rfl

end Cert.Reference5Ideal.Conv

end
-- ==== Proof.Conv.Reference.lean ====
/- The plain reference of the convolution: it runs, leaves its arguments and every counter as they were, and its two results are, entry
   by entry, the gated convolution – scaled for the queries, with positions and channels exchanged for the keys. -/
module

public import proofs.«01_k».proof.Proof.Conv.RefSum
public import proofs.«01_k».proof.Proof.Gen.Reference5Ideal.Run
public import Idealize.ShloMosaic.Lib.Quiescent

@[expose] public section

set_option maxRecDepth 16384

noncomputable section

namespace Cert.Reference5Ideal.Conv

open Cert.Reference5Ideal Cert.Reference5Ideal.Gen Cert.Reference5Ideal.Read Cert.Conv
open Idealize.ShloMosaic Idealize.ShloMosaic.TcCoe Idealize.SL.Sem

local notation "𝔽" => Idealize.ShloMosaic.Ideal

/-- THE FRAME of the reference. -/
theorem quiescent (m : (ℓ : Loc nD τ sig) → Buf (Elt 𝔽) ℓ) (ρ : Dev nD → PrngReg) :
    θ_run (defs (F := 𝔽)) (onTc (τ := τ) (main (F := 𝔽))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2.2, sem_eq_zero_of_no_sems (by decide) r.2⟩) (Cert.Reference5Ideal.Value.run m ρ)

variable (x0 : S8x4096x1024.Idx → Elt 𝔽 .bf16) (x1 : S3x3x1024.Idx → Elt 𝔽 .f32)

/-- The convolution, its grid read as a sequence again. -/
theorem conv_apply (n : Fin 8) (p : Fin 4096) (k : Fin 1024) :
    val_main_v67 (F := 𝔽) x0 x1 (ix3 n p k) = conv (fun p => x0 (ix3 n p k)) (fun dy dx => x1 (ix3 dy dx k)) (p.val / 64) (p.val % 64) := by
  have hp := p.isLt; have hk := k.isLt; have hn := n.isLt
  rw [val_main_v67_apply]
  have e : idx_main_v67 (ix3 n p k) = ix4 n ⟨p.val / 64, by omega⟩ ⟨p.val % 64, by omega⟩ k := by
    funext d
    refine Fin.ext ?_
    fin_cases d
    · show ((n.val * 4096 + p.val) * 1024 + k.val) / 4194304 = n.val; omega
    · show ((n.val * 4096 + p.val) * 1024 + k.val) / 65536 % 64 = p.val / 64; omega
    · show ((n.val * 4096 + p.val) * 1024 + k.val) / 1024 % 64 = p.val % 64; omega
    · show ((n.val * 4096 + p.val) * 1024 + k.val) % 1024 = k.val; omega
  rw [e]
  exact sum_apply x0 x1 n ⟨p.val / 64, by omega⟩ ⟨p.val % 64, by omega⟩ k

/-- The gated convolution. -/
theorem act_apply (n : Fin 8) (p : Fin 4096) (k : Fin 1024) :
    val_main_v68 (F := 𝔽) x0 x1 (ix3 n p k) = act (fun p => x0 (ix3 n p k)) (fun dy dx => x1 (ix3 dy dx k)) p.val := by
  have e := conv_apply x0 x1 n p k
  unfold act
  rw [← e, val_main_v68_apply, val_main_call1_v5_apply, val_main_call1_v4_apply, val_main_call1_v3_apply, val_main_call1_v2_apply,
    val_main_call1_v1_apply, val_main_call1_v0_apply, val_main_call1_cst_apply, val_main_call1_cst_0_apply]
  generalize val_main_v67 (F := 𝔽) x0 x1 (ix3 n p k) = y
  pointwise [Ideal.logistic]

/-- THE QUERIES, entry by entry. -/
theorem query_apply (n : Fin 8) (p : Fin 4096) (k : Fin 512) :
    val_main_v73 (F := 𝔽) x0 x1 (ix3 n p k)
      = act (fun p => x0 (ix3 n p ⟨k.val, by omega⟩)) (fun dy dx => x1 (ix3 dy dx ⟨k.val, by omega⟩)) p.val * Scalar.ofBits (F := 𝔽) .f32 0x3E000000#32 := by
  have e := act_apply x0 x1 n p ⟨k.val, by omega⟩
  rw [← e, val_main_v73_apply, val_main_v71_apply, val_main_v70_apply, val_main_cst_0_apply, val_main_v69_apply]
  have e' : idx_main_v69 (ix3 n p k) = ix3 n p ⟨k.val, by omega⟩ := by
    funext d
    fin_cases d <;> rfl
  rw [e']
  generalize val_main_v68 (F := 𝔽) x0 x1 (ix3 n p ⟨k.val, by omega⟩) = y
  rfl

/-- THE KEYS, entry by entry. -/
theorem key_apply (n : Fin 8) (k : Fin 512) (p : Fin 4096) :
    val_main_v75 (F := 𝔽) x0 x1 (ix3 n k p)
      = act (fun p => x0 (ix3 n p ⟨512 + k.val, by omega⟩)) (fun dy dx => x1 (ix3 dy dx ⟨512 + k.val, by omega⟩)) p.val := by
  have e := act_apply x0 x1 n p ⟨512 + k.val, by omega⟩
  rw [← e, val_main_v75_apply, val_main_v74_apply, val_main_v72_apply]
  have e' : idx_main_v72 (idx_main_v74 (ix3 n k p)) = ix3 n p ⟨512 + k.val, by omega⟩ := by
    funext d
    fin_cases d <;> rfl
  rw [e']
  generalize val_main_v68 (F := 𝔽) x0 x1 (ix3 n p ⟨512 + k.val, by omega⟩) = y
  rfl

end Cert.Reference5Ideal.Conv

end
-- ==== Proof.Pos.Spec.lean ====
/- The start of a pair's expert, as a word: the entry of the table of starts that the expert's number names, and nought for a number that
   names none. -/
module

public import Idealize.ShloMosaic.PureOps.Reduce
public import Idealize.ShloMosaic.Lib.StableHlo.Predicate

@[expose] public section

namespace Cert.Pos

open Idealize.ShloMosaic

/-- The start of expert `e`. -/
def start (s : ℕ → BitVec 32) (e : BitVec 32) : BitVec 32 := if e.toNat < 32 then s e.toNat else 0#32

/-- The experts below `n` tried one after the other, each match replacing what was kept. -/
def chain (s : ℕ → BitVec 32) (e : BitVec 32) : ℕ → BitVec 32
  | 0 => 0#32
  | n + 1 => Scalar.select (IntOp.cmpi .eq e (BitVec.ofNat 32 n)) (s n) (chain s e n)

theorem cmpi_eq_one_iff (a b : BitVec 32) : IntOp.cmpi .eq a b = 1#1 ↔ a = b := by
  show BitVec.ofBool (a == b) = 1#1 ↔ a = b
  rw [StableHlo.Predicate.ofBool_eq_one_iff, beq_iff_eq]

theorem eq_ofNat_iff (e : BitVec 32) (n : ℕ) (hn : n < 32) : e = BitVec.ofNat 32 n ↔ e.toNat = n := by
  constructor
  · rintro rfl; rw [BitVec.toNat_ofNat]; omega
  · intro h; apply BitVec.eq_of_toNat_eq; rw [BitVec.toNat_ofNat]; omega

theorem chain_eq (s : ℕ → BitVec 32) (e : BitVec 32) : ∀ n, n ≤ 32 → chain s e n = if e.toNat < n then s e.toNat else 0#32
  | 0, _ => by rw [if_neg (by omega)]; rfl
  | n + 1, hn => by
    have ih := chain_eq s e n (by omega)
    have h := (cmpi_eq_one_iff e (BitVec.ofNat 32 n)).trans (eq_ofNat_iff e n (by omega))
    show (if IntOp.cmpi .eq e (BitVec.ofNat 32 n) = 1#1 then s n else chain s e n) = _
    by_cases he : e.toNat = n
    · rw [if_pos (h.2 he), if_pos (by omega), he]
    · rw [if_neg (fun h' => he (h.1 h')), ih]
      by_cases hl : e.toNat < n
      · rw [if_pos hl, if_pos (by omega)]
      · rw [if_neg hl, if_neg (by omega)]

/-- All 32 experts tried. -/
theorem chain_start (s : ℕ → BitVec 32) (e : BitVec 32) : chain s e 32 = start s e := chain_eq s e 32 le_rfl

/-- A wrapping sum of noughts. -/
theorem fold_zero {ι : Type} [DecidableEq ι] (f : ι → BitVec 32) (S : Finset ι) (h : ∀ i ∈ S, f i = 0#32) : S.fold IntOp.addi 0#32 f = 0#32 := by
  induction S using Finset.induction_on with
  | empty => rfl
  | insert a S ha ih =>
    rw [Finset.fold_insert ha, h a (Finset.mem_insert_self a S), ih fun i hi => h i (Finset.mem_insert_of_mem hi)]
    rfl

/-- A wrapping sum with one entry that is not nought. -/
theorem fold_one {ι : Type} [DecidableEq ι] (f : ι → BitVec 32) (S : Finset ι) (a : ι) (ha : a ∈ S) (h : ∀ i ∈ S, i ≠ a → f i = 0#32) :
    S.fold IntOp.addi 0#32 f = f a := by
  rw [← Finset.insert_erase ha, Finset.fold_insert (Finset.notMem_erase a S),
    fold_zero f _ fun i hi => h i (Finset.mem_of_mem_erase hi) (Finset.ne_of_mem_erase hi)]
  exact BitVec.add_zero _

end Cert.Pos
-- ==== Proof.Pos.Kernel.lean ====
/- What the call that places the routed rows leaves in its result: every pair's expert's start, plus the pair's rank. -/
module

public import proofs.«01_k».proof.Proof.Pos.Spec
public import proofs.«01_k».proof.Proof.Gen.Kernel6Ideal.Frame
public import Idealize.ShloMosaic.Lib.Pipeline.ValueKit
public import Idealize.ShloMosaic.Lib.Claim
public import Idealize.ShloMosaic.Lib.Pointwise

@[expose] public section

set_option maxRecDepth 16384

noncomputable section

namespace Cert.Kernel6Ideal.Pos

open Cert.Kernel6Ideal Cert.Kernel6Ideal.Gen Cert.Pos
open Idealize.ShloMosaic Idealize.ShloMosaic.TcCoe Idealize.ShloMosaic.Tactic Idealize.SL.Sem

local notation "𝔽" => Idealize.ShloMosaic.Ideal

variable (m : (ℓ : Loc nD τ sig) → Buf (Elt 𝔽) ℓ) (c : Dev nD)

/-- The table's word for expert `n`. -/
def word (T : S32.Idx → BitVec 32) (n : ℕ) : BitVec 32 := if h : n < 32 then T (ix1 (⟨n, h⟩ : Fin 32)) else 0#32

/-- A word of the table as the body reads it. -/
theorem word_ld (T : TbBuf0 (F := 𝔽) c tbM0_0) (n : ℕ) (h : ∀ a, (![n] : Fin 1 → ℕ) a + (![1] : Fin 1 → ℕ) a ≤ S32.size a)
    (h' : 0 < (⟨1, ![1]⟩ : Shape).numel) :
    View.ld (Val := Elt 𝔽) (S := S32) (e' := .i32) (View.read (Elt 𝔽) (View.whole main_arg0) T) (Rect.unit (s := S32) ![n] ![1] h) (Shape.Idx.first h') = word T n := by
  have hn : n < 32 := h 0
  unfold word
  rw [dif_pos hn]
  refine congrArg T (funext fun d => Fin.ext ?_)
  fin_cases d
  rfl

set_option maxHeartbeats 4000000 in
/-- One tile of the result, at an index. -/
theorem tile_apply (i : grid0.Coords) (arg2 : Memref sig .tc .vmem S8x8192 .i32) (harg2 : arg2.IsWhole) (arg3 : Memref sig .tc .vmem S8x8192 .i32) (harg3 : arg3.IsWhole)
    (arg4 : Memref sig .tc .vmem S8x8192 .i32) (harg4 : arg4.IsWhole) (x0 x1 : Vec 𝔽 S8x8192 .i32) (T : TbBuf0 (F := 𝔽) c tbM0_0) (y : S8x8192.Idx) :
    out0_A_2 c i arg2 harg2 arg3 harg3 arg4 harg4 x0 x1 T y = start (word T) (x0 y) + x1 y := by
  rw [← chain_start]
  frame_out
  simp only [word_ld c T]
  generalize word T = s
  rfl

/-- The arguments as arrays: the experts' starts, the pairs' experts, and their ranks. -/
abbrev arg0 : S32.Idx → BitVec 32 := m ((c.tc : Thread nD τ).loc main_arg0)
abbrev arg1 : S8x32768.Idx → BitVec 32 := m ((c.tc : Thread nD τ).loc main_arg1)
abbrev arg2 : S8x32768.Idx → BitVec 32 := m ((c.tc : Thread nD τ).loc main_arg2)

variable (hO : Ok m)

/-- Which block each window reads or writes at a point. -/
theorem map0 : ∀ (t : Fin grid0.N) (d : Fin 2), cc0_transform_0 (grid0.coords t) d = (![0, t.val] : Fin 2 → ℕ) d := by decide +kernel
theorem map1 : ∀ (t : Fin grid0.N) (d : Fin 2), cc0_transform_1 (grid0.coords t) d = (![0, t.val] : Fin 2 → ℕ) d := by decide +kernel
theorem map2 : ∀ (t : Fin grid0.N) (d : Fin 2), cc0_transform_2 (grid0.coords t) d = (![0, t.val] : Fin 2 → ℕ) d := by decide +kernel

/-- Where each window's block lies in its array. -/
theorem emb0_val (t : Fin grid0.N) (y : S8x8192.Idx) (d : Fin 2) :
    ((((cfgM m hO).win (0 : Fin 3)).blk t).view.emb y d : ℕ) = cc0_transform_0 (grid0.coords t) d * (![8, 8192] : Fin 2 → ℕ) d + y d :=
  Pipeline.Window.rect_emb_val ((cfgM m hO).win (0 : Fin 3)) t y d rfl
theorem emb1_val (t : Fin grid0.N) (y : S8x8192.Idx) (d : Fin 2) :
    ((((cfgM m hO).win (1 : Fin 3)).blk t).view.emb y d : ℕ) = cc0_transform_1 (grid0.coords t) d * (![8, 8192] : Fin 2 → ℕ) d + y d :=
  Pipeline.Window.rect_emb_val ((cfgM m hO).win (1 : Fin 3)) t y d rfl
theorem emb2_val (t : Fin grid0.N) (y : S8x8192.Idx) (d : Fin 2) :
    ((((cfgM m hO).win (2 : Fin 3)).blk t).view.emb y d : ℕ) = cc0_transform_2 (grid0.coords t) d * (![8, 8192] : Fin 2 → ℕ) d + y d :=
  Pipeline.Window.rect_emb_val ((cfgM m hO).win (2 : Fin 3)) t y d rfl

/-- Column `q` of a point's tile as a column of the array. -/
abbrev colOf (t : Fin grid0.N) (q : Fin 8192) : Fin 32768 := ⟨t.val * 8192 + q.val, by have : t.val < 4 := t.isLt; omega⟩

/-- The blocks a point reads, at an index. -/
theorem block0 (t : Fin grid0.N) (n : Fin 8) (q : Fin 8192) :
    (iblk m hO c (0 : Fin 3) t : S8x8192.Idx → BitVec 32) (ix2 n q) = arg1 m c (ix2 n (colOf t q)) := by
  refine congrArg (arg1 m c) (funext fun d => Fin.ext ((emb0_val m hO t _ d).trans ?_))
  rw [map0]
  fin_cases d
  · show 0 * 8 + n.val = n.val; omega
  · rfl
theorem block1 (t : Fin grid0.N) (n : Fin 8) (q : Fin 8192) :
    (iblk m hO c (1 : Fin 3) t : S8x8192.Idx → BitVec 32) (ix2 n q) = arg2 m c (ix2 n (colOf t q)) := by
  refine congrArg (arg2 m c) (funext fun d => Fin.ext ((emb1_val m hO t _ d).trans ?_))
  rw [map1]
  fin_cases d
  · show 0 * 8 + n.val = n.val; omega
  · rfl

/-- Every point's tile is written back: the next point's tile is another one. -/
theorem flush2 (t : Fin grid0.N) : ((cfgM m hO).win (2 : Fin 3)).flush t = true := by
  refine (Pipeline.Window.flush_out ((cfgM m hO).win (2 : Fin 3)) rfl t).2 ?_
  by_cases h : t.val + 1 = grid0.N
  · exact .inl h
  · refine .inr ⟨by have := t.isLt; show t.val + 1 < grid0.N; omega, fun e => ?_⟩
    have e2 : cc0_transform_2 (grid0.coords ⟨t.val + 1, by have := t.isLt; omega⟩) (1 : Fin 2) = cc0_transform_2 (grid0.coords t) (1 : Fin 2) :=
      congrFun e (1 : Fin 2)
    rw [map2, map2] at e2
    exact absurd (show t.val + 1 = t.val from e2) (by omega)

/-- THE ROWS' PLACES: the start of the pair's expert, plus the pair's rank. -/
theorem result2 (G : S8x32768.Idx → BitVec 32)
    (hG : ∀ (n : Fin 8) (q : Fin 32768), G (ix2 n q) = start (word (arg0 m c)) (arg1 m c (ix2 n q)) + arg2 m c (ix2 n q)) :
    (dats m hO 0 c).arrAt (2 : Fin 3) (cfgM m hO).N = G := by
  refine (dats m hO 0 c).arrAt_eq_of_emb (2 : Fin 3) G (fun t _ y => ?_) (fun i => ?_)
  · obtain ⟨n, q, rfl⟩ : ∃ (n : Fin 8) (q : Fin 8192), y = ix2 n q :=
      ⟨y (0 : Fin 2), y (1 : Fin 2), funext fun d => by fin_cases d <;> rfl⟩
    refine Eq.trans (b := outsAt0 m hO c t (ix2 n q)) (congrFun (after0_2 m hO c t) _) ?_
    refine (tile_apply c (grid0.coords t) _ _ _ _ _ _ (iblk m hO c 0 t) (iblk m hO c 1 t) (tbl m 0) (ix2 n q)).trans ?_
    rw [block0 m c hO t n q, block1 m c hO t n q]
    have e : (tbl m 0 : S32.Idx → BitVec 32) = arg0 m c := by
      obtain rfl : c = 0 := Subsingleton.elim _ _
      rfl
    rw [e]
    refine (hG n (colOf t q)).symm.trans (congrArg G (funext fun d => Fin.ext (Eq.trans ?_ (emb2_val m hO t _ d).symm)))
    rw [map2]
    fin_cases d
    · show n.val = 0 * 8 + n.val; omega
    · rfl
  · have h0 : (i (0 : Fin 2)).val < 8 := (i (0 : Fin 2)).isLt
    have h1 : (i (1 : Fin 2)).val < 32768 := (i (1 : Fin 2)).isLt
    have ht : (i (1 : Fin 2)).val / 8192 < 4 := by omega
    let t : Fin grid0.N := ⟨(i (1 : Fin 2)).val / 8192, ht⟩
    refine ⟨t, flush2 m hO t, Finset.mem_map.2 ⟨ix2 (⟨(i (0 : Fin 2)).val, h0⟩ : Fin 8) (⟨(i (1 : Fin 2)).val % 8192, Nat.mod_lt _ (by decide)⟩ : Fin 8192),
      Finset.mem_univ _, funext fun d => Fin.ext ((emb2_val m hO t _ d).trans ?_)⟩⟩
    rw [map2]
    fin_cases d
    · show 0 * 8 + (i (0 : Fin 2)).val = (i (0 : Fin 2)).val; omega
    · show (i (1 : Fin 2)).val / 8192 * 8192 + (i (1 : Fin 2)).val % 8192 = (i (1 : Fin 2)).val; omega

/-- What the call leaves, as its tiles. -/
theorem run_blocks (ρ : Dev nD → PrngReg) : θ_run defs (onTc (τ := τ) (main (F := 𝔽))) ⟨m, fun _ => 0, ρ⟩ fun r => ∀ c : Dev nD,
      r.2.mem ((c.tc : Thread nD τ).loc main_v0) = (dats m hO 0 c).arrAt (2 : Fin 3) (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h.1 c).1 (2 : Fin 3), h.2 c⟩) (θ_run_and (run_main m ρ hO) (unchanged m ρ hO))

end Cert.Kernel6Ideal.Pos

end
-- ==== Proof.Pos.Reference.lean ====
/- The plain reference of the rows' places: it runs, leaves its arguments and every counter as they were, and its result is, entry by
   entry, the start of the pair's expert plus the pair's rank. -/
module

public import proofs.«01_k».proof.Proof.Pos.Spec
public import proofs.«01_k».proof.Proof.Gen.Reference6Ideal.Run
public import proofs.«01_k».proof.Proof.Gen.Reference6Ideal.Read
public import Idealize.ShloMosaic.Lib.Quiescent
public import Idealize.ShloMosaic.Lib.Pointwise

@[expose] public section

set_option maxRecDepth 16384

noncomputable section

namespace Cert.Reference6Ideal.Pos

open Cert.Reference6Ideal Cert.Reference6Ideal.Gen Cert.Reference6Ideal.Read Cert.Pos
open Idealize.ShloMosaic Idealize.ShloMosaic.TcCoe Idealize.SL.Sem

local notation "𝔽" => Idealize.ShloMosaic.Ideal

/-- THE FRAME of the reference. -/
theorem quiescent (m : (ℓ : Loc nD τ sig) → Buf (Elt 𝔽) ℓ) (ρ : Dev nD → PrngReg) :
    θ_run (defs (F := 𝔽)) (onTc (τ := τ) (main (F := 𝔽))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩) (Cert.Reference6Ideal.Value.run m ρ)

variable (x0 : S32.Idx → BitVec 32) (x1 x2 : S8x32768.Idx → BitVec 32)

/-- The entry expert `e` gives to the sum at a pair: its start if the pair is the expert's, nought otherwise. -/
theorem term_apply (s : ℕ → BitVec 32) (hs : ∀ e : Fin 32, s e.val = x0 (ix1 e)) (e : Fin 32) (n : Fin 8) (q : Fin 32768) :
    val_main_v7 (F := 𝔽) x0 x1 (ix3 e n q) = if IntOp.cmpi .eq (x1 (ix2 n q)) (BitVec.ofNat 32 e.val) = 1#1 then s e.val else 0#32 := by
  rw [hs, val_main_v7_apply, val_main_v5_apply, val_main_v3_apply, val_main_v0_apply, val_main_v4_apply, val_main_v2_apply, val_main_v1_apply,
    val_main_call0_v1_apply, val_main_v6_apply, val_main_call0_v2_apply, val_main_call0_v0_apply, val_main_c_apply]
  have e1 : idx_main_v0 (idx_main_v3 (ix3 e n q)) = ix2 n q := by funext d; fin_cases d <;> rfl
  have e2 : idx_main_v6 (idx_main_call0_v1 (ix3 e n q)) = ix1 e := by funext d; fin_cases d; rfl
  rw [e1, e2]
  rfl

/-- THE ROWS' PLACES, entry by entry. -/
theorem out_apply (s : ℕ → BitVec 32) (hs : ∀ e : Fin 32, s e.val = x0 (ix1 e)) (n : Fin 8) (q : Fin 32768) :
    val_main_v9 (F := 𝔽) x0 x1 x2 (ix2 n q) = start s (x1 (ix2 n q)) + x2 (ix2 n q) := by
  rw [val_main_v9_apply]
  refine congrArg (· + x2 (ix2 n q)) ?_
  have hdrop : ∀ i : S32x8x32768.Idx, reducesTo_S32x8x32768_S8x32768_d0.drop i = ix2 n q ↔ i = ix3 (i 0) n q := by
    intro i
    have h0 : (reducesTo_S32x8x32768_S8x32768_d0.drop i 0 : ℕ) = i 1 := Shape.ReducesTo.drop_apply_val reducesTo_S32x8x32768_S8x32768_d0 i 0
    have h1 : (reducesTo_S32x8x32768_S8x32768_d0.drop i 1 : ℕ) = i 2 := Shape.ReducesTo.drop_apply_val reducesTo_S32x8x32768_S8x32768_d0 i 1
    constructor
    · intro h
      rw [h] at h0 h1
      funext d
      fin_cases d
      · rfl
      · exact Fin.ext h0.symm
      · exact Fin.ext h1.symm
    · intro h
      have g1 : (i 1 : ℕ) = n := by rw [h]; rfl
      have g2 : (i 2 : ℕ) = q := by rw [h]; rfl
      funext d
      fin_cases d
      · exact Fin.ext (h0.trans g1)
      · exact Fin.ext (h1.trans g2)
  have hterm := term_apply x0 x1 s hs
  have hiff : ∀ e : Fin 32, IntOp.cmpi .eq (x1 (ix2 n q)) (BitVec.ofNat 32 e.val) = 1#1 ↔ (x1 (ix2 n q)).toNat = e.val :=
    fun e => (cmpi_eq_one_iff _ _).trans (eq_ofNat_iff _ e.val e.isLt)
  unfold val_main_v8
  generalize val_main_v7 (F := 𝔽) x0 x1 = y at hterm ⊢
  rw [Host.reduce_eq_fold]
  show Finset.fold IntOp.addi 0#32 y _ = _
  unfold start
  by_cases he : (x1 (ix2 n q)).toNat < 32
  · rw [if_pos he, fold_one y _ (ix3 ⟨(x1 (ix2 n q)).toNat, he⟩ n q)]
    · rw [hterm, if_pos ((hiff _).2 rfl)]
    · exact Finset.mem_filter.2 ⟨Finset.mem_univ _, (hdrop _).2 rfl⟩
    · intro i hi hne
      have hi' := (hdrop i).1 (Finset.mem_filter.1 hi).2
      refine (congrArg y hi').trans ((hterm (i 0) n q).trans (if_neg fun h => ?_))
      exact hne (hi'.trans (congrArg (ix3 · n q) (Fin.ext ((hiff _).1 h).symm)))
  · rw [if_neg he]
    refine fold_zero y _ fun i hi => ?_
    have hi' := (hdrop i).1 (Finset.mem_filter.1 hi).2
    refine (congrArg y hi').trans ((hterm (i 0) n q).trans (if_neg fun h => ?_))
    exact he (by rw [(hiff _).1 h]; exact (i 0).isLt)

end Cert.Reference6Ideal.Pos

end
-- ==== Proof.lean ====
/- The certificate of six of one layer's calls, the routed experts, the input projection, the mixing of the branches, the modulation,
   the depthwise convolution and the places of the routed rows: each runs, leaves its arguments and every semaphore counter as they were, and computes what its
   plain reference computes. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_tables
public import proofs.«01_k».proof.Proof.Kernel.Tables
public import proofs.«01_k».proof.Proof.KernelIdeal.Value
public import proofs.«01_k».proof.Proof.Reference.Run
public import proofs.«01_k».proof.Proof.Reference.Value
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Frame
public import proofs.«01_k».proof.Proof.Gen.Kernel3.Points
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Frame
public import proofs.«01_k».proof.Proof.Gen.Kernel3Ideal.Value
public import proofs.«01_k».proof.Proof.Gen.Kernel3Ideal.Points
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Proj.Kernel
public import proofs.«01_k».proof.Proof.Proj.Reference
public import proofs.«01_k».proof.Proof.Mix.Kernel
public import proofs.«01_k».proof.Proof.Mix.Reference
public import proofs.«01_k».proof.Proof.Ada.Kernel
public import proofs.«01_k».proof.Proof.Ada.Reference
public import proofs.«01_k».proof.Proof.Conv.BitsFrame
public import proofs.«01_k».proof.Proof.Conv.Kernel
public import proofs.«01_k».proof.Proof.Conv.Reference
public import proofs.«01_k».proof.Proof.Pos.Kernel
public import proofs.«01_k».proof.Proof.Pos.Reference

@[expose] public section

set_option maxRecDepth 16384

noncomputable section

namespace Cert.Proof

open Idealize.ShloMosaic Idealize.SL.Sem

/-- The expert call's result is the reference's: both hold, row by row, the specification's rows. -/
theorem algebraic : Cert.algebraic_KernelIdeal_ReferenceIdeal := by
  intro m g m' g' h hm
  have hg := fun c => Cert.KernelIdeal.Experts.good_of_pre m h c
  refine ⟨fun c => Cert.ReferenceIdeal.Value.res_main_v63 m' c, ?_, ?_⟩
  · refine (θ_run _ _ _).mono (fun r hr c => ?_) (Cert.KernelIdeal.Experts.run_value (Cert.KernelIdeal.Experts.admOf m h) m g (Cert.KernelIdeal.Experts.admOf_holds m h))
    refine ⟨(hr.1 c).1.trans ?_, (hr.1 c).2⟩
    obtain rfl : c = 0 := Subsingleton.elim _ _
    obtain ⟨e0, e1, e2, e3, e4, e5, e6, e7⟩ := hm 0
    have e := Cert.ReferenceIdeal.Read.val_main_v63_eq m' 0
    rw [e0, e1, e2, e3, e4, e5, e6, e7] at e
    exact Cert.KernelIdeal.Experts.result_eq _ m g 0 (hg 0).expert _ fun t p j r hr =>
      (congrFun e _).trans (Cert.ReferenceIdeal.Experts.out_apply _ _ _ _ _ _ _ _ (hg 0).expert t p j r hr)
  · exact (θ_run _ _ _).mono (fun r hr c => hr c) (Cert.ReferenceIdeal.Value.run m' g')

/-- The projection's four results are the reference's: every entry is the same row's product with the same column. -/
theorem algebraic2 : Cert.algebraic_Kernel2Ideal_Reference2Ideal := by
  intro m g m' g' _ hm
  refine ⟨fun c => Cert.Reference2Ideal.Read.val_main_v28 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)),
    fun c => Cert.Reference2Ideal.Read.val_main_v30 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)),
    fun c => Cert.Reference2Ideal.Read.val_main_v31 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)),
    fun c => Cert.Reference2Ideal.Read.val_main_v33 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)), ?_, ?_⟩
  · refine (θ_run _ _ _).mono (fun r hr c => ?_) (Cert.Kernel2Ideal.Value.run_blocks m g)
    obtain ⟨e0, e1, e2, e3, e4, e5⟩ := hm c
    refine ⟨(hr c).1.trans ?_, (hr c).2.1.trans ?_, (hr c).2.2.1.trans ?_, (hr c).2.2.2.1.trans ?_, (hr c).2.2.2.2⟩
    · beta_reduce
      rw [e0, e1, e2, e3, e4]
      exact Cert.Kernel2Ideal.Proj.result7 m c _ fun n l j => Cert.Reference2Ideal.Proj.out0_apply _ _ _ _ _ n l j
    · beta_reduce
      rw [e0, e1, e2, e3, e4]
      exact Cert.Kernel2Ideal.Proj.result8 m c _ fun n l j => Cert.Reference2Ideal.Proj.out1_apply _ _ _ _ _ n l j
    · beta_reduce
      rw [e0, e1, e2, e3, e4]
      exact Cert.Kernel2Ideal.Proj.result9 m c _ fun n q l j => Cert.Reference2Ideal.Proj.out2_apply _ _ _ _ _ n q l j
    · beta_reduce
      rw [e0, e1, e2, e3, e4, e5]
      exact Cert.Kernel2Ideal.Proj.result10 m c _ fun n q l => Cert.Reference2Ideal.Proj.out3_apply _ _ _ _ _ _ n q l
  · exact (θ_run _ _ _).mono (fun r hr c => ⟨(hr c).1.trans (Cert.Reference2Ideal.Read.val_main_v28_eq _ _ _ _ _), (hr c).2.1.trans (Cert.Reference2Ideal.Read.val_main_v30_eq _ _ _ _ _), (hr c).2.2.1.trans (Cert.Reference2Ideal.Read.val_main_v31_eq _ _ _ _ _), (hr c).2.2.2.1.trans (Cert.Reference2Ideal.Read.val_main_v33_eq _ _ _ _ _ _), (hr c).2.2.2.2⟩) (Cert.Reference2Ideal.Value.run m' g')

/-- The mixing's two compared results are the reference's: every row is the same mixed row, and the same row normalized. -/
theorem algebraic3 : Cert.algebraic_Kernel3Ideal_Reference3Ideal := by
  intro m g m' g' _ hm
  refine ⟨fun c => Cert.Reference3Ideal.Read.val_main_v73 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10)) (m' ((c.tc : Thread Cert.Reference3Ideal.nD Cert.Reference3Ideal.τ).loc Cert.Reference3Ideal.main_arg11)),
    fun c => Cert.Reference3Ideal.Read.val_main_v94 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10)) (m' ((c.tc : Thread Cert.Reference3Ideal.nD Cert.Reference3Ideal.τ).loc Cert.Reference3Ideal.main_arg11)), ?_, ?_⟩
  · refine (θ_run _ _ _).mono (fun r hr c => ?_) (Cert.Kernel3Ideal.Value.run_blocks m g)
    obtain ⟨e0, e1, e2, e3, e4, e5, e6, e7, e8, e9, e10, e11, e12, e13⟩ := hm c
    refine ⟨(hr c).1.trans ?_, (hr c).2.1.trans ?_, (hr c).2.2.2.2.2.2⟩
    · beta_reduce
      rw [e0, e1, e2, e3, e4, e5, e7, e8, e9, e10, e11]
      exact Cert.Kernel3Ideal.Mix.result14 m c _ fun n l k => Cert.Reference3Ideal.Mix.out0_apply _ _ _ _ _ _ _ _ _ _ _ n l k
    · beta_reduce
      rw [e0, e1, e2, e3, e4, e5, e6, e7, e8, e9, e10, e11]
      exact Cert.Kernel3Ideal.Mix.result15 m c _ fun n l k => Cert.Reference3Ideal.Mix.out1_apply _ _ _ _ _ _ _ _ _ _ _ _ n l k
  · exact (θ_run _ _ _).mono (fun r hr c => ⟨(hr c).1.trans (Cert.Reference3Ideal.Read.val_main_v73_eq m' c), (hr c).2.1.trans (Cert.Reference3Ideal.Read.val_main_v94_eq m' c), (hr c).2.2⟩) (Cert.Reference3Ideal.Value.run m' g')

/-- The modulation's result is the reference's: every row's gated unit times the weights, plus the bias. -/
theorem algebraic4 : Cert.algebraic_Kernel4Ideal_Reference4Ideal := by
  intro m g m' g' _ hm
  refine ⟨fun c => Cert.Reference4Ideal.Read.val_main_v10 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)), ?_, ?_⟩
  · refine (θ_run _ _ _).mono (fun r hr c => ?_) (Cert.Kernel4Ideal.Value.run_blocks m g)
    obtain ⟨e0, e1, e2, e3⟩ := hm c
    refine ⟨(hr c).1.trans ?_, (hr c).2⟩
    beta_reduce
    rw [e0, e1, e2, e3]
    exact Cert.Kernel4Ideal.Ada.result3 m c _ fun r j => Cert.Reference4Ideal.Ada.out_apply _ _ _ _ r j
  · exact (θ_run _ _ _).mono (fun r hr c => ⟨(hr c).1.trans (Cert.Reference4Ideal.Read.val_main_v10_eq _ _ _ _), (hr c).2⟩) (Cert.Reference4Ideal.Value.run m' g')

/-- The convolution's two results are the reference's: every channel's gated convolution, scaled for the queries, with positions and
    channels exchanged for the keys. -/
theorem algebraic5 : Cert.algebraic_Kernel5Ideal_Reference5Ideal := by
  intro m g m' g' _ hm
  refine ⟨fun c => Cert.Reference5Ideal.Read.val_main_v73 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)),
    fun c => Cert.Reference5Ideal.Read.val_main_v75 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)), ?_, ?_⟩
  · refine (θ_run _ _ _).mono (fun r hr c => ?_) (Cert.Kernel5Ideal.Conv.run_blocks m g)
    obtain ⟨e0, e1⟩ := hm c
    refine ⟨(hr c).1.trans ?_, (hr c).2.1.trans ?_, (hr c).2.2⟩
    · beta_reduce
      rw [e0, e1]
      exact Cert.Kernel5Ideal.Conv.result4 m c _ fun n l k => Cert.Reference5Ideal.Conv.query_apply _ _ n l k
    · beta_reduce
      rw [e0, e1]
      exact Cert.Kernel5Ideal.Conv.result5 m c _ fun n k l => Cert.Reference5Ideal.Conv.key_apply _ _ n k l
  · exact (θ_run _ _ _).mono (fun r hr c => ⟨(hr c).1.trans (Cert.Reference5Ideal.Read.val_main_v73_eq m' c), (hr c).2.1.trans (Cert.Reference5Ideal.Read.val_main_v75_eq m' c), (hr c).2.2⟩) (Cert.Reference5Ideal.Value.run m' g')

/-- The rows' places are the reference's: every pair's expert's start, plus the pair's rank. -/
theorem algebraic6 : Cert.algebraic_Kernel6Ideal_Reference6Ideal := by
  intro m g m' g' _ hm
  refine ⟨fun c => Cert.Reference6Ideal.Read.val_main_v9 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)), ?_, ?_⟩
  · refine (θ_run _ _ _).mono (fun r hr c => ?_) (Cert.Kernel6Ideal.Pos.run_blocks m trivial g)
    obtain ⟨e0, e1, e2⟩ := hm c
    refine ⟨(hr c).1.trans ?_, (hr c).2⟩
    beta_reduce
    rw [e0, e1, e2]
    exact Cert.Kernel6Ideal.Pos.result2 m c trivial _ fun n q =>
      Cert.Reference6Ideal.Pos.out_apply _ _ _ _ (fun e => dif_pos e.isLt) n q
  · exact (θ_run _ _ _).mono (fun r hr c => ⟨(hr c).1.trans (Cert.Reference6Ideal.Read.val_main_v9_eq _ _ _), (hr c).2⟩) (Cert.Reference6Ideal.Value.run m' g')

/-- Every claim of the certificate holds. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Pre_tables.Gen.facts,
    fun m g h => Cert.Kernel.Experts.quiescent m g h,
    fun m g h => Cert.KernelIdeal.Experts.quiescent m g h,
    fun m g _ => Cert.ReferenceIdeal.Experts.quiescent m g,
    fun m g _ => Cert.Kernel2.Gen.frame m g,
    fun m g _ => Cert.Kernel2Ideal.Gen.frame m g,
    fun m g _ => Cert.Reference2Ideal.Proj.quiescent m g,
    fun m g _ => Cert.Kernel3.Gen.frame m g,
    fun m g _ => Cert.Kernel3Ideal.Gen.frame m g,
    fun m g _ => Cert.Reference3Ideal.Mix.quiescent m g,
    fun m g _ => Cert.Kernel4.Gen.frame m g,
    fun m g _ => Cert.Kernel4Ideal.Gen.frame m g,
    fun m g _ => Cert.Reference4Ideal.Ada.quiescent m g,
    fun m g _ => Cert.Kernel5.Conv.frame m g,
    fun m g _ => Cert.Kernel5Ideal.Conv.frame m g,
    fun m g _ => Cert.Reference5Ideal.Conv.quiescent m g,
    fun m g _ => Cert.Kernel6.Gen.frame m g trivial,
    fun m g _ => Cert.Kernel6Ideal.Gen.frame m g trivial,
    fun m g _ => Cert.Reference6Ideal.Pos.quiescent m g,
    trivial,
    algebraic,
    trivial,
    algebraic2,
    trivial,
    algebraic3,
    trivial,
    algebraic4,
    trivial,
    algebraic5,
    trivial,
    algebraic6⟩

end Cert.Proof

end
